-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  IdealRules.named_const.Statement Cert.KernelIdeal.κ "inv_hw" .f32 0x37A72F05#32 ((1 / 50176 : ℝ) : EReal)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v429) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4x96x224x224 : Shape := ⟨4, ![4, 96, 224, 224]⟩
abbrev S96x96x1x1 : Shape := ⟨4, ![96, 96, 1, 1]⟩
abbrev S96 : Shape := ⟨1, ![96]⟩
abbrev S96x1x1x5 : Shape := ⟨4, ![96, 1, 1, 5]⟩
abbrev S96x1x5x1 : Shape := ⟨4, ![96, 1, 5, 1]⟩
abbrev S96x2 : Shape := ⟨2, ![96, 2]⟩
abbrev S96x96 : Shape := ⟨2, ![96, 96]⟩
abbrev S96x1x1x1 : Shape := ⟨4, ![96, 1, 1, 1]⟩
abbrev S_ : Shape := ⟨0, ![]⟩

class Facts : Prop where
  bcast_S_S4x96x224x224 : S_.BroadcastsInDim S4x96x224x224 (![] : Fin 0 → Fin S4x96x224x224.rank)
  reducesTo_S4x96x224x224_S_d0_1_2_3 : S4x96x224x224.ReducesTo [0, 1, 2, 3] S_
  h_S_ : 0 < S_.numel
  bcast_S_S96x96x1x1 : S_.BroadcastsInDim S96x96x1x1 (![] : Fin 0 → Fin S96x96x1x1.rank)
  reducesTo_S96x96x1x1_S_d0_1_2_3 : S96x96x1x1.ReducesTo [0, 1, 2, 3] S_
  bcast_S_S96 : S_.BroadcastsInDim S96 (![] : Fin 0 → Fin S96.rank)
  reducesTo_S96_S_d0 : S96.ReducesTo [0] S_
  bcast_S_S96x1x1x5 : S_.BroadcastsInDim S96x1x1x5 (![] : Fin 0 → Fin S96x1x1x5.rank)
  reducesTo_S96x1x1x5_S_d0_1_2_3 : S96x1x1x5.ReducesTo [0, 1, 2, 3] S_
  bcast_S_S96x1x5x1 : S_.BroadcastsInDim S96x1x5x1 (![] : Fin 0 → Fin S96x1x5x1.rank)
  reducesTo_S96x1x5x1_S_d0_1_2_3 : S96x1x5x1.ReducesTo [0, 1, 2, 3] S_
  bcast_S_S96x2 : S_.BroadcastsInDim S96x2 (![] : Fin 0 → Fin S96x2.rank)
  reducesTo_S96x2_S_d0_1 : S96x2.ReducesTo [0, 1] S_
  bcast_S_S96x96 : S_.BroadcastsInDim S96x96 (![] : Fin 0 → Fin S96x96.rank)
  reducesTo_S96x96_S_d0_1 : S96x96.ReducesTo [0, 1] S_
  bcast_S_S96x1x1x1 : S_.BroadcastsInDim S96x1x1x1 (![] : Fin 0 → Fin S96x1x1x1.rank)
  reducesTo_S96x1x1x1_S_d0_1_2_3 : S96x1x1x1.ReducesTo [0, 1, 2, 3] S_

variable [Facts]

def fn_part8 {F : FTy → Type} [FloatOps F] (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) (main_v83 : IVec S_ 1) (main_v87 : IVec S_ 1) (main_v91 : IVec S_ 1) (main_v95 : IVec S_ 1) (main_v99 : IVec S_ 1) (main_v103 : IVec S_ 1) (main_v107 : IVec S_ 1) (main_v111 : IVec S_ 1) (main_v115 : IVec S_ 1) (main_v119 : IVec S_ 1) (main_v123 : IVec S_ 1) (main_v129 : IVec S_ 1) : IVec S_ 1 :=
  let main_v130 : IVec S_ 1 := andi main_v129 main_v31
  let main_v131 : IVec S_ 1 := andi main_v130 main_v35
  let main_v132 : IVec S_ 1 := andi main_v131 main_v39
  let main_v133 : IVec S_ 1 := andi main_v132 main_v43
  let main_v134 : IVec S_ 1 := andi main_v133 main_v47
  let main_v135 : IVec S_ 1 := andi main_v134 main_v51
  let main_v136 : IVec S_ 1 := andi main_v135 main_v55
  let main_v137 : IVec S_ 1 := andi main_v136 main_v59
  let main_v138 : IVec S_ 1 := andi main_v137 main_v63
  let main_v139 : IVec S_ 1 := andi main_v138 main_v67
  let main_v140 : IVec S_ 1 := andi main_v139 main_v71
  let main_v141 : IVec S_ 1 := andi main_v140 main_v75
  let main_v142 : IVec S_ 1 := andi main_v141 main_v79
  let main_v143 : IVec S_ 1 := andi main_v142 main_v83
  let main_v144 : IVec S_ 1 := andi main_v143 main_v87
  let main_v145 : IVec S_ 1 := andi main_v144 main_v91
  let main_v146 : IVec S_ 1 := andi main_v145 main_v95
  let main_v147 : IVec S_ 1 := andi main_v146 main_v99
  let main_v148 : IVec S_ 1 := andi main_v147 main_v103
  let main_v149 : IVec S_ 1 := andi main_v148 main_v107
  let main_v150 : IVec S_ 1 := andi main_v149 main_v111
  let main_v151 : IVec S_ 1 := andi main_v150 main_v115
  let main_v152 : IVec S_ 1 := andi main_v151 main_v119
  let main_v153 : IVec S_ 1 := andi main_v152 main_v123
  main_v153

def fn_part7 {F : FTy → Type} [FloatOps F] (main_arg28 : FVec F S96 .f32) (main_arg29 : FVec F S96 .f32) (main_arg30 : FVec F S96 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) (main_v83 : IVec S_ 1) (main_v87 : IVec S_ 1) (main_v91 : IVec S_ 1) (main_v95 : IVec S_ 1) (main_v99 : IVec S_ 1) (main_v103 : IVec S_ 1) (main_v107 : IVec S_ 1) (main_v111 : IVec S_ 1) : IVec S_ 1 :=
  let main_v112 : FVec F S96 .f32 := Host.absf main_arg28
  let main_cst_54 : FVec F S_ .f32 := constant S_ .f32 0x7F7FFFFF#32
  let main_v113 : FVec F S96 .f32 := broadcastInDim S96 ![] bcast_S_S96 main_cst_54
  let main_v114 : IVec S96 1 := cmpf .ole main_v112 main_v113
  let main_c_55 : IVec S_ 1 := constantI S_ 1 1#1
  let main_v115 : IVec S_ 1 := (fun x v => Host.reduce IntOp.andi x v reducesTo_S96_S_d0 h_S_) main_v114 main_c_55
  let main_v116 : FVec F S96 .f32 := Host.absf main_arg29
  let main_cst_56 : FVec F S_ .f32 := constant S_ .f32 0x7F7FFFFF#32
  let main_v117 : FVec F S96 .f32 := broadcastInDim S96 ![] bcast_S_S96 main_cst_56
  let main_v118 : IVec S96 1 := cmpf .ole main_v116 main_v117
  let main_c_57 : IVec S_ 1 := constantI S_ 1 1#1
  let main_v119 : IVec S_ 1 := (fun x v => Host.reduce IntOp.andi x v reducesTo_S96_S_d0 h_S_) main_v118 main_c_57
  let main_v120 : FVec F S96 .f32 := Host.absf main_arg30
  let main_cst_58 : FVec F S_ .f32 := constant S_ .f32 0x7F7FFFFF#32
  let main_v121 : FVec F S96 .f32 := broadcastInDim S96 ![] bcast_S_S96 main_cst_58
  let main_v122 : IVec S96 1 := cmpf .ole main_v120 main_v121
  let main_c_59 : IVec S_ 1 := constantI S_ 1 1#1
  let main_v123 : IVec S_ 1 := (fun x v => Host.reduce IntOp.andi x v reducesTo_S96_S_d0 h_S_) main_v122 main_c_59
  let main_v124 : IVec S_ 1 := andi main_v3 main_v7
  let main_v125 : IVec S_ 1 := andi main_v124 main_v11
  let main_v126 : IVec S_ 1 := andi main_v125 main_v15
  let main_v127 : IVec S_ 1 := andi main_v126 main_v19
  let main_v128 : IVec S_ 1 := andi main_v127 main_v23
  let main_v129 : IVec S_ 1 := andi main_v128 main_v27
  fn_part8 (F := F) main_v31 main_v35 main_v39 main_v43 main_v47 main_v51 main_v55 main_v59 main_v63 main_v67 main_v71 main_v75 main_v79 main_v83 main_v87 main_v91 main_v95 main_v99 main_v103 main_v107 main_v111 main_v115 main_v119 main_v123 main_v129

def fn_part6 {F : FTy → Type} [FloatOps F] (main_arg24 : FVec F S96x96 .f32) (main_arg25 : FVec F S96 .f32) (main_arg26 : FVec F S96x1x1x1 .f32) (main_arg27 : FVec F S96 .f32) (main_arg28 : FVec F S96 .f32) (main_arg29 : FVec F S96 .f32) (main_arg30 : FVec F S96 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) (main_v83 : IVec S_ 1) (main_v87 : IVec S_ 1) (main_v91 : IVec S_ 1) (main_v95 : IVec S_ 1) : IVec S_ 1 :=
  let main_v96 : FVec F S96x96 .f32 := Host.absf main_arg24
  let main_cst_46 : FVec F S_ .f32 := constant S_ .f32 0x7F7FFFFF#32
  let main_v97 : FVec F S96x96 .f32 := broadcastInDim S96x96 ![] bcast_S_S96x96 main_cst_46
  let main_v98 : IVec S96x96 1 := cmpf .ole main_v96 main_v97
  let main_c_47 : IVec S_ 1 := constantI S_ 1 1#1
  let main_v99 : IVec S_ 1 := (fun x v => Host.reduce IntOp.andi x v reducesTo_S96x96_S_d0_1 h_S_) main_v98 main_c_47
  let main_v100 : FVec F S96 .f32 := Host.absf main_arg25
  let main_cst_48 : FVec F S_ .f32 := constant S_ .f32 0x7F7FFFFF#32
  let main_v101 : FVec F S96 .f32 := broadcastInDim S96 ![] bcast_S_S96 main_cst_48
  let main_v102 : IVec S96 1 := cmpf .ole main_v100 main_v101
  let main_c_49 : IVec S_ 1 := constantI S_ 1 1#1
  let main_v103 : IVec S_ 1 := (fun x v => Host.reduce IntOp.andi x v reducesTo_S96_S_d0 h_S_) main_v102 main_c_49
  let main_v104 : FVec F S96x1x1x1 .f32 := Host.absf main_arg26
  let main_cst_50 : FVec F S_ .f32 := constant S_ .f32 0x7F7FFFFF#32
  let main_v105 : FVec F S96x1x1x1 .f32 := broadcastInDim S96x1x1x1 ![] bcast_S_S96x1x1x1 main_cst_50
  let main_v106 : IVec S96x1x1x1 1 := cmpf .ole main_v104 main_v105
  let main_c_51 : IVec S_ 1 := constantI S_ 1 1#1
  let main_v107 : IVec S_ 1 := (fun x v => Host.reduce IntOp.andi x v reducesTo_S96x1x1x1_S_d0_1_2_3 h_S_) main_v106 main_c_51
  let main_v108 : FVec F S96 .f32 := Host.absf main_arg27
  let main_cst_52 : FVec F S_ .f32 := constant S_ .f32 0x7F7FFFFF#32
  let main_v109 : FVec F S96 .f32 := broadcastInDim S96 ![] bcast_S_S96 main_cst_52
  let main_v110 : IVec S96 1 := cmpf .ole main_v108 main_v109
  let main_c_53 : IVec S_ 1 := constantI S_ 1 1#1
  let main_v111 : IVec S_ 1 := (fun x v => Host.reduce IntOp.andi x v reducesTo_S96_S_d0 h_S_) main_v110 main_c_53
  fn_part7 (F := F) main_arg28 main_arg29 main_arg30 main_v3 main_v7 main_v11 main_v15 main_v19 main_v23 main_v27 main_v31 main_v35 main_v39 main_v43 main_v47 main_v51 main_v55 main_v59 main_v63 main_v67 main_v71 main_v75 main_v79 main_v83 main_v87 main_v91 main_v95 main_v99 main_v103 main_v107 main_v111

def fn_part5 {F : FTy → Type} [FloatOps F] (main_arg20 : FVec F S96x96 .f32) (main_arg21 : FVec F S96 .f32) (main_arg22 : FVec F S96x96 .f32) (main_arg23 : FVec F S96 .f32) (main_arg24 : FVec F S96x96 .f32) (main_arg25 : FVec F S96 .f32) (main_arg26 : FVec F S96x1x1x1 .f32) (main_arg27 : FVec F S96 .f32) (main_arg28 : FVec F S96 .f32) (main_arg29 : FVec F S96 .f32) (main_arg30 : FVec F S96 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) : IVec S_ 1 :=
  let main_v80 : FVec F S96x96 .f32 := Host.absf main_arg20
  let main_cst_38 : FVec F S_ .f32 := constant S_ .f32 0x7F7FFFFF#32
  let main_v81 : FVec F S96x96 .f32 := broadcastInDim S96x96 ![] bcast_S_S96x96 main_cst_38
  let main_v82 : IVec S96x96 1 := cmpf .ole main_v80 main_v81
  let main_c_39 : IVec S_ 1 := constantI S_ 1 1#1
  let main_v83 : IVec S_ 1 := (fun x v => Host.reduce IntOp.andi x v reducesTo_S96x96_S_d0_1 h_S_) main_v82 main_c_39
  let main_v84 : FVec F S96 .f32 := Host.absf main_arg21
  let main_cst_40 : FVec F S_ .f32 := constant S_ .f32 0x7F7FFFFF#32
  let main_v85 : FVec F S96 .f32 := broadcastInDim S96 ![] bcast_S_S96 main_cst_40
  let main_v86 : IVec S96 1 := cmpf .ole main_v84 main_v85
  let main_c_41 : IVec S_ 1 := constantI S_ 1 1#1
  let main_v87 : IVec S_ 1 := (fun x v => Host.reduce IntOp.andi x v reducesTo_S96_S_d0 h_S_) main_v86 main_c_41
  let main_v88 : FVec F S96x96 .f32 := Host.absf main_arg22
  let main_cst_42 : FVec F S_ .f32 := constant S_ .f32 0x7F7FFFFF#32
  let main_v89 : FVec F S96x96 .f32 := broadcastInDim S96x96 ![] bcast_S_S96x96 main_cst_42
  let main_v90 : IVec S96x96 1 := cmpf .ole main_v88 main_v89
  let main_c_43 : IVec S_ 1 := constantI S_ 1 1#1
  let main_v91 : IVec S_ 1 := (fun x v => Host.reduce IntOp.andi x v reducesTo_S96x96_S_d0_1 h_S_) main_v90 main_c_43
  let main_v92 : FVec F S96 .f32 := Host.absf main_arg23
  let main_cst_44 : FVec F S_ .f32 := constant S_ .f32 0x7F7FFFFF#32
  let main_v93 : FVec F S96 .f32 := broadcastInDim S96 ![] bcast_S_S96 main_cst_44
  let main_v94 : IVec S96 1 := cmpf .ole main_v92 main_v93
  let main_c_45 : IVec S_ 1 := constantI S_ 1 1#1
  let main_v95 : IVec S_ 1 := (fun x v => Host.reduce IntOp.andi x v reducesTo_S96_S_d0 h_S_) main_v94 main_c_45
  fn_part6 (F := F) main_arg24 main_arg25 main_arg26 main_arg27 main_arg28 main_arg29 main_arg30 main_v3 main_v7 main_v11 main_v15 main_v19 main_v23 main_v27 main_v31 main_v35 main_v39 main_v43 main_v47 main_v51 main_v55 main_v59 main_v63 main_v67 main_v71 main_v75 main_v79 main_v83 main_v87 main_v91 main_v95

def fn_part4 {F : FTy → Type} [FloatOps F] (main_arg16 : FVec F S96 .f32) (main_arg17 : FVec F S96 .f32) (main_arg18 : FVec F S96x2 .f32) (main_arg19 : FVec F S96 .f32) (main_arg20 : FVec F S96x96 .f32) (main_arg21 : FVec F S96 .f32) (main_arg22 : FVec F S96x96 .f32) (main_arg23 : FVec F S96 .f32) (main_arg24 : FVec F S96x96 .f32) (main_arg25 : FVec F S96 .f32) (main_arg26 : FVec F S96x1x1x1 .f32) (main_arg27 : FVec F S96 .f32) (main_arg28 : FVec F S96 .f32) (main_arg29 : FVec F S96 .f32) (main_arg30 : FVec F S96 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : FVec F S96 .f32 := Host.absf main_arg16
  let main_cst_30 : FVec F S_ .f32 := constant S_ .f32 0x7F7FFFFF#32
  let main_v65 : FVec F S96 .f32 := broadcastInDim S96 ![] bcast_S_S96 main_cst_30
  let main_v66 : IVec S96 1 := cmpf .ole main_v64 main_v65
  let main_c_31 : IVec S_ 1 := constantI S_ 1 1#1
  let main_v67 : IVec S_ 1 := (fun x v => Host.reduce IntOp.andi x v reducesTo_S96_S_d0 h_S_) main_v66 main_c_31
  let main_v68 : FVec F S96 .f32 := Host.absf main_arg17
  let main_cst_32 : FVec F S_ .f32 := constant S_ .f32 0x7F7FFFFF#32
  let main_v69 : FVec F S96 .f32 := broadcastInDim S96 ![] bcast_S_S96 main_cst_32
  let main_v70 : IVec S96 1 := cmpf .ole main_v68 main_v69
  let main_c_33 : IVec S_ 1 := constantI S_ 1 1#1
  let main_v71 : IVec S_ 1 := (fun x v => Host.reduce IntOp.andi x v reducesTo_S96_S_d0 h_S_) main_v70 main_c_33
  let main_v72 : FVec F S96x2 .f32 := Host.absf main_arg18
  let main_cst_34 : FVec F S_ .f32 := constant S_ .f32 0x7F7FFFFF#32
  let main_v73 : FVec F S96x2 .f32 := broadcastInDim S96x2 ![] bcast_S_S96x2 main_cst_34
  let main_v74 : IVec S96x2 1 := cmpf .ole main_v72 main_v73
  let main_c_35 : IVec S_ 1 := constantI S_ 1 1#1
  let main_v75 : IVec S_ 1 := (fun x v => Host.reduce IntOp.andi x v reducesTo_S96x2_S_d0_1 h_S_) main_v74 main_c_35
  let main_v76 : FVec F S96 .f32 := Host.absf main_arg19
  let main_cst_36 : FVec F S_ .f32 := constant S_ .f32 0x7F7FFFFF#32
  let main_v77 : FVec F S96 .f32 := broadcastInDim S96 ![] bcast_S_S96 main_cst_36
  let main_v78 : IVec S96 1 := cmpf .ole main_v76 main_v77
  let main_c_37 : IVec S_ 1 := constantI S_ 1 1#1
  let main_v79 : IVec S_ 1 := (fun x v => Host.reduce IntOp.andi x v reducesTo_S96_S_d0 h_S_) main_v78 main_c_37
  fn_part5 (F := F) main_arg20 main_arg21 main_arg22 main_arg23 main_arg24 main_arg25 main_arg26 main_arg27 main_arg28 main_arg29 main_arg30 main_v3 main_v7 main_v11 main_v15 main_v19 main_v23 main_v27 main_v31 main_v35 main_v39 main_v43 main_v47 main_v51 main_v55 main_v59 main_v63 main_v67 main_v71 main_v75 main_v79

def fn_part3 {F : FTy → Type} [FloatOps F] (main_arg12 : FVec F S96 .f32) (main_arg13 : FVec F S96 .f32) (main_arg14 : FVec F S96x1x5x1 .f32) (main_arg15 : FVec F S96 .f32) (main_arg16 : FVec F S96 .f32) (main_arg17 : FVec F S96 .f32) (main_arg18 : FVec F S96x2 .f32) (main_arg19 : FVec F S96 .f32) (main_arg20 : FVec F S96x96 .f32) (main_arg21 : FVec F S96 .f32) (main_arg22 : FVec F S96x96 .f32) (main_arg23 : FVec F S96 .f32) (main_arg24 : FVec F S96x96 .f32) (main_arg25 : FVec F S96 .f32) (main_arg26 : FVec F S96x1x1x1 .f32) (main_arg27 : FVec F S96 .f32) (main_arg28 : FVec F S96 .f32) (main_arg29 : FVec F S96 .f32) (main_arg30 : FVec F S96 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S96 .f32 := Host.absf main_arg12
  let main_cst_22 : FVec F S_ .f32 := constant S_ .f32 0x7F7FFFFF#32
  let main_v49 : FVec F S96 .f32 := broadcastInDim S96 ![] bcast_S_S96 main_cst_22
  let main_v50 : IVec S96 1 := cmpf .ole main_v48 main_v49
  let main_c_23 : IVec S_ 1 := constantI S_ 1 1#1
  let main_v51 : IVec S_ 1 := (fun x v => Host.reduce IntOp.andi x v reducesTo_S96_S_d0 h_S_) main_v50 main_c_23
  let main_v52 : FVec F S96 .f32 := Host.absf main_arg13
  let main_cst_24 : FVec F S_ .f32 := constant S_ .f32 0x7F7FFFFF#32
  let main_v53 : FVec F S96 .f32 := broadcastInDim S96 ![] bcast_S_S96 main_cst_24
  let main_v54 : IVec S96 1 := cmpf .ole main_v52 main_v53
  let main_c_25 : IVec S_ 1 := constantI S_ 1 1#1
  let main_v55 : IVec S_ 1 := (fun x v => Host.reduce IntOp.andi x v reducesTo_S96_S_d0 h_S_) main_v54 main_c_25
  let main_v56 : FVec F S96x1x5x1 .f32 := Host.absf main_arg14
  let main_cst_26 : FVec F S_ .f32 := constant S_ .f32 0x7F7FFFFF#32
  let main_v57 : FVec F S96x1x5x1 .f32 := broadcastInDim S96x1x5x1 ![] bcast_S_S96x1x5x1 main_cst_26
  let main_v58 : IVec S96x1x5x1 1 := cmpf .ole main_v56 main_v57
  let main_c_27 : IVec S_ 1 := constantI S_ 1 1#1
  let main_v59 : IVec S_ 1 := (fun x v => Host.reduce IntOp.andi x v reducesTo_S96x1x5x1_S_d0_1_2_3 h_S_) main_v58 main_c_27
  let main_v60 : FVec F S96 .f32 := Host.absf main_arg15
  let main_cst_28 : FVec F S_ .f32 := constant S_ .f32 0x7F7FFFFF#32
  let main_v61 : FVec F S96 .f32 := broadcastInDim S96 ![] bcast_S_S96 main_cst_28
  let main_v62 : IVec S96 1 := cmpf .ole main_v60 main_v61
  let main_c_29 : IVec S_ 1 := constantI S_ 1 1#1
  let main_v63 : IVec S_ 1 := (fun x v => Host.reduce IntOp.andi x v reducesTo_S96_S_d0 h_S_) main_v62 main_c_29
  fn_part4 (F := F) main_arg16 main_arg17 main_arg18 main_arg19 main_arg20 main_arg21 main_arg22 main_arg23 main_arg24 main_arg25 main_arg26 main_arg27 main_arg28 main_arg29 main_arg30 main_v3 main_v7 main_v11 main_v15 main_v19 main_v23 main_v27 main_v31 main_v35 main_v39 main_v43 main_v47 main_v51 main_v55 main_v59 main_v63

def fn_part2 {F : FTy → Type} [FloatOps F] (main_arg8 : FVec F S96 .f32) (main_arg9 : FVec F S96 .f32) (main_arg10 : FVec F S96x1x1x5 .f32) (main_arg11 : FVec F S96 .f32) (main_arg12 : FVec F S96 .f32) (main_arg13 : FVec F S96 .f32) (main_arg14 : FVec F S96x1x5x1 .f32) (main_arg15 : FVec F S96 .f32) (main_arg16 : FVec F S96 .f32) (main_arg17 : FVec F S96 .f32) (main_arg18 : FVec F S96x2 .f32) (main_arg19 : FVec F S96 .f32) (main_arg20 : FVec F S96x96 .f32) (main_arg21 : FVec F S96 .f32) (main_arg22 : FVec F S96x96 .f32) (main_arg23 : FVec F S96 .f32) (main_arg24 : FVec F S96x96 .f32) (main_arg25 : FVec F S96 .f32) (main_arg26 : FVec F S96x1x1x1 .f32) (main_arg27 : FVec F S96 .f32) (main_arg28 : FVec F S96 .f32) (main_arg29 : FVec F S96 .f32) (main_arg30 : FVec F S96 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S96 .f32 := Host.absf main_arg8
  let main_cst_14 : FVec F S_ .f32 := constant S_ .f32 0x7F7FFFFF#32
  let main_v33 : FVec F S96 .f32 := broadcastInDim S96 ![] bcast_S_S96 main_cst_14
  let main_v34 : IVec S96 1 := cmpf .ole main_v32 main_v33
  let main_c_15 : IVec S_ 1 := constantI S_ 1 1#1
  let main_v35 : IVec S_ 1 := (fun x v => Host.reduce IntOp.andi x v reducesTo_S96_S_d0 h_S_) main_v34 main_c_15
  let main_v36 : FVec F S96 .f32 := Host.absf main_arg9
  let main_cst_16 : FVec F S_ .f32 := constant S_ .f32 0x7F7FFFFF#32
  let main_v37 : FVec F S96 .f32 := broadcastInDim S96 ![] bcast_S_S96 main_cst_16
  let main_v38 : IVec S96 1 := cmpf .ole main_v36 main_v37
  let main_c_17 : IVec S_ 1 := constantI S_ 1 1#1
  let main_v39 : IVec S_ 1 := (fun x v => Host.reduce IntOp.andi x v reducesTo_S96_S_d0 h_S_) main_v38 main_c_17
  let main_v40 : FVec F S96x1x1x5 .f32 := Host.absf main_arg10
  let main_cst_18 : FVec F S_ .f32 := constant S_ .f32 0x7F7FFFFF#32
  let main_v41 : FVec F S96x1x1x5 .f32 := broadcastInDim S96x1x1x5 ![] bcast_S_S96x1x1x5 main_cst_18
  let main_v42 : IVec S96x1x1x5 1 := cmpf .ole main_v40 main_v41
  let main_c_19 : IVec S_ 1 := constantI S_ 1 1#1
  let main_v43 : IVec S_ 1 := (fun x v => Host.reduce IntOp.andi x v reducesTo_S96x1x1x5_S_d0_1_2_3 h_S_) main_v42 main_c_19
  let main_v44 : FVec F S96 .f32 := Host.absf main_arg11
  let main_cst_20 : FVec F S_ .f32 := constant S_ .f32 0x7F7FFFFF#32
  let main_v45 : FVec F S96 .f32 := broadcastInDim S96 ![] bcast_S_S96 main_cst_20
  let main_v46 : IVec S96 1 := cmpf .ole main_v44 main_v45
  let main_c_21 : IVec S_ 1 := constantI S_ 1 1#1
  let main_v47 : IVec S_ 1 := (fun x v => Host.reduce IntOp.andi x v reducesTo_S96_S_d0 h_S_) main_v46 main_c_21
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_v3 main_v7 main_v11 main_v15 main_v19 main_v23 main_v27 main_v31 main_v35 main_v39 main_v43 main_v47

def fn_part1 {F : FTy → Type} [FloatOps F] (main_arg4 : FVec F S96x1x1x5 .f32) (main_arg5 : FVec F S96 .f32) (main_arg6 : FVec F S96 .f32) (main_arg7 : FVec F S96x1x5x1 .f32) (main_arg8 : FVec F S96 .f32) (main_arg9 : FVec F S96 .f32) (main_arg10 : FVec F S96x1x1x5 .f32) (main_arg11 : FVec F S96 .f32) (main_arg12 : FVec F S96 .f32) (main_arg13 : FVec F S96 .f32) (main_arg14 : FVec F S96x1x5x1 .f32) (main_arg15 : FVec F S96 .f32) (main_arg16 : FVec F S96 .f32) (main_arg17 : FVec F S96 .f32) (main_arg18 : FVec F S96x2 .f32) (main_arg19 : FVec F S96 .f32) (main_arg20 : FVec F S96x96 .f32) (main_arg21 : FVec F S96 .f32) (main_arg22 : FVec F S96x96 .f32) (main_arg23 : FVec F S96 .f32) (main_arg24 : FVec F S96x96 .f32) (main_arg25 : FVec F S96 .f32) (main_arg26 : FVec F S96x1x1x1 .f32) (main_arg27 : FVec F S96 .f32) (main_arg28 : FVec F S96 .f32) (main_arg29 : FVec F S96 .f32) (main_arg30 : FVec F S96 .f32) (main_v3 : IVec S_ 1) (main_v7 : IVec S_ 1) (main_v11 : IVec S_ 1) (main_v15 : IVec S_ 1) : IVec S_ 1 :=
  let main_v16 : FVec F S96x1x1x5 .f32 := Host.absf main_arg4
  let main_cst_6 : FVec F S_ .f32 := constant S_ .f32 0x7F7FFFFF#32
  let main_v17 : FVec F S96x1x1x5 .f32 := broadcastInDim S96x1x1x5 ![] bcast_S_S96x1x1x5 main_cst_6
  let main_v18 : IVec S96x1x1x5 1 := cmpf .ole main_v16 main_v17
  let main_c_7 : IVec S_ 1 := constantI S_ 1 1#1
  let main_v19 : IVec S_ 1 := (fun x v => Host.reduce IntOp.andi x v reducesTo_S96x1x1x5_S_d0_1_2_3 h_S_) main_v18 main_c_7
  let main_v20 : FVec F S96 .f32 := Host.absf main_arg5
  let main_cst_8 : FVec F S_ .f32 := constant S_ .f32 0x7F7FFFFF#32
  let main_v21 : FVec F S96 .f32 := broadcastInDim S96 ![] bcast_S_S96 main_cst_8
  let main_v22 : IVec S96 1 := cmpf .ole main_v20 main_v21
  let main_c_9 : IVec S_ 1 := constantI S_ 1 1#1
  let main_v23 : IVec S_ 1 := (fun x v => Host.reduce IntOp.andi x v reducesTo_S96_S_d0 h_S_) main_v22 main_c_9
  let main_v24 : FVec F S96 .f32 := Host.absf main_arg6
  let main_cst_10 : FVec F S_ .f32 := constant S_ .f32 0x7F7FFFFF#32
  let main_v25 : FVec F S96 .f32 := broadcastInDim S96 ![] bcast_S_S96 main_cst_10
  let main_v26 : IVec S96 1 := cmpf .ole main_v24 main_v25
  let main_c_11 : IVec S_ 1 := constantI S_ 1 1#1
  let main_v27 : IVec S_ 1 := (fun x v => Host.reduce IntOp.andi x v reducesTo_S96_S_d0 h_S_) main_v26 main_c_11
  let main_v28 : FVec F S96x1x5x1 .f32 := Host.absf main_arg7
  let main_cst_12 : FVec F S_ .f32 := constant S_ .f32 0x7F7FFFFF#32
  let main_v29 : FVec F S96x1x5x1 .f32 := broadcastInDim S96x1x5x1 ![] bcast_S_S96x1x5x1 main_cst_12
  let main_v30 : IVec S96x1x5x1 1 := cmpf .ole main_v28 main_v29
  let main_c_13 : IVec S_ 1 := constantI S_ 1 1#1
  let main_v31 : IVec S_ 1 := (fun x v => Host.reduce IntOp.andi x v reducesTo_S96x1x5x1_S_d0_1_2_3 h_S_) main_v30 main_c_13
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v3 main_v7 main_v11 main_v15 main_v19 main_v23 main_v27 main_v31

def fn {F : FTy → Type} [FloatOps F] (main_arg0 : FVec F S4x96x224x224 .f32) (main_arg1 : FVec F S96x96x1x1 .f32) (main_arg2 : FVec F S96 .f32) (main_arg3 : FVec F S96 .f32) (main_arg4 : FVec F S96x1x1x5 .f32) (main_arg5 : FVec F S96 .f32) (main_arg6 : FVec F S96 .f32) (main_arg7 : FVec F S96x1x5x1 .f32) (main_arg8 : FVec F S96 .f32) (main_arg9 : FVec F S96 .f32) (main_arg10 : FVec F S96x1x1x5 .f32) (main_arg11 : FVec F S96 .f32) (main_arg12 : FVec F S96 .f32) (main_arg13 : FVec F S96 .f32) (main_arg14 : FVec F S96x1x5x1 .f32) (main_arg15 : FVec F S96 .f32) (main_arg16 : FVec F S96 .f32) (main_arg17 : FVec F S96 .f32) (main_arg18 : FVec F S96x2 .f32) (main_arg19 : FVec F S96 .f32) (main_arg20 : FVec F S96x96 .f32) (main_arg21 : FVec F S96 .f32) (main_arg22 : FVec F S96x96 .f32) (main_arg23 : FVec F S96 .f32) (main_arg24 : FVec F S96x96 .f32) (main_arg25 : FVec F S96 .f32) (main_arg26 : FVec F S96x1x1x1 .f32) (main_arg27 : FVec F S96 .f32) (main_arg28 : FVec F S96 .f32) (main_arg29 : FVec F S96 .f32) (main_arg30 : FVec F S96 .f32) : IVec S_ 1 :=
  let main_v0 : FVec F S4x96x224x224 .f32 := Host.absf main_arg0
  let main_cst : FVec F S_ .f32 := constant S_ .f32 0x7F7FFFFF#32
  let main_v1 : FVec F S4x96x224x224 .f32 := broadcastInDim S4x96x224x224 ![] bcast_S_S4x96x224x224 main_cst
  let main_v2 : IVec S4x96x224x224 1 := cmpf .ole main_v0 main_v1
  let main_c : IVec S_ 1 := constantI S_ 1 1#1
  let main_v3 : IVec S_ 1 := (fun x v => Host.reduce IntOp.andi x v reducesTo_S4x96x224x224_S_d0_1_2_3 h_S_) main_v2 main_c
  let main_v4 : FVec F S96x96x1x1 .f32 := Host.absf main_arg1
  let main_cst_0 : FVec F S_ .f32 := constant S_ .f32 0x7F7FFFFF#32
  let main_v5 : FVec F S96x96x1x1 .f32 := broadcastInDim S96x96x1x1 ![] bcast_S_S96x96x1x1 main_cst_0
  let main_v6 : IVec S96x96x1x1 1 := cmpf .ole main_v4 main_v5
  let main_c_1 : IVec S_ 1 := constantI S_ 1 1#1
  let main_v7 : IVec S_ 1 := (fun x v => Host.reduce IntOp.andi x v reducesTo_S96x96x1x1_S_d0_1_2_3 h_S_) main_v6 main_c_1
  let main_v8 : FVec F S96 .f32 := Host.absf main_arg2
  let main_cst_2 : FVec F S_ .f32 := constant S_ .f32 0x7F7FFFFF#32
  let main_v9 : FVec F S96 .f32 := broadcastInDim S96 ![] bcast_S_S96 main_cst_2
  let main_v10 : IVec S96 1 := cmpf .ole main_v8 main_v9
  let main_c_3 : IVec S_ 1 := constantI S_ 1 1#1
  let main_v11 : IVec S_ 1 := (fun x v => Host.reduce IntOp.andi x v reducesTo_S96_S_d0 h_S_) main_v10 main_c_3
  let main_v12 : FVec F S96 .f32 := Host.absf main_arg3
  let main_cst_4 : FVec F S_ .f32 := constant S_ .f32 0x7F7FFFFF#32
  let main_v13 : FVec F S96 .f32 := broadcastInDim S96 ![] bcast_S_S96 main_cst_4
  let main_v14 : IVec S96 1 := cmpf .ole main_v12 main_v13
  let main_c_5 : IVec S_ 1 := constantI S_ 1 1#1
  let main_v15 : IVec S_ 1 := (fun x v => Host.reduce IntOp.andi x v reducesTo_S96_S_d0 h_S_) main_v14 main_c_5
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v3 main_v7 main_v11 main_v15
-- ==== Kernel.lean ====
abbrev S4x96x224x224 : Shape := ⟨4, ![4, 96, 224, 224]⟩
abbrev S96x96x1x1 : Shape := ⟨4, ![96, 96, 1, 1]⟩
abbrev S96 : Shape := ⟨1, ![96]⟩
abbrev S96x1x1x5 : Shape := ⟨4, ![96, 1, 1, 5]⟩
abbrev S96x1x5x1 : Shape := ⟨4, ![96, 1, 5, 1]⟩
abbrev S96x2 : Shape := ⟨2, ![96, 2]⟩
abbrev S96x96 : Shape := ⟨2, ![96, 96]⟩
abbrev S96x1x1x1 : Shape := ⟨4, ![96, 1, 1, 1]⟩
abbrev S4x96x50176 : Shape := ⟨3, ![4, 96, 50176]⟩
abbrev S4x1x96 : Shape := ⟨3, ![4, 1, 96]⟩
abbrev S1x96x1792 : Shape := ⟨3, ![1, 96, 1792]⟩
abbrev S1x1x96 : Shape := ⟨3, ![1, 1, 96]⟩
abbrev S96x1792 : Shape := ⟨2, ![96, 1792]⟩
abbrev S4x1x50176 : Shape := ⟨3, ![4, 1, 50176]⟩
abbrev S2x96 : Shape := ⟨2, ![2, 96]⟩
abbrev S4x1x1 : Shape := ⟨3, ![4, 1, 1]⟩
abbrev S1x1x1792 : Shape := ⟨3, ![1, 1, 1792]⟩
abbrev S1x1x1 : Shape := ⟨3, ![1, 1, 1]⟩
abbrev S1x96 : Shape := ⟨2, ![1, 96]⟩
abbrev S1 : Shape := ⟨1, ![1]⟩
abbrev S1x1 : Shape := ⟨2, ![1, 1]⟩
abbrev S96x1 : Shape := ⟨2, ![96, 1]⟩
abbrev S1792 : Shape := ⟨1, ![1792]⟩
abbrev S1x1792 : Shape := ⟨2, ![1, 1792]⟩
abbrev S_ : Shape := ⟨0, ![]⟩
abbrev S96x5 : Shape := ⟨2, ![96, 5]⟩
abbrev S2x12x8 : Shape := ⟨3, ![2, 12, 8]⟩
abbrev S12x2x8 : Shape := ⟨3, ![12, 2, 8]⟩
abbrev S12x1x8 : Shape := ⟨3, ![12, 1, 8]⟩
abbrev S1x8x224x224 : Shape := ⟨4, ![1, 8, 224, 224]⟩
abbrev S1x2x8 : Shape := ⟨3, ![1, 2, 8]⟩
abbrev S8x5 : Shape := ⟨2, ![8, 5]⟩
abbrev S1x1x8 : Shape := ⟨3, ![1, 1, 8]⟩
abbrev S8 : Shape := ⟨1, ![8]⟩
abbrev S8x224x224 : Shape := ⟨3, ![8, 224, 224]⟩
abbrev S8x1x1 : Shape := ⟨3, ![8, 1, 1]⟩
abbrev S8x224x2 : Shape := ⟨3, ![8, 224, 2]⟩
abbrev S8x224x228 : Shape := ⟨3, ![8, 224, 228]⟩
abbrev S8x1 : Shape := ⟨2, ![8, 1]⟩
abbrev S1x8 : Shape := ⟨2, ![1, 8]⟩
abbrev S2x8 : Shape := ⟨2, ![2, 8]⟩
abbrev S8x2x224 : Shape := ⟨3, ![8, 2, 224]⟩
abbrev S8x228x224 : Shape := ⟨3, ![8, 228, 224]⟩
abbrev S8x224x4 : Shape := ⟨3, ![8, 224, 4]⟩
abbrev S8x224x232 : Shape := ⟨3, ![8, 224, 232]⟩
abbrev S8x4x224 : Shape := ⟨3, ![8, 4, 224]⟩
abbrev S8x232x224 : Shape := ⟨3, ![8, 232, 224]⟩
abbrev S4 : Shape := ⟨1, ![4]⟩
abbrev S9 : Shape := ⟨1, ![9]⟩
abbrev S10 : Shape := ⟨1, ![10]⟩
abbrev S4x1 : Shape := ⟨2, ![4, 1]⟩
abbrev S1x10 : Shape := ⟨2, ![1, 10]⟩
abbrev S4x10 : Shape := ⟨2, ![4, 10]⟩
abbrev S4x1x10 : Shape := ⟨3, ![4, 1, 10]⟩
abbrev S4x50176x10 : Shape := ⟨3, ![4, 50176, 10]⟩
abbrev S1x1x6272 : Shape := ⟨3, ![1, 1, 6272]⟩
abbrev S1x1x10 : Shape := ⟨3, ![1, 1, 10]⟩
abbrev S1x6272x10 : Shape := ⟨3, ![1, 6272, 10]⟩
abbrev S6272 : Shape := ⟨1, ![6272]⟩
abbrev S6272x1 : Shape := ⟨2, ![6272, 1]⟩
abbrev S6272x10 : Shape := ⟨2, ![6272, 10]⟩
abbrev S4x10x50176 : Shape := ⟨3, ![4, 10, 50176]⟩
abbrev S4x10x10 : Shape := ⟨3, ![4, 10, 10]⟩
abbrev S1x10x6272 : Shape := ⟨3, ![1, 10, 6272]⟩
abbrev S1x10x10 : Shape := ⟨3, ![1, 10, 10]⟩
abbrev S10x6272 : Shape := ⟨2, ![10, 6272]⟩
abbrev S10x10 : Shape := ⟨2, ![10, 10]⟩
abbrev S4x10x1 : Shape := ⟨3, ![4, 10, 1]⟩
abbrev S4x10x2 : Shape := ⟨3, ![4, 10, 2]⟩
abbrev S40x2 : Shape := ⟨2, ![40, 2]⟩
abbrev S40x96 : Shape := ⟨2, ![40, 96]⟩
abbrev S40x1 : Shape := ⟨2, ![40, 1]⟩
abbrev S40 : Shape := ⟨1, ![40]⟩
abbrev S4x96x10 : Shape := ⟨3, ![4, 96, 10]⟩
abbrev S3x96 : Shape := ⟨2, ![3, 96]⟩
abbrev S1x96x10 : Shape := ⟨3, ![1, 96, 10]⟩
abbrev S96x10 : Shape := ⟨2, ![96, 10]⟩
abbrev S10x1 : Shape := ⟨2, ![10, 1]⟩
abbrev S6x96 : Shape := ⟨2, ![6, 96]⟩
abbrev S1x10x1792 : Shape := ⟨3, ![1, 10, 1792]⟩
abbrev S10x1792 : Shape := ⟨2, ![10, 1792]⟩

abbrev nBuf : Space → Nat
  | .hbm => 295
  | .vmem => 111
  | .smem => 0
  | _ => 0

abbrev hbmTy0_0 (i : Nat) : BufTy := match i % 128 with
  | 0 => ⟨S4x96x224x224, .f32⟩
  | 1 => ⟨S96x96x1x1, .f32⟩
  | 2 => ⟨S96, .f32⟩
  | 3 => ⟨S96, .f32⟩
  | 4 => ⟨S96x1x1x5, .f32⟩
  | 5 => ⟨S96, .f32⟩
  | 6 => ⟨S96, .f32⟩
  | 7 => ⟨S96x1x5x1, .f32⟩
  | 8 => ⟨S96, .f32⟩
  | 9 => ⟨S96, .f32⟩
  | 10 => ⟨S96x1x1x5, .f32⟩
  | 11 => ⟨S96, .f32⟩
  | 12 => ⟨S96, .f32⟩
  | 13 => ⟨S96, .f32⟩
  | 14 => ⟨S96x1x5x1, .f32⟩
  | 15 => ⟨S96, .f32⟩
  | 16 => ⟨S96, .f32⟩
  | 17 => ⟨S96, .f32⟩
  | 18 => ⟨S96x2, .f32⟩
  | 19 => ⟨S96, .f32⟩
  | 20 => ⟨S96x96, .f32⟩
  | 21 => ⟨S96, .f32⟩
  | 22 => ⟨S96x96, .f32⟩
  | 23 => ⟨S96, .f32⟩
  | 24 => ⟨S96x96, .f32⟩
  | 25 => ⟨S96, .f32⟩
  | 26 => ⟨S96x1x1x1, .f32⟩
  | 27 => ⟨S96, .f32⟩
  | 28 => ⟨S96, .f32⟩
  | 29 => ⟨S96, .f32⟩
  | 30 => ⟨S96, .f32⟩
  | 31 => ⟨S4x96x50176, .f32⟩
  | 32 => ⟨S4x1x96, .f32⟩
  | 33 => ⟨S96x96, .f32⟩
  | 34 => ⟨S4x96x50176, .f32⟩
  | 35 => ⟨S4x1x50176, .f32⟩
  | 36 => ⟨S2x96, .f32⟩
  | 37 => ⟨S4x1x1, .f32⟩
  | 38 => ⟨S4x1x1, .f32⟩
  | 39 => ⟨S4x1x1, .f32⟩
  | 40 => ⟨S4x1x1, .f32⟩
  | 41 => ⟨S1x96, .f32⟩
  | 42 => ⟨S96, .f32⟩
  | 43 => ⟨S_, .f32⟩
  | 44 => ⟨S96, .f32⟩
  | 45 => ⟨S96, .f32⟩
  | 46 => ⟨S1x96, .f32⟩
  | 47 => ⟨S96, .f32⟩
  | 48 => ⟨S_, .f32⟩
  | 49 => ⟨S96, .f32⟩
  | 50 => ⟨S96, .f32⟩
  | 51 => ⟨S96, .f32⟩
  | 52 => ⟨S96, .f32⟩
  | 53 => ⟨S_, .f32⟩
  | 54 => ⟨S96, .f32⟩
  | 55 => ⟨S96, .f32⟩
  | 56 => ⟨S96, .f32⟩
  | 57 => ⟨S96, .f32⟩
  | 58 => ⟨S96, .f32⟩
  | 59 => ⟨S96, .f32⟩
  | 60 => ⟨S1x96, .f32⟩
  | 61 => ⟨S1x96, .f32⟩
  | 62 => ⟨S2x96, .f32⟩
  | 63 => ⟨S96x5, .f32⟩
  | 64 => ⟨S2x12x8, .f32⟩
  | 65 => ⟨S12x2x8, .f32⟩
  | 66 => ⟨S_, .f32⟩
  | 67 => ⟨S96, .f32⟩
  | 68 => ⟨S12x1x8, .f32⟩
  | 69 => ⟨S4x96x224x224, .f32⟩
  | 70 => ⟨S4x96x224x224, .f32⟩
  | 71 => ⟨S12x2x8, .f32⟩
  | 72 => ⟨S2x12x8, .f32⟩
  | 73 => ⟨S2x96, .f32⟩
  | 74 => ⟨S1x96, .f32⟩
  | 75 => ⟨S96, .f32⟩
  | 76 => ⟨S_, .f32⟩
  | 77 => ⟨S96, .f32⟩
  | 78 => ⟨S96, .f32⟩
  | 79 => ⟨S1x96, .f32⟩
  | 80 => ⟨S96, .f32⟩
  | 81 => ⟨S_, .f32⟩
  | 82 => ⟨S96, .f32⟩
  | 83 => ⟨S96, .f32⟩
  | 84 => ⟨S96, .f32⟩
  | 85 => ⟨S96, .f32⟩
  | 86 => ⟨S_, .f32⟩
  | 87 => ⟨S96, .f32⟩
  | 88 => ⟨S96, .f32⟩
  | 89 => ⟨S96, .f32⟩
  | 90 => ⟨S96, .f32⟩
  | 91 => ⟨S96, .f32⟩
  | 92 => ⟨S96, .f32⟩
  | 93 => ⟨S1x96, .f32⟩
  | 94 => ⟨S1x96, .f32⟩
  | 95 => ⟨S2x96, .f32⟩
  | 96 => ⟨S96x5, .f32⟩
  | 97 => ⟨S2x12x8, .f32⟩
  | 98 => ⟨S12x2x8, .f32⟩
  | 99 => ⟨S_, .f32⟩
  | 100 => ⟨S96, .f32⟩
  | 101 => ⟨S12x1x8, .f32⟩
  | 102 => ⟨S4x96x224x224, .f32⟩
  | 103 => ⟨S12x2x8, .f32⟩
  | 104 => ⟨S2x12x8, .f32⟩
  | 105 => ⟨S2x96, .f32⟩
  | 106 => ⟨S1x96, .f32⟩
  | 107 => ⟨S96, .f32⟩
  | 108 => ⟨S_, .f32⟩
  | 109 => ⟨S96, .f32⟩
  | 110 => ⟨S96, .f32⟩
  | 111 => ⟨S1x96, .f32⟩
  | 112 => ⟨S96, .f32⟩
  | 113 => ⟨S_, .f32⟩
  | 114 => ⟨S96, .f32⟩
  | 115 => ⟨S96, .f32⟩
  | 116 => ⟨S96, .f32⟩
  | 117 => ⟨S96, .f32⟩
  | 118 => ⟨S_, .f32⟩
  | 119 => ⟨S96, .f32⟩
  | 120 => ⟨S96, .f32⟩
  | 121 => ⟨S96, .f32⟩
  | 122 => ⟨S96, .f32⟩
  | 123 => ⟨S96, .f32⟩
  | 124 => ⟨S96, .f32⟩
  | 125 => ⟨S1x96, .f32⟩
  | 126 => ⟨S1x96, .f32⟩
  | 127 => ⟨S2x96, .f32⟩
  | _ => ⟨S4x96x224x224, .f32⟩

abbrev hbmTy0_1 (i : Nat) : BufTy := match i % 128 with
  | 0 => ⟨S96x5, .f32⟩
  | 1 => ⟨S2x12x8, .f32⟩
  | 2 => ⟨S12x2x8, .f32⟩
  | 3 => ⟨S12x1x8, .f32⟩
  | 4 => ⟨S4x96x224x224, .f32⟩
  | 5 => ⟨S12x2x8, .f32⟩
  | 6 => ⟨S2x12x8, .f32⟩
  | 7 => ⟨S2x96, .f32⟩
  | 8 => ⟨S1x96, .f32⟩
  | 9 => ⟨S96, .f32⟩
  | 10 => ⟨S_, .f32⟩
  | 11 => ⟨S96, .f32⟩
  | 12 => ⟨S96, .f32⟩
  | 13 => ⟨S1x96, .f32⟩
  | 14 => ⟨S96, .f32⟩
  | 15 => ⟨S_, .f32⟩
  | 16 => ⟨S96, .f32⟩
  | 17 => ⟨S96, .f32⟩
  | 18 => ⟨S96, .f32⟩
  | 19 => ⟨S96, .f32⟩
  | 20 => ⟨S_, .f32⟩
  | 21 => ⟨S96, .f32⟩
  | 22 => ⟨S96, .f32⟩
  | 23 => ⟨S96, .f32⟩
  | 24 => ⟨S96, .f32⟩
  | 25 => ⟨S96, .f32⟩
  | 26 => ⟨S96, .f32⟩
  | 27 => ⟨S1x96, .f32⟩
  | 28 => ⟨S1x96, .f32⟩
  | 29 => ⟨S2x96, .f32⟩
  | 30 => ⟨S96x5, .f32⟩
  | 31 => ⟨S2x12x8, .f32⟩
  | 32 => ⟨S12x2x8, .f32⟩
  | 33 => ⟨S12x1x8, .f32⟩
  | 34 => ⟨S4x96x224x224, .f32⟩
  | 35 => ⟨S12x2x8, .f32⟩
  | 36 => ⟨S2x12x8, .f32⟩
  | 37 => ⟨S2x96, .f32⟩
  | 38 => ⟨S1x96, .f32⟩
  | 39 => ⟨S96, .f32⟩
  | 40 => ⟨S_, .f32⟩
  | 41 => ⟨S96, .f32⟩
  | 42 => ⟨S96, .f32⟩
  | 43 => ⟨S1x96, .f32⟩
  | 44 => ⟨S96, .f32⟩
  | 45 => ⟨S_, .f32⟩
  | 46 => ⟨S96, .f32⟩
  | 47 => ⟨S96, .f32⟩
  | 48 => ⟨S96, .f32⟩
  | 49 => ⟨S96, .f32⟩
  | 50 => ⟨S_, .f32⟩
  | 51 => ⟨S96, .f32⟩
  | 52 => ⟨S96, .f32⟩
  | 53 => ⟨S96, .f32⟩
  | 54 => ⟨S96, .f32⟩
  | 55 => ⟨S96, .f32⟩
  | 56 => ⟨S96, .f32⟩
  | 57 => ⟨S1x96, .f32⟩
  | 58 => ⟨S1x96, .f32⟩
  | 59 => ⟨S2x96, .f32⟩
  | 60 => ⟨S4, .f32⟩
  | 61 => ⟨S4, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S9, .f32⟩
  | 70 => ⟨S_, .f32⟩
  | 71 => ⟨S9, .f32⟩
  | 72 => ⟨S9, .f32⟩
  | 73 => ⟨S1, .f32⟩
  | 74 => ⟨S_, .f32⟩
  | 75 => ⟨S9, .f32⟩
  | 76 => ⟨S9, .f32⟩
  | 77 => ⟨S9, .f32⟩
  | 78 => ⟨S9, .f32⟩
  | 79 => ⟨S1, .f32⟩
  | 80 => ⟨S9, .f32⟩
  | 81 => ⟨S9, .f32⟩
  | 82 => ⟨S9, .f32⟩
  | 83 => ⟨S1, .f32⟩
  | 84 => ⟨S10, .f32⟩
  | 85 => ⟨S4x1, .f32⟩
  | 86 => ⟨S4, .f32⟩
  | 87 => ⟨S4x1, .f32⟩
  | 88 => ⟨S1x10, .f32⟩
  | 89 => ⟨S4x10, .f32⟩
  | 90 => ⟨S4x10, .f32⟩
  | 91 => ⟨S4x10, .f32⟩
  | 92 => ⟨S4x10, .f32⟩
  | 93 => ⟨S4x10, .f32⟩
  | 94 => ⟨S4x1x10, .f32⟩
  | 95 => ⟨S4x50176x10, .f32⟩
  | 96 => ⟨S4x1x10, .f32⟩
  | 97 => ⟨S4x10x50176, .f32⟩
  | 98 => ⟨S4x10x10, .f32⟩
  | 99 => ⟨S4x1x10, .f32⟩
  | 100 => ⟨S4x10, .f32⟩
  | 101 => ⟨S_, .f32⟩
  | 102 => ⟨S4, .f32⟩
  | 103 => ⟨S4x1, .f32⟩
  | 104 => ⟨S4x10, .f32⟩
  | 105 => ⟨S4x10, .f32⟩
  | 106 => ⟨S4x10x1, .f32⟩
  | 107 => ⟨S4x10x1, .f32⟩
  | 108 => ⟨S4x10x2, .f32⟩
  | 109 => ⟨S40x2, .f32⟩
  | 110 => ⟨S2x96, .f32⟩
  | 111 => ⟨S1x96, .f32⟩
  | 112 => ⟨S40x96, .f32⟩
  | 113 => ⟨S4x96x10, .f32⟩
  | 114 => ⟨S1x96, .f32⟩
  | 115 => ⟨S1x96, .f32⟩
  | 116 => ⟨S1x96, .f32⟩
  | 117 => ⟨S3x96, .f32⟩
  | 118 => ⟨S4x10, .f32⟩
  | 119 => ⟨S1x96, .f32⟩
  | 120 => ⟨S1x96, .f32⟩
  | 121 => ⟨S2x96, .f32⟩
  | 122 => ⟨S4x96x10, .f32⟩
  | 123 => ⟨S1x96, .f32⟩
  | 124 => ⟨S96, .f32⟩
  | 125 => ⟨S4, .f32⟩
  | 126 => ⟨S_, .f32⟩
  | 127 => ⟨S_, .f32⟩
  | _ => ⟨S4x96x224x224, .f32⟩

abbrev hbmTy0_2 (i : Nat) : BufTy := match i % 128 with
  | 0 => ⟨S4, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S96, .f32⟩
  | 10 => ⟨S96, .f32⟩
  | 11 => ⟨S96, .f32⟩
  | 12 => ⟨S96, .f32⟩
  | 13 => ⟨S96, .f32⟩
  | 14 => ⟨S_, .f32⟩
  | 15 => ⟨S96, .f32⟩
  | 16 => ⟨S96, .f32⟩
  | 17 => ⟨S96, .f32⟩
  | 18 => ⟨S96, .f32⟩
  | 19 => ⟨S1x96, .f32⟩
  | 20 => ⟨S96, .f32⟩
  | 21 => ⟨S1x96, .f32⟩
  | 22 => ⟨S96, .f32⟩
  | 23 => ⟨S96, .f32⟩
  | 24 => ⟨S96, .f32⟩
  | 25 => ⟨S96, .f32⟩
  | 26 => ⟨S96, .f32⟩
  | 27 => ⟨S_, .f32⟩
  | 28 => ⟨S96, .f32⟩
  | 29 => ⟨S1x96, .f32⟩
  | 30 => ⟨S1x96, .f32⟩
  | 31 => ⟨S1x96, .f32⟩
  | 32 => ⟨S1x96, .f32⟩
  | 33 => ⟨S1x96, .f32⟩
  | 34 => ⟨S1x96, .f32⟩
  | 35 => ⟨S6x96, .f32⟩
  | 36 => ⟨S4x96x50176, .f32⟩
  | 37 => ⟨S4x96x50176, .f32⟩
  | 38 => ⟨S4x96x224x224, .f32⟩
  | _ => ⟨S4x96x224x224, .f32⟩

abbrev hbmTy (i : Nat) : BufTy := match i / 128 with
  | 0 => hbmTy0_0 i
  | 1 => hbmTy0_1 i
  | 2 => hbmTy0_2 i
  | _ => ⟨S4x96x224x224, .f32⟩

abbrev bufTy : (tb : Table) → Fin (tcTables nBuf tb) → BufTy
  | .hbm, ⟨i, _⟩ => hbmTy i
  | .local _ .vmem, ⟨0, _⟩ => ⟨S1x96x1792, .f32⟩
  | .local _ .vmem, ⟨1, _⟩ => ⟨S1x96x1792, .f32⟩
  | .local _ .vmem, ⟨2, _⟩ => ⟨S1x1x96, .f32⟩
  | .local _ .vmem, ⟨3, _⟩ => ⟨S1x1x96, .f32⟩
  | .local _ .vmem, ⟨4, _⟩ => ⟨S1x96x1792, .f32⟩
  | .local _ .vmem, ⟨5, _⟩ => ⟨S1x96x1792, .f32⟩
  | .local _ .vmem, ⟨6, _⟩ => ⟨S96x96, .f32⟩
  | .local _ .vmem, ⟨7, _⟩ => ⟨S1x1x96, .f32⟩
  | .local _ .vmem, ⟨8, _⟩ => ⟨S1x1x96, .f32⟩
  | .local _ .vmem, ⟨9, _⟩ => ⟨S1x96x1792, .f32⟩
  | .local _ .vmem, ⟨10, _⟩ => ⟨S1x96x1792, .f32⟩
  | .local _ .vmem, ⟨11, _⟩ => ⟨S1x1x1792, .f32⟩
  | .local _ .vmem, ⟨12, _⟩ => ⟨S1x1x1792, .f32⟩
  | .local _ .vmem, ⟨13, _⟩ => ⟨S2x96, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x1x1, .f32⟩
  | .local _ .vmem, ⟨22, _⟩ => ⟨S1x8x224x224, .f32⟩
  | .local _ .vmem, ⟨23, _⟩ => ⟨S1x8x224x224, .f32⟩
  | .local _ .vmem, ⟨24, _⟩ => ⟨S1x2x8, .f32⟩
  | .local _ .vmem, ⟨25, _⟩ => ⟨S1x2x8, .f32⟩
  | .local _ .vmem, ⟨26, _⟩ => ⟨S8x5, .f32⟩
  | .local _ .vmem, ⟨27, _⟩ => ⟨S8x5, .f32⟩
  | .local _ .vmem, ⟨28, _⟩ => ⟨S1x1x8, .f32⟩
  | .local _ .vmem, ⟨29, _⟩ => ⟨S1x1x8, .f32⟩
  | .local _ .vmem, ⟨30, _⟩ => ⟨S1x8x224x224, .f32⟩
  | .local _ .vmem, ⟨31, _⟩ => ⟨S1x8x224x224, .f32⟩
  | .local _ .vmem, ⟨32, _⟩ => ⟨S1x2x8, .f32⟩
  | .local _ .vmem, ⟨33, _⟩ => ⟨S1x2x8, .f32⟩
  | .local _ .vmem, ⟨34, _⟩ => ⟨S1x8x224x224, .f32⟩
  | .local _ .vmem, ⟨35, _⟩ => ⟨S1x8x224x224, .f32⟩
  | .local _ .vmem, ⟨36, _⟩ => ⟨S1x2x8, .f32⟩
  | .local _ .vmem, ⟨37, _⟩ => ⟨S1x2x8, .f32⟩
  | .local _ .vmem, ⟨38, _⟩ => ⟨S8x5, .f32⟩
  | .local _ .vmem, ⟨39, _⟩ => ⟨S8x5, .f32⟩
  | .local _ .vmem, ⟨40, _⟩ => ⟨S1x1x8, .f32⟩
  | .local _ .vmem, ⟨41, _⟩ => ⟨S1x1x8, .f32⟩
  | .local _ .vmem, ⟨42, _⟩ => ⟨S1x8x224x224, .f32⟩
  | .local _ .vmem, ⟨43, _⟩ => ⟨S1x8x224x224, .f32⟩
  | .local _ .vmem, ⟨44, _⟩ => ⟨S1x2x8, .f32⟩
  | .local _ .vmem, ⟨45, _⟩ => ⟨S1x2x8, .f32⟩
  | .local _ .vmem, ⟨46, _⟩ => ⟨S1x8x224x224, .f32⟩
  | .local _ .vmem, ⟨47, _⟩ => ⟨S1x8x224x224, .f32⟩
  | .local _ .vmem, ⟨48, _⟩ => ⟨S1x2x8, .f32⟩
  | .local _ .vmem, ⟨49, _⟩ => ⟨S1x2x8, .f32⟩
  | .local _ .vmem, ⟨50, _⟩ => ⟨S8x5, .f32⟩
  | .local _ .vmem, ⟨51, _⟩ => ⟨S8x5, .f32⟩
  | .local _ .vmem, ⟨52, _⟩ => ⟨S1x1x8, .f32⟩
  | .local _ .vmem, ⟨53, _⟩ => ⟨S1x1x8, .f32⟩
  | .local _ .vmem, ⟨54, _⟩ => ⟨S1x8x224x224, .f32⟩
  | .local _ .vmem, ⟨55, _⟩ => ⟨S1x8x224x224, .f32⟩
  | .local _ .vmem, ⟨56, _⟩ => ⟨S1x2x8, .f32⟩
  | .local _ .vmem, ⟨57, _⟩ => ⟨S1x2x8, .f32⟩
  | .local _ .vmem, ⟨58, _⟩ => ⟨S1x8x224x224, .f32⟩
  | .local _ .vmem, ⟨59, _⟩ => ⟨S1x8x224x224, .f32⟩
  | .local _ .vmem, ⟨60, _⟩ => ⟨S1x2x8, .f32⟩
  | .local _ .vmem, ⟨61, _⟩ => ⟨S1x2x8, .f32⟩
  | .local _ .vmem, ⟨62, _⟩ => ⟨S8x5, .f32⟩
  | .local _ .vmem, ⟨63, _⟩ => ⟨S8x5, .f32⟩
  | .local _ .vmem, ⟨64, _⟩ => ⟨S1x1x8, .f32⟩
  | .local _ .vmem, ⟨65, _⟩ => ⟨S1x1x8, .f32⟩
  | .local _ .vmem, ⟨66, _⟩ => ⟨S1x8x224x224, .f32⟩
  | .local _ .vmem, ⟨67, _⟩ => ⟨S1x8x224x224, .f32⟩
  | .local _ .vmem, ⟨68, _⟩ => ⟨S1x2x8, .f32⟩
  | .local _ .vmem, ⟨69, _⟩ => ⟨S1x2x8, .f32⟩
  | .local _ .vmem, ⟨70, _⟩ => ⟨S1x1x6272, .f32⟩
  | .local _ .vmem, ⟨71, _⟩ => ⟨S1x1x6272, .f32⟩
  | .local _ .vmem, ⟨72, _⟩ => ⟨S1x1x10, .f32⟩
  | .local _ .vmem, ⟨73, _⟩ => ⟨S1x1x10, .f32⟩
  | .local _ .vmem, ⟨74, _⟩ => ⟨S1x6272x10, .f32⟩
  | .local _ .vmem, ⟨75, _⟩ => ⟨S1x6272x10, .f32⟩
  | .local _ .vmem, ⟨76, _⟩ => ⟨S1x1x10, .f32⟩
  | .local _ .vmem, ⟨77, _⟩ => ⟨S1x1x10, .f32⟩
  | .local _ .vmem, ⟨78, _⟩ => ⟨S1x10x6272, .f32⟩
  | .local _ .vmem, ⟨79, _⟩ => ⟨S1x10x6272, .f32⟩
  | .local _ .vmem, ⟨80, _⟩ => ⟨S1x10x10, .f32⟩
  | .local _ .vmem, ⟨81, _⟩ => ⟨S1x10x10, .f32⟩
  | .local _ .vmem, ⟨82, _⟩ => ⟨S1x1x10, .f32⟩
  | .local _ .vmem, ⟨83, _⟩ => ⟨S1x1x10, .f32⟩
  | .local _ .vmem, ⟨84, _⟩ => ⟨S40x2, .f32⟩
  | .local _ .vmem, ⟨85, _⟩ => ⟨S2x96, .f32⟩
  | .local _ .vmem, ⟨86, _⟩ => ⟨S1x96, .f32⟩
  | .local _ .vmem, ⟨87, _⟩ => ⟨S40x96, .f32⟩
  | .local _ .vmem, ⟨88, _⟩ => ⟨S4x96x10, .f32⟩
  | .local _ .vmem, ⟨89, _⟩ => ⟨S96x96, .f32⟩
  | .local _ .vmem, ⟨90, _⟩ => ⟨S96x96, .f32⟩
  | .local _ .vmem, ⟨91, _⟩ => ⟨S96x96, .f32⟩
  | .local _ .vmem, ⟨92, _⟩ => ⟨S3x96, .f32⟩
  | .local _ .vmem, ⟨93, _⟩ => ⟨S4x10, .f32⟩
  | .local _ .vmem, ⟨94, _⟩ => ⟨S4x10x10, .f32⟩
  | .local _ .vmem, ⟨95, _⟩ => ⟨S2x96, .f32⟩
  | .local _ .vmem, ⟨96, _⟩ => ⟨S4x96x10, .f32⟩
  | .local _ .vmem, ⟨97, _⟩ => ⟨S1x96, .f32⟩
  | .local _ .vmem, ⟨98, _⟩ => ⟨S1x96x1792, .f32⟩
  | .local _ .vmem, ⟨99, _⟩ => ⟨S1x96x1792, .f32⟩
  | .local _ .vmem, ⟨100, _⟩ => ⟨S1x96x1792, .f32⟩
  | .local _ .vmem, ⟨101, _⟩ => ⟨S1x96x1792, .f32⟩
  | .local _ .vmem, ⟨102, _⟩ => ⟨S1x1x1792, .f32⟩
  | .local _ .vmem, ⟨103, _⟩ => ⟨S1x1x1792, .f32⟩
  | .local _ .vmem, ⟨104, _⟩ => ⟨S1x10x1792, .f32⟩
  | .local _ .vmem, ⟨105, _⟩ => ⟨S1x10x1792, .f32⟩
  | .local _ .vmem, ⟨106, _⟩ => ⟨S1x96x10, .f32⟩
  | .local _ .vmem, ⟨107, _⟩ => ⟨S1x96x10, .f32⟩
  | .local _ .vmem, ⟨108, _⟩ => ⟨S6x96, .f32⟩
  | .local _ .vmem, ⟨109, _⟩ => ⟨S1x96x1792, .f32⟩
  | .local _ .vmem, ⟨110, _⟩ => ⟨S1x96x1792, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | _, _ => false

abbrev semScoped : Fin 0 → Bool
  | ⟨_, h⟩ => absurd h (Nat.not_lt_zero _)

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  ofTc nBuf bufTy 0 111 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3_0 : Ref sig .tc := ⟨.hbm, 34, rfl⟩
abbrev main_v3_1 : Ref sig .tc := ⟨.hbm, 35, rfl⟩
abbrev main_v3_2 : Ref sig .tc := ⟨.hbm, 36, rfl⟩
abbrev main_v3_3 : Ref sig .tc := ⟨.hbm, 37, rfl⟩
abbrev main_v3_4 : Ref sig .tc := ⟨.hbm, 38, rfl⟩
abbrev main_v3_5 : Ref sig .tc := ⟨.hbm, 39, rfl⟩
abbrev main_v3_6 : Ref sig .tc := ⟨.hbm, 40, rfl⟩
abbrev main_v4 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst_0 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29_0 : Ref sig .tc := ⟨.hbm, 70, rfl⟩
abbrev main_v29_1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_3 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_5 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_6 : Ref sig .tc := ⟨.hbm, 99, rfl⟩
abbrev main_v54 : Ref sig .tc := ⟨.hbm, 100, rfl⟩
abbrev main_v55 : Ref sig .tc := ⟨.hbm, 101, rfl⟩
abbrev main_v56_0 : Ref sig .tc := ⟨.hbm, 102, rfl⟩
abbrev main_v56_1 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_7 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_8 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_9 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82_0 : Ref sig .tc := ⟨.hbm, 132, rfl⟩
abbrev main_v82_1 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_10 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_11 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_12 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108_0 : Ref sig .tc := ⟨.hbm, 162, rfl⟩
abbrev main_v108_1 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_13 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_14 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_15 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_16 : Ref sig .tc := ⟨.hbm, 190, rfl⟩
abbrev main_cst_17 : Ref sig .tc := ⟨.hbm, 191, rfl⟩
abbrev main_call0_v0 : Ref sig .tc := ⟨.hbm, 192, rfl⟩
abbrev main_call0_v1 : Ref sig .tc := ⟨.hbm, 193, rfl⟩
abbrev main_call0_v2 : Ref sig .tc := ⟨.hbm, 194, rfl⟩
abbrev main_call0_cst : Ref sig .tc := ⟨.hbm, 195, rfl⟩
abbrev main_call0_v3 : Ref sig .tc := ⟨.hbm, 196, rfl⟩
abbrev main_call0_v4 : Ref sig .tc := ⟨.hbm, 197, rfl⟩
abbrev main_call0_cst_0 : Ref sig .tc := ⟨.hbm, 198, rfl⟩
abbrev main_call0_v5 : Ref sig .tc := ⟨.hbm, 199, rfl⟩
abbrev main_call0_v6 : Ref sig .tc := ⟨.hbm, 200, rfl⟩
abbrev main_call0_v7 : Ref sig .tc := ⟨.hbm, 201, rfl⟩
abbrev main_call0_cst_1 : Ref sig .tc := ⟨.hbm, 202, rfl⟩
abbrev main_call0_v8 : Ref sig .tc := ⟨.hbm, 203, rfl⟩
abbrev main_call0_v9 : Ref sig .tc := ⟨.hbm, 204, rfl⟩
abbrev main_call0_v10 : Ref sig .tc := ⟨.hbm, 205, rfl⟩
abbrev main_call0_v11 : Ref sig .tc := ⟨.hbm, 206, rfl⟩
abbrev main_call0_v12 : Ref sig .tc := ⟨.hbm, 207, rfl⟩
abbrev main_call0_v13 : Ref sig .tc := ⟨.hbm, 208, rfl⟩
abbrev main_call0_v14 : Ref sig .tc := ⟨.hbm, 209, rfl⟩
abbrev main_call0_v15 : Ref sig .tc := ⟨.hbm, 210, rfl⟩
abbrev main_call0_v16 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143_0 : Ref sig .tc := ⟨.hbm, 223, rfl⟩
abbrev main_v143_1 : Ref sig .tc := ⟨.hbm, 224, rfl⟩
abbrev main_v144 : Ref sig .tc := ⟨.hbm, 225, rfl⟩
abbrev main_v145_0 : Ref sig .tc := ⟨.hbm, 226, rfl⟩
abbrev main_v145_1 : Ref sig .tc := ⟨.hbm, 227, rfl⟩
abbrev main_v146 : Ref sig .tc := ⟨.hbm, 228, rfl⟩
abbrev main_cst_18 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167_0 : Ref sig .tc := ⟨.hbm, 250, rfl⟩
abbrev main_v167_1 : Ref sig .tc := ⟨.hbm, 251, rfl⟩
abbrev main_v168 : Ref sig .tc := ⟨.hbm, 252, rfl⟩
abbrev main_v169 : Ref sig .tc := ⟨.hbm, 253, rfl⟩
abbrev main_cst_19 : Ref sig .tc := ⟨.hbm, 254, rfl⟩
abbrev main_v170 : Ref sig .tc := ⟨.hbm, 255, rfl⟩
abbrev main_v171 : Ref sig .tc := ⟨.hbm, 256, rfl⟩
abbrev main_cst_20 : Ref sig .tc := ⟨.hbm, 257, rfl⟩
abbrev main_v172 : Ref sig .tc := ⟨.hbm, 258, rfl⟩
abbrev main_cst_21 : Ref sig .tc := ⟨.hbm, 259, rfl⟩
abbrev main_v173 : Ref sig .tc := ⟨.hbm, 260, rfl⟩
abbrev main_cst_22 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_cst_23 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_cst_24 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc5_stg4_0 : Ref sig .tc := ⟨.vmem, 66, rfl⟩
abbrev cc5_stg4_1 : Ref sig .tc := ⟨.vmem, 67, rfl⟩
abbrev cc5_stg5_0 : Ref sig .tc := ⟨.vmem, 68, rfl⟩
abbrev cc5_stg5_1 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg1_1 : Ref sig .tc := ⟨.vmem, 73, rfl⟩
abbrev cc6_stg2_0 : Ref sig .tc := ⟨.vmem, 74, rfl⟩
abbrev cc6_stg2_1 : Ref sig .tc := ⟨.vmem, 75, rfl⟩
abbrev cc6_stg3_0 : Ref sig .tc := ⟨.vmem, 76, rfl⟩
abbrev cc6_stg3_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg2_1 : Ref sig .tc := ⟨.vmem, 83, rfl⟩
abbrev cc8_stg0_0 : Ref sig .tc := ⟨.vmem, 84, rfl⟩
abbrev cc8_stg1_0 : Ref sig .tc := ⟨.vmem, 85, rfl⟩
abbrev cc8_stg2_0 : Ref sig .tc := ⟨.vmem, 86, rfl⟩
abbrev cc8_stg3_0 : Ref sig .tc := ⟨.vmem, 87, rfl⟩
abbrev cc9_stg0_0 : Ref sig .tc := ⟨.vmem, 88, rfl⟩
abbrev cc9_stg1_0 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg5_0 : Ref sig .tc := ⟨.vmem, 93, rfl⟩
abbrev cc9_stg6_0 : Ref sig .tc := ⟨.vmem, 94, rfl⟩
abbrev cc9_stg7_0 : Ref sig .tc := ⟨.vmem, 95, rfl⟩
abbrev cc9_stg8_0 : Ref sig .tc := ⟨.vmem, 96, rfl⟩
abbrev cc9_stg9_0 : Ref sig .tc := ⟨.vmem, 97, rfl⟩
abbrev cc10_stg0_0 : Ref sig .tc := ⟨.vmem, 98, rfl⟩
abbrev cc10_stg0_1 : Ref sig .tc := ⟨.vmem, 99, rfl⟩
abbrev cc10_stg1_0 : Ref sig .tc := ⟨.vmem, 100, rfl⟩
abbrev cc10_stg1_1 : Ref sig .tc := ⟨.vmem, 101, rfl⟩
abbrev cc10_stg2_0 : Ref sig .tc := ⟨.vmem, 102, rfl⟩
abbrev cc10_stg2_1 : Ref sig .tc := ⟨.vmem, 103, rfl⟩
abbrev cc10_stg3_0 : Ref sig .tc := ⟨.vmem, 104, rfl⟩
abbrev cc10_stg3_1 : Ref sig .tc := ⟨.vmem, 105, rfl⟩
abbrev cc10_stg4_0 : Ref sig .tc := ⟨.vmem, 106, rfl⟩
abbrev cc10_stg4_1 : Ref sig .tc := ⟨.vmem, 107, rfl⟩
abbrev cc10_stg5_0 : Ref sig .tc := ⟨.vmem, 108, rfl⟩
abbrev cc10_stg6_0 : Ref sig .tc := ⟨.vmem, 109, rfl⟩
abbrev cc10_stg6_1 : Ref sig .tc := ⟨.vmem, 110, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem4_1 : DmaSem sig := 55
abbrev cc4_sem5_0 : DmaSem sig := 56
abbrev cc4_sem5_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc5_sem3_0 : DmaSem sig := 64
abbrev cc5_sem3_1 : DmaSem sig := 65
abbrev cc5_sem4_0 : DmaSem sig := 66
abbrev cc5_sem4_1 : DmaSem sig := 67
abbrev cc5_sem5_0 : DmaSem sig := 68
abbrev cc5_sem5_1 : DmaSem sig := 69
abbrev cc6_sem0_0 : DmaSem sig := 70
abbrev cc6_sem0_1 : DmaSem sig := 71
abbrev cc6_sem1_0 : DmaSem sig := 72
abbrev cc6_sem1_1 : DmaSem sig := 73
abbrev cc6_sem2_0 : DmaSem sig := 74
abbrev cc6_sem2_1 : DmaSem sig := 75
abbrev cc6_sem3_0 : DmaSem sig := 76
abbrev cc6_sem3_1 : DmaSem sig := 77
abbrev cc7_sem0_0 : DmaSem sig := 78
abbrev cc7_sem0_1 : DmaSem sig := 79
abbrev cc7_sem1_0 : DmaSem sig := 80
abbrev cc7_sem1_1 : DmaSem sig := 81
abbrev cc7_sem2_0 : DmaSem sig := 82
abbrev cc7_sem2_1 : DmaSem sig := 83
abbrev cc8_sem0_0 : DmaSem sig := 84
abbrev cc8_sem1_0 : DmaSem sig := 85
abbrev cc8_sem2_0 : DmaSem sig := 86
abbrev cc8_sem3_0 : DmaSem sig := 87
abbrev cc9_sem0_0 : DmaSem sig := 88
abbrev cc9_sem1_0 : DmaSem sig := 89
abbrev cc9_sem2_0 : DmaSem sig := 90
abbrev cc9_sem3_0 : DmaSem sig := 91
abbrev cc9_sem4_0 : DmaSem sig := 92
abbrev cc9_sem5_0 : DmaSem sig := 93
abbrev cc9_sem6_0 : DmaSem sig := 94
abbrev cc9_sem7_0 : DmaSem sig := 95
abbrev cc9_sem8_0 : DmaSem sig := 96
abbrev cc9_sem9_0 : DmaSem sig := 97
abbrev cc10_sem0_0 : DmaSem sig := 98
abbrev cc10_sem0_1 : DmaSem sig := 99
abbrev cc10_sem1_0 : DmaSem sig := 100
abbrev cc10_sem1_1 : DmaSem sig := 101
abbrev cc10_sem2_0 : DmaSem sig := 102
abbrev cc10_sem2_1 : DmaSem sig := 103
abbrev cc10_sem3_0 : DmaSem sig := 104
abbrev cc10_sem3_1 : DmaSem sig := 105
abbrev cc10_sem4_0 : DmaSem sig := 106
abbrev cc10_sem4_1 : DmaSem sig := 107
abbrev cc10_sem5_0 : DmaSem sig := 108
abbrev cc10_sem6_0 : DmaSem sig := 109
abbrev cc10_sem6_1 : DmaSem sig := 110

abbrev nD : Nat := 1
abbrev τ : Topo := Topo.v7x

variable {F : FTy → Type} [FloatOps F]

abbrev grid0 : Pipeline.Grid := ⟨2, ![4, 28], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 28], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x96x1792 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x96x1792 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1792 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S2x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![12, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8x224x224 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x8x224x224 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x2x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![12, 4], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x8x224x224 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S8x5 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x8x224x224 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x2x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![12, 4], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x8x224x224 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x2x8 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S8x5 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x8x224x224 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x2x8 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨2, ![12, 4], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x8x224x224 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x2x8 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S8x5 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x1x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x8x224x224 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x2x8 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨2, ![4, 8], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x6272 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x1x10 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x6272x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x1x10 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![4, 8], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x10x6272 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x10x10 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x1x10 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := .none

abbrev stage8_0 : Fin 1 → Memref sig .tc .vmem S40x2 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S2x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S1x96 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S40x96 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev grid9 : Pipeline.Grid := .none

abbrev stage9_0 : Fin 1 → Memref sig .tc .vmem S4x96x10 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S96x96 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S96x96 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S96x96 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev stage9_4 : Fin 1 → Memref sig .tc .vmem S3x96 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))

abbrev stage9_5 : Fin 1 → Memref sig .tc .vmem S4x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))

abbrev stage9_6 : Fin 1 → Memref sig .tc .vmem S4x10x10 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))

abbrev stage9_7 : Fin 1 → Memref sig .tc .vmem S2x96 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))

abbrev stage9_8 : Fin 1 → Memref sig .tc .vmem S4x96x10 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))

abbrev stage9_9 : Fin 1 → Memref sig .tc .vmem S1x96 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))

abbrev grid10 : Pipeline.Grid := ⟨2, ![4, 28], ![false, false]⟩

def cc10_transform_0 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc10_transform_4 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_5 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage10_0 : Fin 2 → Memref sig .tc .vmem S1x96x1792 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x96x1792 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S1x1x1792 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S1x10x1792 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev stage10_4 : Fin 2 → Memref sig .tc .vmem S1x96x10 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, false]

abbrev stage10_5 : Fin 1 → Memref sig .tc .vmem S6x96 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false, false]

abbrev stage10_6 : Fin 2 → Memref sig .tc .vmem S1x96x1792 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true, true]
-- ==== KernelIdeal.lean ====
variable {F : FTy → Type} [FloatOps F] [Named F]
def κ : String → Option EReal := fun
  | "inv_hw" => some ((1 / 50176 : ℝ) : EReal)
  | _ => none
-- ==== ReferenceIdeal.lean ====
abbrev S4x96x224x224 : Shape := ⟨4, ![4, 96, 224, 224]⟩
abbrev S96x96x1x1 : Shape := ⟨4, ![96, 96, 1, 1]⟩
abbrev S96 : Shape := ⟨1, ![96]⟩
abbrev S96x1x1x5 : Shape := ⟨4, ![96, 1, 1, 5]⟩
abbrev S96x1x5x1 : Shape := ⟨4, ![96, 1, 5, 1]⟩
abbrev S96x2 : Shape := ⟨2, ![96, 2]⟩
abbrev S96x96 : Shape := ⟨2, ![96, 96]⟩
abbrev S96x1x1x1 : Shape := ⟨4, ![96, 1, 1, 1]⟩
abbrev S4x224x224x96 : Shape := ⟨4, ![4, 224, 224, 96]⟩
abbrev S_ : Shape := ⟨0, ![]⟩
abbrev S1x96x1x1 : Shape := ⟨4, ![1, 96, 1, 1]⟩
abbrev S4x96x224x228 : Shape := ⟨4, ![4, 96, 224, 228]⟩
abbrev S4x96x228x224 : Shape := ⟨4, ![4, 96, 228, 224]⟩
abbrev S4x96x224x232 : Shape := ⟨4, ![4, 96, 224, 232]⟩
abbrev S4x96x232x224 : Shape := ⟨4, ![4, 96, 232, 224]⟩
abbrev S4x96 : Shape := ⟨2, ![4, 96]⟩
abbrev S4x96x1x1 : Shape := ⟨4, ![4, 96, 1, 1]⟩
abbrev S4x224x224 : Shape := ⟨3, ![4, 224, 224]⟩
abbrev S4x1x1 : Shape := ⟨3, ![4, 1, 1]⟩
abbrev S4x50176 : Shape := ⟨2, ![4, 50176]⟩
abbrev S4 : Shape := ⟨1, ![4]⟩
abbrev S9 : Shape := ⟨1, ![9]⟩
abbrev S1 : Shape := ⟨1, ![1]⟩
abbrev S10 : Shape := ⟨1, ![10]⟩
abbrev S4x1 : Shape := ⟨2, ![4, 1]⟩
abbrev S1x10 : Shape := ⟨2, ![1, 10]⟩
abbrev S4x10 : Shape := ⟨2, ![4, 10]⟩
abbrev S4x1x10 : Shape := ⟨3, ![4, 1, 10]⟩
abbrev S4x50176x1 : Shape := ⟨3, ![4, 50176, 1]⟩
abbrev S4x50176x10 : Shape := ⟨3, ![4, 50176, 10]⟩
abbrev S4x10x1 : Shape := ⟨3, ![4, 10, 1]⟩
abbrev S4x10x2 : Shape := ⟨3, ![4, 10, 2]⟩
abbrev S40x2 : Shape := ⟨2, ![40, 2]⟩
abbrev S2x96 : Shape := ⟨2, ![2, 96]⟩
abbrev S40x96 : Shape := ⟨2, ![40, 96]⟩
abbrev S1x96 : Shape := ⟨2, ![1, 96]⟩
abbrev S4x96x10 : Shape := ⟨3, ![4, 96, 10]⟩
abbrev S4x10x96 : Shape := ⟨3, ![4, 10, 96]⟩
abbrev S1x96x1 : Shape := ⟨3, ![1, 96, 1]⟩
abbrev S4x10x10 : Shape := ⟨3, ![4, 10, 10]⟩
abbrev S4x10x50176 : Shape := ⟨3, ![4, 10, 50176]⟩
abbrev S4x96x50176 : Shape := ⟨3, ![4, 96, 50176]⟩
abbrev S4x1x224x224 : Shape := ⟨4, ![4, 1, 224, 224]⟩

abbrev nBuf : Space → Nat
  | .hbm => 551
  | .vmem => 0
  | .smem => 0
  | _ => 0

abbrev hbmTy0_0 (i : Nat) : BufTy := match i % 128 with
  | 0 => ⟨S4x96x224x224, .f32⟩
  | 1 => ⟨S96x96x1x1, .f32⟩
  | 2 => ⟨S96, .f32⟩
  | 3 => ⟨S96, .f32⟩
  | 4 => ⟨S96x1x1x5, .f32⟩
  | 5 => ⟨S96, .f32⟩
  | 6 => ⟨S96, .f32⟩
  | 7 => ⟨S96x1x5x1, .f32⟩
  | 8 => ⟨S96, .f32⟩
  | 9 => ⟨S96, .f32⟩
  | 10 => ⟨S96x1x1x5, .f32⟩
  | 11 => ⟨S96, .f32⟩
  | 12 => ⟨S96, .f32⟩
  | 13 => ⟨S96, .f32⟩
  | 14 => ⟨S96x1x5x1, .f32⟩
  | 15 => ⟨S96, .f32⟩
  | 16 => ⟨S96, .f32⟩
  | 17 => ⟨S96, .f32⟩
  | 18 => ⟨S96x2, .f32⟩
  | 19 => ⟨S96, .f32⟩
  | 20 => ⟨S96x96, .f32⟩
  | 21 => ⟨S96, .f32⟩
  | 22 => ⟨S96x96, .f32⟩
  | 23 => ⟨S96, .f32⟩
  | 24 => ⟨S96x96, .f32⟩
  | 25 => ⟨S96, .f32⟩
  | 26 => ⟨S96x1x1x1, .f32⟩
  | 27 => ⟨S96, .f32⟩
  | 28 => ⟨S96, .f32⟩
  | 29 => ⟨S96, .f32⟩
  | 30 => ⟨S96, .f32⟩
  | 31 => ⟨S96x96, .f32⟩
  | 32 => ⟨S4x224x224x96, .f32⟩
  | 33 => ⟨S4x96x224x224, .f32⟩
  | 34 => ⟨S_, .f32⟩
  | 35 => ⟨S96, .f32⟩
  | 36 => ⟨S1x96x1x1, .f32⟩
  | 37 => ⟨S_, .f32⟩
  | 38 => ⟨S1x96x1x1, .f32⟩
  | 39 => ⟨S1x96x1x1, .f32⟩
  | 40 => ⟨S4x96x224x224, .f32⟩
  | 41 => ⟨S4x96x224x224, .f32⟩
  | 42 => ⟨S4x96x224x224, .f32⟩
  | 43 => ⟨S_, .f32⟩
  | 44 => ⟨S96, .f32⟩
  | 45 => ⟨S1x96x1x1, .f32⟩
  | 46 => ⟨S_, .f32⟩
  | 47 => ⟨S1x96x1x1, .f32⟩
  | 48 => ⟨S1x96x1x1, .f32⟩
  | 49 => ⟨S4x96x224x224, .f32⟩
  | 50 => ⟨S4x96x224x224, .f32⟩
  | 51 => ⟨S_, .f32⟩
  | 52 => ⟨S1x96x1x1, .f32⟩
  | 53 => ⟨S1x96x1x1, .f32⟩
  | 54 => ⟨S1x96x1x1, .f32⟩
  | 55 => ⟨S4x96x224x224, .f32⟩
  | 56 => ⟨S4x96x224x224, .f32⟩
  | 57 => ⟨S1x96x1x1, .f32⟩
  | 58 => ⟨S4x96x224x224, .f32⟩
  | 59 => ⟨S4x96x224x224, .f32⟩
  | 60 => ⟨S1x96x1x1, .f32⟩
  | 61 => ⟨S4x96x224x224, .f32⟩
  | 62 => ⟨S4x96x224x224, .f32⟩
  | 63 => ⟨S_, .i32⟩
  | 64 => ⟨S_, .f32⟩
  | 65 => ⟨S4x96x224x228, .f32⟩
  | 66 => ⟨S96x1x1x1, .f32⟩
  | 67 => ⟨S96, .f32⟩
  | 68 => ⟨S1x96x1x1, .f32⟩
  | 69 => ⟨S4x96x224x224, .f32⟩
  | 70 => ⟨S4x96x224x224, .f32⟩
  | 71 => ⟨S4x96x224x224, .f32⟩
  | 72 => ⟨S_, .f32⟩
  | 73 => ⟨S4x96x224x224, .f32⟩
  | 74 => ⟨S4x96x224x224, .f32⟩
  | 75 => ⟨S96x1x1x1, .f32⟩
  | 76 => ⟨S96, .f32⟩
  | 77 => ⟨S1x96x1x1, .f32⟩
  | 78 => ⟨S4x96x224x224, .f32⟩
  | 79 => ⟨S4x96x224x224, .f32⟩
  | 80 => ⟨S4x96x224x224, .f32⟩
  | 81 => ⟨S4x96x224x224, .f32⟩
  | 82 => ⟨S96x1x1x1, .f32⟩
  | 83 => ⟨S96, .f32⟩
  | 84 => ⟨S1x96x1x1, .f32⟩
  | 85 => ⟨S4x96x224x224, .f32⟩
  | 86 => ⟨S4x96x224x224, .f32⟩
  | 87 => ⟨S4x96x224x224, .f32⟩
  | 88 => ⟨S4x96x224x224, .f32⟩
  | 89 => ⟨S96x1x1x1, .f32⟩
  | 90 => ⟨S96, .f32⟩
  | 91 => ⟨S1x96x1x1, .f32⟩
  | 92 => ⟨S4x96x224x224, .f32⟩
  | 93 => ⟨S4x96x224x224, .f32⟩
  | 94 => ⟨S4x96x224x224, .f32⟩
  | 95 => ⟨S4x96x224x224, .f32⟩
  | 96 => ⟨S96x1x1x1, .f32⟩
  | 97 => ⟨S96, .f32⟩
  | 98 => ⟨S1x96x1x1, .f32⟩
  | 99 => ⟨S4x96x224x224, .f32⟩
  | 100 => ⟨S4x96x224x224, .f32⟩
  | 101 => ⟨S4x96x224x224, .f32⟩
  | 102 => ⟨S4x96x224x224, .f32⟩
  | 103 => ⟨S_, .f32⟩
  | 104 => ⟨S96, .f32⟩
  | 105 => ⟨S1x96x1x1, .f32⟩
  | 106 => ⟨S_, .f32⟩
  | 107 => ⟨S1x96x1x1, .f32⟩
  | 108 => ⟨S1x96x1x1, .f32⟩
  | 109 => ⟨S4x96x224x224, .f32⟩
  | 110 => ⟨S4x96x224x224, .f32⟩
  | 111 => ⟨S4x96x224x224, .f32⟩
  | 112 => ⟨S_, .f32⟩
  | 113 => ⟨S96, .f32⟩
  | 114 => ⟨S1x96x1x1, .f32⟩
  | 115 => ⟨S_, .f32⟩
  | 116 => ⟨S1x96x1x1, .f32⟩
  | 117 => ⟨S1x96x1x1, .f32⟩
  | 118 => ⟨S4x96x224x224, .f32⟩
  | 119 => ⟨S4x96x224x224, .f32⟩
  | 120 => ⟨S_, .f32⟩
  | 121 => ⟨S1x96x1x1, .f32⟩
  | 122 => ⟨S1x96x1x1, .f32⟩
  | 123 => ⟨S1x96x1x1, .f32⟩
  | 124 => ⟨S4x96x224x224, .f32⟩
  | 125 => ⟨S4x96x224x224, .f32⟩
  | 126 => ⟨S1x96x1x1, .f32⟩
  | 127 => ⟨S4x96x224x224, .f32⟩
  | _ => ⟨S4x96x224x224, .f32⟩

abbrev hbmTy0_1 (i : Nat) : BufTy := match i % 128 with
  | 0 => ⟨S4x96x224x224, .f32⟩
  | 1 => ⟨S1x96x1x1, .f32⟩
  | 2 => ⟨S4x96x224x224, .f32⟩
  | 3 => ⟨S4x96x224x224, .f32⟩
  | 4 => ⟨S_, .i32⟩
  | 5 => ⟨S_, .f32⟩
  | 6 => ⟨S4x96x228x224, .f32⟩
  | 7 => ⟨S96x1x1x1, .f32⟩
  | 8 => ⟨S96, .f32⟩
  | 9 => ⟨S1x96x1x1, .f32⟩
  | 10 => ⟨S4x96x224x224, .f32⟩
  | 11 => ⟨S4x96x224x224, .f32⟩
  | 12 => ⟨S4x96x224x224, .f32⟩
  | 13 => ⟨S_, .f32⟩
  | 14 => ⟨S4x96x224x224, .f32⟩
  | 15 => ⟨S4x96x224x224, .f32⟩
  | 16 => ⟨S96x1x1x1, .f32⟩
  | 17 => ⟨S96, .f32⟩
  | 18 => ⟨S1x96x1x1, .f32⟩
  | 19 => ⟨S4x96x224x224, .f32⟩
  | 20 => ⟨S4x96x224x224, .f32⟩
  | 21 => ⟨S4x96x224x224, .f32⟩
  | 22 => ⟨S4x96x224x224, .f32⟩
  | 23 => ⟨S96x1x1x1, .f32⟩
  | 24 => ⟨S96, .f32⟩
  | 25 => ⟨S1x96x1x1, .f32⟩
  | 26 => ⟨S4x96x224x224, .f32⟩
  | 27 => ⟨S4x96x224x224, .f32⟩
  | 28 => ⟨S4x96x224x224, .f32⟩
  | 29 => ⟨S4x96x224x224, .f32⟩
  | 30 => ⟨S96x1x1x1, .f32⟩
  | 31 => ⟨S96, .f32⟩
  | 32 => ⟨S1x96x1x1, .f32⟩
  | 33 => ⟨S4x96x224x224, .f32⟩
  | 34 => ⟨S4x96x224x224, .f32⟩
  | 35 => ⟨S4x96x224x224, .f32⟩
  | 36 => ⟨S4x96x224x224, .f32⟩
  | 37 => ⟨S96x1x1x1, .f32⟩
  | 38 => ⟨S96, .f32⟩
  | 39 => ⟨S1x96x1x1, .f32⟩
  | 40 => ⟨S4x96x224x224, .f32⟩
  | 41 => ⟨S4x96x224x224, .f32⟩
  | 42 => ⟨S4x96x224x224, .f32⟩
  | 43 => ⟨S4x96x224x224, .f32⟩
  | 44 => ⟨S_, .f32⟩
  | 45 => ⟨S96, .f32⟩
  | 46 => ⟨S1x96x1x1, .f32⟩
  | 47 => ⟨S_, .f32⟩
  | 48 => ⟨S1x96x1x1, .f32⟩
  | 49 => ⟨S1x96x1x1, .f32⟩
  | 50 => ⟨S4x96x224x224, .f32⟩
  | 51 => ⟨S4x96x224x224, .f32⟩
  | 52 => ⟨S4x96x224x224, .f32⟩
  | 53 => ⟨S_, .f32⟩
  | 54 => ⟨S96, .f32⟩
  | 55 => ⟨S1x96x1x1, .f32⟩
  | 56 => ⟨S_, .f32⟩
  | 57 => ⟨S1x96x1x1, .f32⟩
  | 58 => ⟨S1x96x1x1, .f32⟩
  | 59 => ⟨S4x96x224x224, .f32⟩
  | 60 => ⟨S4x96x224x224, .f32⟩
  | 61 => ⟨S_, .f32⟩
  | 62 => ⟨S1x96x1x1, .f32⟩
  | 63 => ⟨S1x96x1x1, .f32⟩
  | 64 => ⟨S1x96x1x1, .f32⟩
  | 65 => ⟨S4x96x224x224, .f32⟩
  | 66 => ⟨S4x96x224x224, .f32⟩
  | 67 => ⟨S1x96x1x1, .f32⟩
  | 68 => ⟨S4x96x224x224, .f32⟩
  | 69 => ⟨S4x96x224x224, .f32⟩
  | 70 => ⟨S1x96x1x1, .f32⟩
  | 71 => ⟨S4x96x224x224, .f32⟩
  | 72 => ⟨S4x96x224x224, .f32⟩
  | 73 => ⟨S_, .i32⟩
  | 74 => ⟨S_, .f32⟩
  | 75 => ⟨S4x96x224x232, .f32⟩
  | 76 => ⟨S96x1x1x1, .f32⟩
  | 77 => ⟨S96, .f32⟩
  | 78 => ⟨S1x96x1x1, .f32⟩
  | 79 => ⟨S4x96x224x224, .f32⟩
  | 80 => ⟨S4x96x224x224, .f32⟩
  | 81 => ⟨S4x96x224x224, .f32⟩
  | 82 => ⟨S_, .f32⟩
  | 83 => ⟨S4x96x224x224, .f32⟩
  | 84 => ⟨S4x96x224x224, .f32⟩
  | 85 => ⟨S96x1x1x1, .f32⟩
  | 86 => ⟨S96, .f32⟩
  | 87 => ⟨S1x96x1x1, .f32⟩
  | 88 => ⟨S4x96x224x224, .f32⟩
  | 89 => ⟨S4x96x224x224, .f32⟩
  | 90 => ⟨S4x96x224x224, .f32⟩
  | 91 => ⟨S4x96x224x224, .f32⟩
  | 92 => ⟨S96x1x1x1, .f32⟩
  | 93 => ⟨S96, .f32⟩
  | 94 => ⟨S1x96x1x1, .f32⟩
  | 95 => ⟨S4x96x224x224, .f32⟩
  | 96 => ⟨S4x96x224x224, .f32⟩
  | 97 => ⟨S4x96x224x224, .f32⟩
  | 98 => ⟨S4x96x224x224, .f32⟩
  | 99 => ⟨S96x1x1x1, .f32⟩
  | 100 => ⟨S96, .f32⟩
  | 101 => ⟨S1x96x1x1, .f32⟩
  | 102 => ⟨S4x96x224x224, .f32⟩
  | 103 => ⟨S4x96x224x224, .f32⟩
  | 104 => ⟨S4x96x224x224, .f32⟩
  | 105 => ⟨S4x96x224x224, .f32⟩
  | 106 => ⟨S96x1x1x1, .f32⟩
  | 107 => ⟨S96, .f32⟩
  | 108 => ⟨S1x96x1x1, .f32⟩
  | 109 => ⟨S4x96x224x224, .f32⟩
  | 110 => ⟨S4x96x224x224, .f32⟩
  | 111 => ⟨S4x96x224x224, .f32⟩
  | 112 => ⟨S4x96x224x224, .f32⟩
  | 113 => ⟨S1x96x1x1, .f32⟩
  | 114 => ⟨S4x96x224x224, .f32⟩
  | 115 => ⟨S4x96x224x224, .f32⟩
  | 116 => ⟨S_, .f32⟩
  | 117 => ⟨S96, .f32⟩
  | 118 => ⟨S1x96x1x1, .f32⟩
  | 119 => ⟨S_, .f32⟩
  | 120 => ⟨S1x96x1x1, .f32⟩
  | 121 => ⟨S1x96x1x1, .f32⟩
  | 122 => ⟨S4x96x224x224, .f32⟩
  | 123 => ⟨S4x96x224x224, .f32⟩
  | 124 => ⟨S4x96x224x224, .f32⟩
  | 125 => ⟨S_, .f32⟩
  | 126 => ⟨S96, .f32⟩
  | 127 => ⟨S1x96x1x1, .f32⟩
  | _ => ⟨S4x96x224x224, .f32⟩

abbrev hbmTy0_2 (i : Nat) : BufTy := match i % 128 with
  | 0 => ⟨S_, .f32⟩
  | 1 => ⟨S1x96x1x1, .f32⟩
  | 2 => ⟨S1x96x1x1, .f32⟩
  | 3 => ⟨S4x96x224x224, .f32⟩
  | 4 => ⟨S4x96x224x224, .f32⟩
  | 5 => ⟨S_, .f32⟩
  | 6 => ⟨S1x96x1x1, .f32⟩
  | 7 => ⟨S1x96x1x1, .f32⟩
  | 8 => ⟨S1x96x1x1, .f32⟩
  | 9 => ⟨S4x96x224x224, .f32⟩
  | 10 => ⟨S4x96x224x224, .f32⟩
  | 11 => ⟨S1x96x1x1, .f32⟩
  | 12 => ⟨S4x96x224x224, .f32⟩
  | 13 => ⟨S4x96x224x224, .f32⟩
  | 14 => ⟨S1x96x1x1, .f32⟩
  | 15 => ⟨S4x96x224x224, .f32⟩
  | 16 => ⟨S4x96x224x224, .f32⟩
  | 17 => ⟨S_, .i32⟩
  | 18 => ⟨S_, .f32⟩
  | 19 => ⟨S4x96x232x224, .f32⟩
  | 20 => ⟨S96x1x1x1, .f32⟩
  | 21 => ⟨S96, .f32⟩
  | 22 => ⟨S1x96x1x1, .f32⟩
  | 23 => ⟨S4x96x224x224, .f32⟩
  | 24 => ⟨S4x96x224x224, .f32⟩
  | 25 => ⟨S4x96x224x224, .f32⟩
  | 26 => ⟨S_, .f32⟩
  | 27 => ⟨S4x96x224x224, .f32⟩
  | 28 => ⟨S4x96x224x224, .f32⟩
  | 29 => ⟨S96x1x1x1, .f32⟩
  | 30 => ⟨S96, .f32⟩
  | 31 => ⟨S1x96x1x1, .f32⟩
  | 32 => ⟨S4x96x224x224, .f32⟩
  | 33 => ⟨S4x96x224x224, .f32⟩
  | 34 => ⟨S4x96x224x224, .f32⟩
  | 35 => ⟨S4x96x224x224, .f32⟩
  | 36 => ⟨S96x1x1x1, .f32⟩
  | 37 => ⟨S96, .f32⟩
  | 38 => ⟨S1x96x1x1, .f32⟩
  | 39 => ⟨S4x96x224x224, .f32⟩
  | 40 => ⟨S4x96x224x224, .f32⟩
  | 41 => ⟨S4x96x224x224, .f32⟩
  | 42 => ⟨S4x96x224x224, .f32⟩
  | 43 => ⟨S96x1x1x1, .f32⟩
  | 44 => ⟨S96, .f32⟩
  | 45 => ⟨S1x96x1x1, .f32⟩
  | 46 => ⟨S4x96x224x224, .f32⟩
  | 47 => ⟨S4x96x224x224, .f32⟩
  | 48 => ⟨S4x96x224x224, .f32⟩
  | 49 => ⟨S4x96x224x224, .f32⟩
  | 50 => ⟨S96x1x1x1, .f32⟩
  | 51 => ⟨S96, .f32⟩
  | 52 => ⟨S1x96x1x1, .f32⟩
  | 53 => ⟨S4x96x224x224, .f32⟩
  | 54 => ⟨S4x96x224x224, .f32⟩
  | 55 => ⟨S4x96x224x224, .f32⟩
  | 56 => ⟨S4x96x224x224, .f32⟩
  | 57 => ⟨S1x96x1x1, .f32⟩
  | 58 => ⟨S4x96x224x224, .f32⟩
  | 59 => ⟨S4x96x224x224, .f32⟩
  | 60 => ⟨S_, .f32⟩
  | 61 => ⟨S96, .f32⟩
  | 62 => ⟨S1x96x1x1, .f32⟩
  | 63 => ⟨S_, .f32⟩
  | 64 => ⟨S1x96x1x1, .f32⟩
  | 65 => ⟨S1x96x1x1, .f32⟩
  | 66 => ⟨S4x96x224x224, .f32⟩
  | 67 => ⟨S4x96x224x224, .f32⟩
  | 68 => ⟨S4x96x224x224, .f32⟩
  | 69 => ⟨S_, .f32⟩
  | 70 => ⟨S96, .f32⟩
  | 71 => ⟨S1x96x1x1, .f32⟩
  | 72 => ⟨S_, .f32⟩
  | 73 => ⟨S1x96x1x1, .f32⟩
  | 74 => ⟨S1x96x1x1, .f32⟩
  | 75 => ⟨S4x96x224x224, .f32⟩
  | 76 => ⟨S4x96x224x224, .f32⟩
  | 77 => ⟨S_, .f32⟩
  | 78 => ⟨S1x96x1x1, .f32⟩
  | 79 => ⟨S1x96x1x1, .f32⟩
  | 80 => ⟨S1x96x1x1, .f32⟩
  | 81 => ⟨S4x96x224x224, .f32⟩
  | 82 => ⟨S4x96x224x224, .f32⟩
  | 83 => ⟨S1x96x1x1, .f32⟩
  | 84 => ⟨S4x96x224x224, .f32⟩
  | 85 => ⟨S4x96x224x224, .f32⟩
  | 86 => ⟨S1x96x1x1, .f32⟩
  | 87 => ⟨S4x96x224x224, .f32⟩
  | 88 => ⟨S4x96x224x224, .f32⟩
  | 89 => ⟨S_, .f32⟩
  | 90 => ⟨S4x96, .f32⟩
  | 91 => ⟨S4x96x1x1, .f32⟩
  | 92 => ⟨S_, .f32⟩
  | 93 => ⟨S4x96x1x1, .f32⟩
  | 94 => ⟨S4x96x1x1, .f32⟩
  | 95 => ⟨S4x96x224x224, .f32⟩
  | 96 => ⟨S4x96x224x224, .f32⟩
  | 97 => ⟨S_, .f32⟩
  | 98 => ⟨S4x224x224, .f32⟩
  | 99 => ⟨S4x96x1x1, .f32⟩
  | 100 => ⟨S_, .f32⟩
  | 101 => ⟨S4x1x1, .f32⟩
  | 102 => ⟨S4x1x1, .f32⟩
  | 103 => ⟨S4x96x224x224, .f32⟩
  | 104 => ⟨S_, .f32⟩
  | 105 => ⟨S4x224x224, .f32⟩
  | 106 => ⟨S4x224x224, .f32⟩
  | 107 => ⟨S_, .f32⟩
  | 108 => ⟨S4x1x1, .f32⟩
  | 109 => ⟨S4x1x1, .f32⟩
  | 110 => ⟨S_, .f32⟩
  | 111 => ⟨S4x224x224, .f32⟩
  | 112 => ⟨S4x224x224, .f32⟩
  | 113 => ⟨S4x224x224, .f32⟩
  | 114 => ⟨S4x224x224, .f32⟩
  | 115 => ⟨S4x224x224, .f32⟩
  | 116 => ⟨S4x50176, .f32⟩
  | 117 => ⟨S_, .f32⟩
  | 118 => ⟨S4, .f32⟩
  | 119 => ⟨S_, .f32⟩
  | 120 => ⟨S4, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x96x224x224, .f32⟩

abbrev hbmTy0_3 (i : Nat) : BufTy := match i % 128 with
  | 0 => ⟨S9, .f32⟩
  | 1 => ⟨S_, .f32⟩
  | 2 => ⟨S9, .f32⟩
  | 3 => ⟨S9, .f32⟩
  | 4 => ⟨S1, .f32⟩
  | 5 => ⟨S_, .f32⟩
  | 6 => ⟨S9, .f32⟩
  | 7 => ⟨S9, .f32⟩
  | 8 => ⟨S9, .f32⟩
  | 9 => ⟨S9, .f32⟩
  | 10 => ⟨S1, .f32⟩
  | 11 => ⟨S9, .f32⟩
  | 12 => ⟨S9, .f32⟩
  | 13 => ⟨S9, .f32⟩
  | 14 => ⟨S1, .f32⟩
  | 15 => ⟨S10, .f32⟩
  | 16 => ⟨S4x1, .f32⟩
  | 17 => ⟨S4, .f32⟩
  | 18 => ⟨S4x1, .f32⟩
  | 19 => ⟨S1x10, .f32⟩
  | 20 => ⟨S4x10, .f32⟩
  | 21 => ⟨S4x10, .f32⟩
  | 22 => ⟨S4x10, .f32⟩
  | 23 => ⟨S4x10, .f32⟩
  | 24 => ⟨S4x10, .f32⟩
  | 25 => ⟨S4x1x10, .f32⟩
  | 26 => ⟨S4x50176x1, .f32⟩
  | 27 => ⟨S4x50176x10, .f32⟩
  | 28 => ⟨S4x50176x10, .f32⟩
  | 29 => ⟨S4x50176x10, .f32⟩
  | 30 => ⟨S4x50176x10, .f32⟩
  | 31 => ⟨S_, .f32⟩
  | 32 => ⟨S4x50176x10, .f32⟩
  | 33 => ⟨S4x50176x10, .i1⟩
  | 34 => ⟨S_, .f32⟩
  | 35 => ⟨S4x50176x10, .f32⟩
  | 36 => ⟨S4x50176x10, .f32⟩
  | 37 => ⟨S_, .f32⟩
  | 38 => ⟨S_, .f32⟩
  | 39 => ⟨S4x50176x10, .f32⟩
  | 40 => ⟨S4x50176x10, .f32⟩
  | 41 => ⟨S_, .f32⟩
  | 42 => ⟨S4x10, .f32⟩
  | 43 => ⟨S_, .f32⟩
  | 44 => ⟨S4, .f32⟩
  | 45 => ⟨S4x1, .f32⟩
  | 46 => ⟨S4x10, .f32⟩
  | 47 => ⟨S4x10, .f32⟩
  | 48 => ⟨S4x10x1, .f32⟩
  | 49 => ⟨S4x10x1, .f32⟩
  | 50 => ⟨S4x10x2, .f32⟩
  | 51 => ⟨S40x2, .f32⟩
  | 52 => ⟨S2x96, .f32⟩
  | 53 => ⟨S40x96, .f32⟩
  | 54 => ⟨S1x96, .f32⟩
  | 55 => ⟨S40x96, .f32⟩
  | 56 => ⟨S40x96, .f32⟩
  | 57 => ⟨S4x96x10, .f32⟩
  | 58 => ⟨S4x10x96, .f32⟩
  | 59 => ⟨S4x96x10, .f32⟩
  | 60 => ⟨S1x96x1, .f32⟩
  | 61 => ⟨S4x96x10, .f32⟩
  | 62 => ⟨S4x96x10, .f32⟩
  | 63 => ⟨S4x10x96, .f32⟩
  | 64 => ⟨S4x96x10, .f32⟩
  | 65 => ⟨S1x96x1, .f32⟩
  | 66 => ⟨S4x96x10, .f32⟩
  | 67 => ⟨S4x96x10, .f32⟩
  | 68 => ⟨S4x10x10, .f32⟩
  | 69 => ⟨S_, .f32⟩
  | 70 => ⟨S4x10, .f32⟩
  | 71 => ⟨S_, .f32⟩
  | 72 => ⟨S4x10, .f32⟩
  | 73 => ⟨S4x10, .f32⟩
  | 74 => ⟨S4x10x1, .f32⟩
  | 75 => ⟨S4x10x10, .f32⟩
  | 76 => ⟨S4x10x10, .f32⟩
  | 77 => ⟨S4x10x10, .f32⟩
  | 78 => ⟨S_, .f32⟩
  | 79 => ⟨S4x10, .f32⟩
  | 80 => ⟨S4x10x1, .f32⟩
  | 81 => ⟨S4x10x10, .f32⟩
  | 82 => ⟨S4x10x10, .f32⟩
  | 83 => ⟨S4x10x96, .f32⟩
  | 84 => ⟨S4x96x10, .f32⟩
  | 85 => ⟨S1x96x1, .f32⟩
  | 86 => ⟨S4x96x10, .f32⟩
  | 87 => ⟨S4x96x10, .f32⟩
  | 88 => ⟨S4x96x10, .f32⟩
  | 89 => ⟨S4x10x50176, .f32⟩
  | 90 => ⟨S4x96x50176, .f32⟩
  | 91 => ⟨S4x96x224x224, .f32⟩
  | 92 => ⟨S_, .f32⟩
  | 93 => ⟨S96, .f32⟩
  | 94 => ⟨S1x96x1x1, .f32⟩
  | 95 => ⟨S_, .f32⟩
  | 96 => ⟨S1x96x1x1, .f32⟩
  | 97 => ⟨S1x96x1x1, .f32⟩
  | 98 => ⟨S4x96x224x224, .f32⟩
  | 99 => ⟨S4x96x224x224, .f32⟩
  | 100 => ⟨S4x96x224x224, .f32⟩
  | 101 => ⟨S_, .f32⟩
  | 102 => ⟨S96, .f32⟩
  | 103 => ⟨S1x96x1x1, .f32⟩
  | 104 => ⟨S_, .f32⟩
  | 105 => ⟨S1x96x1x1, .f32⟩
  | 106 => ⟨S1x96x1x1, .f32⟩
  | 107 => ⟨S4x96x224x224, .f32⟩
  | 108 => ⟨S4x96x224x224, .f32⟩
  | 109 => ⟨S_, .f32⟩
  | 110 => ⟨S1x96x1x1, .f32⟩
  | 111 => ⟨S1x96x1x1, .f32⟩
  | 112 => ⟨S1x96x1x1, .f32⟩
  | 113 => ⟨S4x96x224x224, .f32⟩
  | 114 => ⟨S4x96x224x224, .f32⟩
  | 115 => ⟨S1x96x1x1, .f32⟩
  | 116 => ⟨S4x96x224x224, .f32⟩
  | 117 => ⟨S4x96x224x224, .f32⟩
  | 118 => ⟨S1x96x1x1, .f32⟩
  | 119 => ⟨S4x96x224x224, .f32⟩
  | 120 => ⟨S4x96x224x224, .f32⟩
  | 121 => ⟨S4x1x224x224, .f32⟩
  | 122 => ⟨S96, .f32⟩
  | 123 => ⟨S1x96x1x1, .f32⟩
  | 124 => ⟨S4x96x224x224, .f32⟩
  | 125 => ⟨S4x96x224x224, .f32⟩
  | 126 => ⟨S4x96x224x224, .f32⟩
  | 127 => ⟨S_, .f32⟩
  | _ => ⟨S4x96x224x224, .f32⟩

abbrev hbmTy0_4 (i : Nat) : BufTy := match i % 128 with
  | 0 => ⟨S96, .f32⟩
  | 1 => ⟨S1x96x1x1, .f32⟩
  | 2 => ⟨S_, .f32⟩
  | 3 => ⟨S1x96x1x1, .f32⟩
  | 4 => ⟨S1x96x1x1, .f32⟩
  | 5 => ⟨S4x96x224x224, .f32⟩
  | 6 => ⟨S4x96x224x224, .f32⟩
  | 7 => ⟨S4x96x224x224, .f32⟩
  | 8 => ⟨S_, .f32⟩
  | 9 => ⟨S96, .f32⟩
  | 10 => ⟨S1x96x1x1, .f32⟩
  | 11 => ⟨S_, .f32⟩
  | 12 => ⟨S1x96x1x1, .f32⟩
  | 13 => ⟨S1x96x1x1, .f32⟩
  | 14 => ⟨S4x96x224x224, .f32⟩
  | 15 => ⟨S4x96x224x224, .f32⟩
  | 16 => ⟨S_, .f32⟩
  | 17 => ⟨S1x96x1x1, .f32⟩
  | 18 => ⟨S1x96x1x1, .f32⟩
  | 19 => ⟨S1x96x1x1, .f32⟩
  | 20 => ⟨S4x96x224x224, .f32⟩
  | 21 => ⟨S4x96x224x224, .f32⟩
  | 22 => ⟨S1x96x1x1, .f32⟩
  | 23 => ⟨S4x96x224x224, .f32⟩
  | 24 => ⟨S4x96x224x224, .f32⟩
  | 25 => ⟨S1x96x1x1, .f32⟩
  | 26 => ⟨S4x96x224x224, .f32⟩
  | 27 => ⟨S4x96x224x224, .f32⟩
  | 28 => ⟨S4x96x224x224, .f32⟩
  | 29 => ⟨S4x96x224x224, .f32⟩
  | 30 => ⟨S4x96x224x224, .f32⟩
  | 31 => ⟨S4x96x224x224, .f32⟩
  | 32 => ⟨S_, .f32⟩
  | 33 => ⟨S4x96x224x224, .f32⟩
  | 34 => ⟨S4x96x224x224, .f32⟩
  | 35 => ⟨S_, .f32⟩
  | 36 => ⟨S4x96x224x224, .f32⟩
  | 37 => ⟨S4x96x224x224, .f32⟩
  | 38 => ⟨S4x96x224x224, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_v4 : Ref sig .tc := ⟨.hbm, 36, rfl⟩
abbrev main_cst_0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c : Ref sig .tc := ⟨.hbm, 63, rfl⟩
abbrev main_call0_v0 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_5 : Ref sig .tc := ⟨.hbm, 103, rfl⟩
abbrev main_v64 : Ref sig .tc := ⟨.hbm, 104, rfl⟩
abbrev main_v65 : Ref sig .tc := ⟨.hbm, 105, rfl⟩
abbrev main_cst_6 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_7 : Ref sig .tc := ⟨.hbm, 112, rfl⟩
abbrev main_v71 : Ref sig .tc := ⟨.hbm, 113, rfl⟩
abbrev main_v72 : Ref sig .tc := ⟨.hbm, 114, rfl⟩
abbrev main_cst_8 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_9 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_10 : Ref sig .tc := ⟨.hbm, 132, rfl⟩
abbrev main_call1_v0 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_11 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_12 : Ref sig .tc := ⟨.hbm, 172, rfl⟩
abbrev main_v125 : Ref sig .tc := ⟨.hbm, 173, rfl⟩
abbrev main_v126 : Ref sig .tc := ⟨.hbm, 174, rfl⟩
abbrev main_cst_13 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_14 : Ref sig .tc := ⟨.hbm, 181, rfl⟩
abbrev main_v132 : Ref sig .tc := ⟨.hbm, 182, rfl⟩
abbrev main_v133 : Ref sig .tc := ⟨.hbm, 183, rfl⟩
abbrev main_cst_15 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_16 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_c_17 : Ref sig .tc := ⟨.hbm, 201, rfl⟩
abbrev main_call2_v0 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_18 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_19 : Ref sig .tc := ⟨.hbm, 244, rfl⟩
abbrev main_v189 : Ref sig .tc := ⟨.hbm, 245, rfl⟩
abbrev main_v190 : Ref sig .tc := ⟨.hbm, 246, rfl⟩
abbrev main_cst_20 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_cst_21 : Ref sig .tc := ⟨.hbm, 253, rfl⟩
abbrev main_v196 : Ref sig .tc := ⟨.hbm, 254, rfl⟩
abbrev main_v197 : Ref sig .tc := ⟨.hbm, 255, rfl⟩
abbrev main_cst_22 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_cst_23 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_c_24 : Ref sig .tc := ⟨.hbm, 273, rfl⟩
abbrev main_call3_v0 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_cst_25 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_cst_26 : Ref sig .tc := ⟨.hbm, 316, rfl⟩
abbrev main_v253 : Ref sig .tc := ⟨.hbm, 317, rfl⟩
abbrev main_v254 : Ref sig .tc := ⟨.hbm, 318, rfl⟩
abbrev main_cst_27 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_cst_28 : Ref sig .tc := ⟨.hbm, 325, rfl⟩
abbrev main_v260 : Ref sig .tc := ⟨.hbm, 326, rfl⟩
abbrev main_v261 : Ref sig .tc := ⟨.hbm, 327, rfl⟩
abbrev main_cst_29 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_cst_30 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_cst_31 : Ref sig .tc := ⟨.hbm, 345, rfl⟩
abbrev main_v277 : Ref sig .tc := ⟨.hbm, 346, rfl⟩
abbrev main_v278 : Ref sig .tc := ⟨.hbm, 347, rfl⟩
abbrev main_cst_32 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_cst_33 : Ref sig .tc := ⟨.hbm, 353, rfl⟩
abbrev main_v283 : Ref sig .tc := ⟨.hbm, 354, rfl⟩
abbrev main_v284 : Ref sig .tc := ⟨.hbm, 355, rfl⟩
abbrev main_cst_34 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_cst_35 : Ref sig .tc := ⟨.hbm, 360, rfl⟩
abbrev main_v288 : Ref sig .tc := ⟨.hbm, 361, rfl⟩
abbrev main_v289 : Ref sig .tc := ⟨.hbm, 362, rfl⟩
abbrev main_cst_36 : Ref sig .tc := ⟨.hbm, 363, rfl⟩
abbrev main_v290 : Ref sig .tc := ⟨.hbm, 364, rfl⟩
abbrev main_v291 : Ref sig .tc := ⟨.hbm, 365, rfl⟩
abbrev main_cst_37 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_cst_38 : Ref sig .tc := ⟨.hbm, 373, rfl⟩
abbrev main_v298 : Ref sig .tc := ⟨.hbm, 374, rfl⟩
abbrev main_cst_39 : Ref sig .tc := ⟨.hbm, 375, rfl⟩
abbrev main_v299 : Ref sig .tc := ⟨.hbm, 376, rfl⟩
abbrev main_cst_40 : Ref sig .tc := ⟨.hbm, 377, rfl⟩
abbrev main_cst_41 : Ref sig .tc := ⟨.hbm, 378, rfl⟩
abbrev main_call4_v0 : Ref sig .tc := ⟨.hbm, 379, rfl⟩
abbrev main_call4_v1 : Ref sig .tc := ⟨.hbm, 380, rfl⟩
abbrev main_call4_v2 : Ref sig .tc := ⟨.hbm, 381, rfl⟩
abbrev main_call4_cst : Ref sig .tc := ⟨.hbm, 382, rfl⟩
abbrev main_call4_v3 : Ref sig .tc := ⟨.hbm, 383, rfl⟩
abbrev main_call4_v4 : Ref sig .tc := ⟨.hbm, 384, rfl⟩
abbrev main_call4_cst_0 : Ref sig .tc := ⟨.hbm, 385, rfl⟩
abbrev main_call4_v5 : Ref sig .tc := ⟨.hbm, 386, rfl⟩
abbrev main_call4_v6 : Ref sig .tc := ⟨.hbm, 387, rfl⟩
abbrev main_call4_v7 : Ref sig .tc := ⟨.hbm, 388, rfl⟩
abbrev main_call4_cst_1 : Ref sig .tc := ⟨.hbm, 389, rfl⟩
abbrev main_call4_v8 : Ref sig .tc := ⟨.hbm, 390, rfl⟩
abbrev main_call4_v9 : Ref sig .tc := ⟨.hbm, 391, rfl⟩
abbrev main_call4_v10 : Ref sig .tc := ⟨.hbm, 392, rfl⟩
abbrev main_call4_v11 : Ref sig .tc := ⟨.hbm, 393, rfl⟩
abbrev main_call4_v12 : Ref sig .tc := ⟨.hbm, 394, rfl⟩
abbrev main_call4_v13 : Ref sig .tc := ⟨.hbm, 395, rfl⟩
abbrev main_call4_v14 : Ref sig .tc := ⟨.hbm, 396, rfl⟩
abbrev main_call4_v15 : Ref sig .tc := ⟨.hbm, 397, rfl⟩
abbrev main_call4_v16 : Ref sig .tc := ⟨.hbm, 398, rfl⟩
abbrev main_v300 : Ref sig .tc := ⟨.hbm, 399, rfl⟩
abbrev main_v301 : Ref sig .tc := ⟨.hbm, 400, rfl⟩
abbrev main_v302 : Ref sig .tc := ⟨.hbm, 401, rfl⟩
abbrev main_v303 : Ref sig .tc := ⟨.hbm, 402, rfl⟩
abbrev main_v304 : Ref sig .tc := ⟨.hbm, 403, rfl⟩
abbrev main_v305 : Ref sig .tc := ⟨.hbm, 404, rfl⟩
abbrev main_v306 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_v310 : Ref sig .tc := ⟨.hbm, 409, rfl⟩
abbrev main_v311 : Ref sig .tc := ⟨.hbm, 410, rfl⟩
abbrev main_v312 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_cst_42 : Ref sig .tc := ⟨.hbm, 415, rfl⟩
abbrev main_v316 : Ref sig .tc := ⟨.hbm, 416, rfl⟩
abbrev main_v317 : Ref sig .tc := ⟨.hbm, 417, rfl⟩
abbrev main_cst_43 : Ref sig .tc := ⟨.hbm, 418, rfl⟩
abbrev main_v318 : Ref sig .tc := ⟨.hbm, 419, rfl⟩
abbrev main_v319 : Ref sig .tc := ⟨.hbm, 420, rfl⟩
abbrev main_cst_44 : Ref sig .tc := ⟨.hbm, 421, rfl⟩
abbrev main_call5_v0 : Ref sig .tc := ⟨.hbm, 422, rfl⟩
abbrev main_call5_v1 : Ref sig .tc := ⟨.hbm, 423, rfl⟩
abbrev main_v320 : Ref sig .tc := ⟨.hbm, 424, rfl⟩
abbrev main_cst_45 : Ref sig .tc := ⟨.hbm, 425, rfl⟩
abbrev main_v321 : Ref sig .tc := ⟨.hbm, 426, rfl⟩
abbrev main_cst_46 : Ref sig .tc := ⟨.hbm, 427, rfl⟩
abbrev main_v322 : Ref sig .tc := ⟨.hbm, 428, rfl⟩
abbrev main_v323 : Ref sig .tc := ⟨.hbm, 429, rfl⟩
abbrev main_v324 : Ref sig .tc := ⟨.hbm, 430, rfl⟩
abbrev main_v325 : Ref sig .tc := ⟨.hbm, 431, rfl⟩
abbrev main_v326 : Ref sig .tc := ⟨.hbm, 432, rfl⟩
abbrev main_v327 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_v331 : Ref sig .tc := ⟨.hbm, 437, rfl⟩
abbrev main_v332 : Ref sig .tc := ⟨.hbm, 438, rfl⟩
abbrev main_v333 : Ref sig .tc := ⟨.hbm, 439, rfl⟩
abbrev main_v334 : Ref sig .tc := ⟨.hbm, 440, rfl⟩
abbrev main_v335 : Ref sig .tc := ⟨.hbm, 441, rfl⟩
abbrev main_v336 : Ref sig .tc := ⟨.hbm, 442, rfl⟩
abbrev main_v337 : Ref sig .tc := ⟨.hbm, 443, rfl⟩
abbrev main_v338 : Ref sig .tc := ⟨.hbm, 444, rfl⟩
abbrev main_v339 : Ref sig .tc := ⟨.hbm, 445, rfl⟩
abbrev main_v340 : Ref sig .tc := ⟨.hbm, 446, rfl⟩
abbrev main_v341 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_cst_47 : Ref sig .tc := ⟨.hbm, 453, rfl⟩
abbrev main_v347 : Ref sig .tc := ⟨.hbm, 454, rfl⟩
abbrev main_cst_48 : Ref sig .tc := ⟨.hbm, 455, rfl⟩
abbrev main_v348 : Ref sig .tc := ⟨.hbm, 456, rfl⟩
abbrev main_v349 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_cst_49 : Ref sig .tc := ⟨.hbm, 462, rfl⟩
abbrev main_v354 : Ref sig .tc := ⟨.hbm, 463, rfl⟩
abbrev main_v355 : Ref sig .tc := ⟨.hbm, 464, rfl⟩
abbrev main_v356 : Ref sig .tc := ⟨.hbm, 465, rfl⟩
abbrev main_v357 : Ref sig .tc := ⟨.hbm, 466, rfl⟩
abbrev main_v358 : Ref sig .tc := ⟨.hbm, 467, rfl⟩
abbrev main_v359 : Ref sig .tc := ⟨.hbm, 468, rfl⟩
abbrev main_v360 : Ref sig .tc := ⟨.hbm, 469, rfl⟩
abbrev main_v361 : Ref sig .tc := ⟨.hbm, 470, rfl⟩
abbrev main_v362 : Ref sig .tc := ⟨.hbm, 471, rfl⟩
abbrev main_v363 : Ref sig .tc := ⟨.hbm, 472, rfl⟩
abbrev main_v364 : Ref sig .tc := ⟨.hbm, 473, rfl⟩
abbrev main_v365 : Ref sig .tc := ⟨.hbm, 474, rfl⟩
abbrev main_v366 : Ref sig .tc := ⟨.hbm, 475, rfl⟩
abbrev main_cst_50 : Ref sig .tc := ⟨.hbm, 476, rfl⟩
abbrev main_v367 : Ref sig .tc := ⟨.hbm, 477, rfl⟩
abbrev main_v368 : Ref sig .tc := ⟨.hbm, 478, rfl⟩
abbrev main_cst_51 : Ref sig .tc := ⟨.hbm, 479, rfl⟩
abbrev main_v369 : Ref sig .tc := ⟨.hbm, 480, rfl⟩
abbrev main_v370 : Ref sig .tc := ⟨.hbm, 481, rfl⟩
abbrev main_v371 : Ref sig .tc := ⟨.hbm, 482, rfl⟩
abbrev main_v372 : Ref sig .tc := ⟨.hbm, 483, rfl⟩
abbrev main_v373 : Ref sig .tc := ⟨.hbm, 484, rfl⟩
abbrev main_cst_52 : Ref sig .tc := ⟨.hbm, 485, rfl⟩
abbrev main_v374 : Ref sig .tc := ⟨.hbm, 486, rfl⟩
abbrev main_v375 : Ref sig .tc := ⟨.hbm, 487, rfl⟩
abbrev main_cst_53 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_cst_54 : Ref sig .tc := ⟨.hbm, 493, rfl⟩
abbrev main_v380 : Ref sig .tc := ⟨.hbm, 494, rfl⟩
abbrev main_v381 : Ref sig .tc := ⟨.hbm, 495, rfl⟩
abbrev main_v382 : Ref sig .tc := ⟨.hbm, 496, rfl⟩
abbrev main_v383 : Ref sig .tc := ⟨.hbm, 497, rfl⟩
abbrev main_v384 : Ref sig .tc := ⟨.hbm, 498, rfl⟩
abbrev main_v385 : Ref sig .tc := ⟨.hbm, 499, rfl⟩
abbrev main_v386 : Ref sig .tc := ⟨.hbm, 500, rfl⟩
abbrev main_v387 : Ref sig .tc := ⟨.hbm, 501, rfl⟩
abbrev main_v388 : Ref sig .tc := ⟨.hbm, 502, rfl⟩
abbrev main_v389 : Ref sig .tc := ⟨.hbm, 503, rfl⟩
abbrev main_v390 : Ref sig .tc := ⟨.hbm, 504, rfl⟩
abbrev main_v391 : Ref sig .tc := ⟨.hbm, 505, rfl⟩
abbrev main_v392 : Ref sig .tc := ⟨.hbm, 506, rfl⟩
abbrev main_v393 : Ref sig .tc := ⟨.hbm, 507, rfl⟩
abbrev main_v394 : Ref sig .tc := ⟨.hbm, 508, rfl⟩
abbrev main_v395 : Ref sig .tc := ⟨.hbm, 509, rfl⟩
abbrev main_v396 : Ref sig .tc := ⟨.hbm, 510, rfl⟩
abbrev main_cst_55 : Ref sig .tc := ⟨.hbm, 511, rfl⟩
abbrev main_v397 : Ref sig .tc := ⟨.hbm, 512, rfl⟩
abbrev main_v398 : Ref sig .tc := ⟨.hbm, 513, rfl⟩
abbrev main_cst_56 : Ref sig .tc := ⟨.hbm, 514, rfl⟩
abbrev main_v399 : Ref sig .tc := ⟨.hbm, 515, rfl⟩
abbrev main_v400 : Ref sig .tc := ⟨.hbm, 516, rfl⟩
abbrev main_v401 : Ref sig .tc := ⟨.hbm, 517, rfl⟩
abbrev main_v402 : Ref sig .tc := ⟨.hbm, 518, rfl⟩
abbrev main_v403 : Ref sig .tc := ⟨.hbm, 519, rfl⟩
abbrev main_cst_57 : Ref sig .tc := ⟨.hbm, 520, rfl⟩
abbrev main_v404 : Ref sig .tc := ⟨.hbm, 521, rfl⟩
abbrev main_v405 : Ref sig .tc := ⟨.hbm, 522, rfl⟩
abbrev main_cst_58 : Ref sig .tc := ⟨.hbm, 523, rfl⟩
abbrev main_v406 : Ref sig .tc := ⟨.hbm, 524, rfl⟩
abbrev main_v407 : Ref sig .tc := ⟨.hbm, 525, rfl⟩
abbrev main_v408 : Ref sig .tc := ⟨.hbm, 526, rfl⟩
abbrev main_v409 : Ref sig .tc := ⟨.hbm, 527, rfl⟩
abbrev main_cst_59 : Ref sig .tc := ⟨.hbm, 528, rfl⟩
abbrev main_v410 : Ref sig .tc := ⟨.hbm, 529, rfl⟩
abbrev main_v411 : Ref sig .tc := ⟨.hbm, 530, rfl⟩
abbrev main_v412 : Ref sig .tc := ⟨.hbm, 531, rfl⟩
abbrev main_v413 : Ref sig .tc := ⟨.hbm, 532, rfl⟩
abbrev main_v414 : Ref sig .tc := ⟨.hbm, 533, rfl⟩
abbrev main_v415 : Ref sig .tc := ⟨.hbm, 534, rfl⟩
abbrev main_v416 : Ref sig .tc := ⟨.hbm, 535, rfl⟩
abbrev main_v417 : Ref sig .tc := ⟨.hbm, 536, rfl⟩
abbrev main_v418 : Ref sig .tc := ⟨.hbm, 537, rfl⟩
abbrev main_v419 : Ref sig .tc := ⟨.hbm, 538, rfl⟩
abbrev main_v420 : Ref sig .tc := ⟨.hbm, 539, rfl⟩
abbrev main_v421 : Ref sig .tc := ⟨.hbm, 540, rfl⟩
abbrev main_v422 : Ref sig .tc := ⟨.hbm, 541, rfl⟩
abbrev main_v423 : Ref sig .tc := ⟨.hbm, 542, rfl⟩
abbrev main_v424 : Ref sig .tc := ⟨.hbm, 543, rfl⟩
abbrev main_cst_60 : Ref sig .tc := ⟨.hbm, 544, rfl⟩
abbrev main_v425 : Ref sig .tc := ⟨.hbm, 545, rfl⟩
abbrev main_v426 : Ref sig .tc := ⟨.hbm, 546, rfl⟩
abbrev main_cst_61 : Ref sig .tc := ⟨.hbm, 547, rfl⟩
abbrev main_v427 : Ref sig .tc := ⟨.hbm, 548, rfl⟩
abbrev main_v428 : Ref sig .tc := ⟨.hbm, 549, rfl⟩
abbrev main_v429 : Ref sig .tc := ⟨.hbm, 550, rfl⟩

abbrev nD : Nat := 1
abbrev τ : Topo := Topo.v7x

variable {F : FTy → Type} [FloatOps F]
-- ==== Proof.Spec.lean ====
/-
  The functions the kernel and the reference are both read as: over the extended reals, with natural-number coordinates
  (image `b`, channel `o`, pixel `n = 224 h + w`), and two facts about running minima and maxima over a grid.
-/
module

public import Idealize.ShloMosaic.Lib.Pipeline.ValueKit
public import Idealize.ShloMosaic.Lib.Pointwise

@[expose] public section

noncomputable section

namespace Cert.KVal

open Idealize.ShloMosaic

/-- The sum of channel `o` over the pixels of image `b`. -/
def pixSum (x : ℕ → ℕ → ℕ → EReal) (b o : ℕ) : EReal := ∑ n ∈ Finset.range 50176, x b o n

/-- The 1×1 convolution. -/
def lin (w : ℕ → ℕ → EReal) (x : ℕ → ℕ → ℕ → EReal) (b o n : ℕ) : EReal := ∑ i ∈ Finset.range 96, w o i * x b i n

/-- A value or its square: the two rows of a statistics array. -/
def pow1 (r : ℕ) (y : EReal) : EReal := if r = 0 then y else y * y

/-- The sum of a channel, or of its squares, over all images and pixels. -/
def stat (y : ℕ → ℕ → ℕ → EReal) (r o : ℕ) : EReal :=
  ∑ b ∈ Finset.range 4, ∑ n ∈ Finset.range 50176, pow1 r (y b o n)

/-- The small number `1e-8` of the cosine's denominator. -/
def eps8 : EReal := Ideal.ofBits .f32 0x322BCC77#32

/-- The cosine of a pixel's channel vector with the image's mean vector `g`. -/
def cosine (g : ℕ → ℕ → EReal) (x : ℕ → ℕ → ℕ → EReal) (b n : ℕ) : EReal :=
  Ideal.div (∑ i ∈ Finset.range 96, g b i * x b i n)
    (max (Ideal.sqrt (∑ i ∈ Finset.range 96, g b i * g b i)) eps8
      * max (Ideal.sqrt (∑ i ∈ Finset.range 96, x b i n * x b i n)) eps8)

/-- The smallest and the largest of an image's pixels, their sum, and the sum of their squares. -/
def lo (s : ℕ → ℕ → EReal) (b : ℕ) : EReal := (Finset.range 50176).inf (s b)
def hi (s : ℕ → ℕ → EReal) (b : ℕ) : EReal := (Finset.range 50176).sup (s b)
def tot (r : ℕ) (s : ℕ → ℕ → EReal) (b : ℕ) : EReal := ∑ n ∈ Finset.range 50176, pow1 r (s b n)

/-- A row of 224 values with `p` zeros written on either side. -/
def padAt (p : ℕ) (f : ℕ → EReal) (i : ℕ) : EReal := if i < p then 0 else if i - p < 224 then f (i - p) else 0

/-- Five taps of a padded row, at the given distances. -/
def conv5 (p o1 o2 o3 o4 : ℕ) (k : ℕ → EReal) (f : ℕ → EReal) (i : ℕ) : EReal :=
  k 0 * padAt p f i + k 1 * padAt p f (o1 + i) + k 2 * padAt p f (o2 + i) + k 3 * padAt p f (o3 + i)
    + k 4 * padAt p f (o4 + i)

/-- A channel's value scaled and shifted. -/
def affine (a : ℕ → ℕ → ℕ → ℕ → EReal) (sc of : ℕ → EReal) (b o h w : ℕ) : EReal := a b o h w * sc o + of o

/-- The four depthwise convolutions: along a row and along a column, at distance one, and at distance two with a bias. -/
def convW1 (k : ℕ → ℕ → EReal) (a : ℕ → ℕ → ℕ → ℕ → EReal) (b o h w : ℕ) : EReal := conv5 2 1 2 3 4 (k o) (fun w => a b o h w) w
def convH1 (k : ℕ → ℕ → EReal) (a : ℕ → ℕ → ℕ → ℕ → EReal) (b o h w : ℕ) : EReal := conv5 2 1 2 3 4 (k o) (fun h => a b o h w) h
def convW2 (k : ℕ → ℕ → EReal) (bi : ℕ → EReal) (a : ℕ → ℕ → ℕ → ℕ → EReal) (b o h w : ℕ) : EReal :=
  conv5 4 2 4 6 8 (k o) (fun w => a b o h w) w + bi o
def convH2 (k : ℕ → ℕ → EReal) (bi : ℕ → EReal) (a : ℕ → ℕ → ℕ → ℕ → EReal) (b o h w : ℕ) : EReal :=
  conv5 4 2 4 6 8 (k o) (fun h => a b o h w) h + bi o

/-- The sum of a channel, or of its squares, over all images, rows and columns. -/
def stat4 (y : ℕ → ℕ → ℕ → ℕ → EReal) (r o : ℕ) : EReal :=
  ∑ b ∈ Finset.range 4, ∑ h ∈ Finset.range 224, ∑ w ∈ Finset.range 224, pow1 r (y b o h w)

/-- The float `0.05`, half the distance of two levels of the histogram. -/
def half10 : EReal := Ideal.ofBits .f32 0x3D4CCCCD#32

/-- The share of a pixel's cosine `s` in the bin at level `l`: one less the distance, when that is below `0.05`. -/
def bin (l s : EReal) : EReal := if max (l - s) (-(l - s)) < half10 then 1 - max (l - s) (-(l - s)) else 0

/-- The products of the rows of an image's bins, and the sums of the rows. -/
def gram (u : ℕ → ℕ → ℕ → EReal) (b i j : ℕ) : EReal := ∑ n ∈ Finset.range 50176, u b i n * u b j n
def rowSum (u : ℕ → ℕ → ℕ → EReal) (b i : ℕ) : EReal := ∑ n ∈ Finset.range 50176, u b i n

/-- The fully connected layer on a pair (share, level). -/
def fc (ch : ℕ → ℕ → EReal) (wf : ℕ → ℕ → EReal) (bf : ℕ → EReal) (r o : ℕ) : EReal :=
  ch r 0 * wf 0 o + ch r 1 * wf 1 o + bf o

/-- A projection of one image's bin features. -/
def proj (w : ℕ → ℕ → EReal) (bp : ℕ → EReal) (ch : ℕ → ℕ → EReal) (o m : ℕ) : EReal :=
  ∑ c ∈ Finset.range 96, w o c * ch c m + bp o

/-- The products of two projections, the exponential of their distance from the row's largest, and the row's softmax. -/
def logit (p q : ℕ → ℕ → EReal) (m n : ℕ) : EReal := ∑ c ∈ Finset.range 96, p c m * q c n
def expo (l : ℕ → ℕ → EReal) (m n : ℕ) : EReal := Ideal.exp (l m n - (Finset.range 10).sup (l m))
def soft (l : ℕ → ℕ → EReal) (m n : ℕ) : EReal := Ideal.div (expo l m n) (∑ k ∈ Finset.range 10, expo l m k)

/-- The third projection mixed by the softmax. -/
def mix (p3 s : ℕ → ℕ → EReal) (o n : ℕ) : EReal := ∑ m ∈ Finset.range 10, p3 o m * s m n

/-- One image's texture coefficients. -/
def tex (w1 w2 w3 : ℕ → ℕ → EReal) (b1 b2 b3 : ℕ → EReal) (ch : ℕ → ℕ → EReal) : ℕ → ℕ → EReal :=
  mix (proj w3 b3 ch) (soft (logit (proj w1 b1 ch) (proj w2 b2 ch)))

/-- The number of pixels of all images, and the `1e-5` of the batch normalisation. -/
def nTot : EReal := Ideal.ofBits .f32 0x48440000#32
def eps5 : EReal := Ideal.ofBits .f32 0x3727C5AC#32

/-- A batch normalisation's scale and shift from a channel's sum and sum of squares. -/
def bnA (g s1 s2 : EReal) : EReal :=
  Ideal.div g (Ideal.sqrt (Ideal.div s2 nTot - Ideal.div s1 nTot * Ideal.div s1 nTot + eps5))
def bnB (g b s1 s2 : EReal) : EReal := b - Ideal.div s1 nTot * bnA g s1 s2

/-- The sum of four images' values. -/
def sum4 (f : ℕ → EReal) : EReal := f 0 + f 1 + f 2 + f 3

/-- A texture channel's sum over all pixels, through the rows' sums, and its sum of squares, through their products. -/
def texS (lp : ℕ → ℕ → ℕ → EReal) (rs : ℕ → ℕ → EReal) (o : ℕ) : EReal :=
  sum4 fun b => ∑ m ∈ Finset.range 10, lp b o m * rs b m
def texQ (lp : ℕ → ℕ → ℕ → EReal) (gr : ℕ → ℕ → ℕ → EReal) (o : ℕ) : EReal :=
  sum4 fun b => ∑ n ∈ Finset.range 10, (∑ m ∈ Finset.range 10, lp b o m * gr b m n) * lp b o n

/-- The result at a pixel: the input times the logistic of the three branches' sum. -/
def gate (x tf tx xc : EReal) : EReal := x * Ideal.logistic (tf + tx + xc)

/-- The square root's argument aside, the variance of a map `w s` from the sums of `s` and of its squares. -/
def satV (w s1 s2 : EReal) : EReal :=
  w * w * (Ideal.div s2 nTot - Ideal.div s1 nTot * Ideal.div s1 nTot)

/-- The normalization's factor for a map `w s`, from the sums of `s` and of its squares. -/
def satA (g w s1 s2 : EReal) : EReal := Ideal.div g (Ideal.sqrt (satV w s1 s2 + eps5))

/-- The two infinite words. -/
theorem ofBits_pinf : Ideal.ofBits .f32 0x7F800000#32 = ⊤ := by simp [Ideal.ofBits, Ideal.ieee]
theorem ofBits_ninf : Ideal.ofBits .f32 0xFF800000#32 = ⊥ := by simp [Ideal.ofBits, Ideal.ieee]

/-- A block's value that starts over at every `J`-th point and takes the smaller with `term` at each: the smallest term
    since. -/
theorem inf_of_reset {N : ℕ} (f : (n : ℕ) → n < N → EReal) (J : ℕ) (term : ℕ → ℕ → EReal)
    (h0 : ∀ t : Fin N, t.val % J = 0 → f t.val t.isLt = min ⊤ (term (t.val / J) (t.val % J)))
    (hs : ∀ t : Fin N, ¬t.val % J = 0 →
      f t.val t.isLt = min (f (t.val - 1) (Nat.lt_of_le_of_lt (Nat.sub_le _ _) t.isLt)) (term (t.val / J) (t.val % J)))
    (t : Fin N) : f t.val t.isLt = (Finset.range (t.val % J + 1)).inf (term (t.val / J)) := by
  obtain ⟨n, hn⟩ := t
  induction n with
  | zero =>
    have := h0 ⟨0, hn⟩ (Nat.zero_mod J)
    simp only [Nat.zero_mod, Nat.zero_div] at this
    simpa using this
  | succ n ih =>
    by_cases h : (n + 1) % J = 0
    · have := h0 ⟨n + 1, hn⟩ h
      simp only [h] at this ⊢
      simpa using this
    · have := hs ⟨n + 1, hn⟩ h
      have i := ih (Nat.lt_of_succ_lt hn)
      simp only [Nat.add_sub_cancel] at this i ⊢
      rw [this, i]
      have hd : (n + 1) / J = n / J := by
        rw [Nat.succ_div, if_neg fun hd => h (Nat.mod_eq_zero_of_dvd hd), Nat.add_zero]
      have hm : (n + 1) % J = n % J + 1 := by
        have h1 := Nat.div_add_mod (n + 1) J
        have h2 := Nat.div_add_mod n J
        rw [hd] at h1; omega
      rw [hd, hm, Finset.range_add_one (n := n % J + 1), Finset.inf_insert, inf_comm]

/-- The same with the larger. -/
theorem sup_of_reset {N : ℕ} (f : (n : ℕ) → n < N → EReal) (J : ℕ) (term : ℕ → ℕ → EReal)
    (h0 : ∀ t : Fin N, t.val % J = 0 → f t.val t.isLt = max ⊥ (term (t.val / J) (t.val % J)))
    (hs : ∀ t : Fin N, ¬t.val % J = 0 →
      f t.val t.isLt = max (f (t.val - 1) (Nat.lt_of_le_of_lt (Nat.sub_le _ _) t.isLt)) (term (t.val / J) (t.val % J)))
    (t : Fin N) : f t.val t.isLt = (Finset.range (t.val % J + 1)).sup (term (t.val / J)) := by
  obtain ⟨n, hn⟩ := t
  induction n with
  | zero =>
    have := h0 ⟨0, hn⟩ (Nat.zero_mod J)
    simp only [Nat.zero_mod, Nat.zero_div] at this
    simpa using this
  | succ n ih =>
    by_cases h : (n + 1) % J = 0
    · have := h0 ⟨n + 1, hn⟩ h
      simp only [h] at this ⊢
      simpa using this
    · have := hs ⟨n + 1, hn⟩ h
      have i := ih (Nat.lt_of_succ_lt hn)
      simp only [Nat.add_sub_cancel] at this i ⊢
      rw [this, i]
      have hd : (n + 1) / J = n / J := by
        rw [Nat.succ_div, if_neg fun hd => h (Nat.mod_eq_zero_of_dvd hd), Nat.add_zero]
      have hm : (n + 1) % J = n % J + 1 := by
        have h1 := Nat.div_add_mod (n + 1) J
        have h2 := Nat.div_add_mod n J
        rw [hd] at h1; omega
      rw [hd, hm, Finset.range_add_one (n := n % J + 1), Finset.sup_insert, sup_comm]

/-- The smallest over stretches of `n` is the smallest over the whole. -/
theorem inf_range_mul (S n : ℕ) (f : ℕ → EReal) :
    ((Finset.range S).inf fun s => (Finset.range n).inf fun k => f (s * n + k)) = (Finset.range (S * n)).inf f := by
  apply le_antisymm
  · refine Finset.le_inf fun l hl => ?_
    have hl := Finset.mem_range.mp hl
    have hn : 0 < n := Nat.pos_of_ne_zero fun h => by subst h; simp at hl
    have h1 : l / n < S := Nat.div_lt_of_lt_mul (by rwa [Nat.mul_comm])
    have h2 := Nat.div_add_mod' l n
    refine (Finset.inf_le (Finset.mem_range.mpr h1)).trans ((Finset.inf_le (Finset.mem_range.mpr (Nat.mod_lt l hn))).trans ?_)
    rw [h2]
  · refine Finset.le_inf fun s hs => Finset.le_inf fun k hk => Finset.inf_le (Finset.mem_range.mpr ?_)
    have hs := Finset.mem_range.mp hs
    have hk := Finset.mem_range.mp hk
    nlinarith [Nat.mul_le_mul_right n (Nat.succ_le_of_lt hs)]

/-- The same with the largest. -/
theorem sup_range_mul (S n : ℕ) (f : ℕ → EReal) :
    ((Finset.range S).sup fun s => (Finset.range n).sup fun k => f (s * n + k)) = (Finset.range (S * n)).sup f := by
  apply le_antisymm
  · refine Finset.sup_le fun s hs => Finset.sup_le fun k hk => Finset.le_sup (f := f) (Finset.mem_range.mpr ?_)
    have hs := Finset.mem_range.mp hs
    have hk := Finset.mem_range.mp hk
    nlinarith [Nat.mul_le_mul_right n (Nat.succ_le_of_lt hs)]
  · refine Finset.sup_le fun l hl => ?_
    have hl := Finset.mem_range.mp hl
    have hn : 0 < n := Nat.pos_of_ne_zero fun h => by subst h; simp at hl
    have h1 : l / n < S := Nat.div_lt_of_lt_mul (by rwa [Nat.mul_comm])
    have h2 := Nat.div_add_mod' l n
    refine le_trans ?_ (Finset.le_sup (f := fun s => (Finset.range n).sup fun k => f (s * n + k)) (Finset.mem_range.mpr h1))
    refine le_trans ?_ (Finset.le_sup (f := fun k => f (l / n * n + k)) (Finset.mem_range.mpr (Nat.mod_lt l hn)))
    simp only [h2]; exact le_refl _

/-- A fold of minima over an axis of length `n` is the smallest over the first `n` numbers; likewise of maxima. -/
theorem fold_min_range (n : ℕ) (f : ℕ → EReal) :
    (Finset.univ.fold min ⊤ fun k : Fin n => f k.val) = (Finset.range n).inf f := by
  apply le_antisymm
  · refine Finset.le_inf fun l hl => ?_
    exact Finset.inf_le (s := Finset.univ) (f := fun k : Fin n => f k.val) (Finset.mem_univ ⟨l, Finset.mem_range.mp hl⟩)
  · exact Finset.le_inf (s := Finset.univ) fun k _ => Finset.inf_le (Finset.mem_range.mpr k.isLt)
theorem fold_max_range (n : ℕ) (f : ℕ → EReal) :
    (Finset.univ.fold max ⊥ fun k : Fin n => f k.val) = (Finset.range n).sup f := by
  apply le_antisymm
  · exact Finset.sup_le (s := Finset.univ) fun k _ => Finset.le_sup (f := f) (Finset.mem_range.mpr k.isLt)
  · refine Finset.sup_le fun l hl => ?_
    exact Finset.le_sup (s := Finset.univ) (f := fun k : Fin n => f k.val) (Finset.mem_univ ⟨l, Finset.mem_range.mp hl⟩)

end Cert.KVal
-- ==== Proof.RefSpec.lean ====
/-
  The functions the reference is read as, where they differ from the kernel's: the batch normalization by the mean and the
  mean squared deviation, the levels of the histogram, and the texture and attention maps before their normalizations.
-/
module

public import proofs.«01_k».proof.Proof.Spec

@[expose] public section

noncomputable section

namespace Cert.KVal

open Idealize.ShloMosaic

/-- A channel's sum over all images, rows and columns, its mean, and its mean squared deviation from `m`. -/
def sum3 (f : ℕ → ℕ → ℕ → ℕ → EReal) (o : ℕ) : EReal :=
  ∑ b ∈ Finset.range 4, ∑ h ∈ Finset.range 224, ∑ w ∈ Finset.range 224, f b o h w
def mean4 (f : ℕ → ℕ → ℕ → ℕ → EReal) (o : ℕ) : EReal := Ideal.div (sum3 f o) nTot
def var4 (f : ℕ → ℕ → ℕ → ℕ → EReal) (o : ℕ) : EReal :=
  Ideal.div (sum3 (fun b o h w => (f b o h w - mean4 f o) * (f b o h w - mean4 f o)) o) nTot

/-- The batch normalization. -/
def bnR (f : ℕ → ℕ → ℕ → ℕ → EReal) (g s : ℕ → EReal) (b o h w : ℕ) : EReal :=
  Ideal.div (f b o h w - mean4 f o) (Ideal.sqrt (var4 f o + eps5)) * g o + s o

/-- The 1×1 convolution over rows and columns, the value on the left. -/
def linR (w1 : ℕ → ℕ → EReal) (x : ℕ → ℕ → ℕ → ℕ → EReal) (b o h w : ℕ) : EReal :=
  ∑ i ∈ Finset.range 96, x b i h w * w1 o i

/-- An image's pixels in one row. -/
def flat (x : ℕ → ℕ → ℕ → ℕ → EReal) (b o n : ℕ) : EReal := x b o (n / 224) (n % 224)

/-- The mean of a channel of one image, dividing by the float `50176`. -/
def meanHW (x : ℕ → ℕ → ℕ → ℕ → EReal) (b o : ℕ) : EReal :=
  Ideal.div (∑ h ∈ Finset.range 224, ∑ w ∈ Finset.range 224, x b o h w) (Ideal.ofBits .f32 0x47440000#32)

/-- Ten equally spaced numbers from zero to one. -/
def ninth (i : ℕ) : EReal := Ideal.div (FloatOps.sitofp (F := Ideal) .f32 (BitVec.ofNat 32 i)) (Ideal.ofBits .f32 0x41100000#32)
def lsp (i : ℕ) : EReal := if i < 9 then 0 * (1 - ninth i) + 1 * ninth i else 1

/-- The levels of an image's histogram, and a pixel's bins. -/
def level (s : ℕ → ℕ → EReal) (b k : ℕ) : EReal := lo s b + (hi s b - lo s b) * lsp k
def bins (s : ℕ → ℕ → EReal) (b n k : ℕ) : EReal := bin (level s b k) (s b n)

/-- A bin's sum over the pixels, and the sum of all bins. -/
def binSum (s : ℕ → ℕ → EReal) (b k : ℕ) : EReal := ∑ n ∈ Finset.range 50176, bins s b n k
def binTot (s : ℕ → ℕ → EReal) (b : ℕ) : EReal := ∑ k ∈ Finset.range 10, binSum s b k

/-- The pairs (share, level), one row for each image and bin. -/
def pair (s : ℕ → ℕ → EReal) (r k : ℕ) : EReal :=
  if k = 0 then Ideal.div (binSum s (r / 10) (r % 10)) (binTot s (r / 10)) else level s (r / 10) (r % 10)

/-- The bins' features of one image: the fully connected layer's rows read in order as 96 rows of 10. -/
def feat (s : ℕ → ℕ → EReal) (wf : ℕ → ℕ → EReal) (bf : ℕ → EReal) (b o m : ℕ) : EReal :=
  fc (pair s) wf bf ((b * 960 + o * 10 + m) / 96) ((b * 960 + o * 10 + m) % 96)

/-- An image's bins read in order as ten rows of pixels. -/
def rows (s : ℕ → ℕ → EReal) (b i n : ℕ) : EReal := bins s b ((i * 50176 + n) / 10) ((i * 50176 + n) % 10)

/-- The texture map of coefficients `lp`, and the attention map, over rows and columns. -/
def texMap (lp : ℕ → ℕ → ℕ → EReal) (s : ℕ → ℕ → EReal) (b o h w : ℕ) : EReal :=
  ∑ m ∈ Finset.range 10, lp b o m * rows s b m (h * 224 + w)
def satMap (s : ℕ → ℕ → EReal) (w2 : ℕ → EReal) (b o h w : ℕ) : EReal := s b (h * 224 + w) * w2 o

end Cert.KVal
-- ==== Proof.RefA.lean ====
/-
  The reference's values, stage by stage, read at an index: the 1×1 convolution, the batch normalizations and the depthwise convolutions.
-/
module

public import proofs.«01_k».proof.Proof.RefSpec
public import proofs.«01_k».proof.Proof.Gen.ReferenceIdeal.Read

@[expose] public section

set_option maxRecDepth 16384

noncomputable section

namespace Cert.KVal

open Cert.ReferenceIdeal Cert.ReferenceIdeal.Gen Cert.ReferenceIdeal.Read
open Idealize.ShloMosaic Idealize.ShloMosaic.TcCoe Idealize.ShloMosaic.Tactic

abbrev Img := FVec Ideal S4x96x224x224 .f32
abbrev Chan := FVec Ideal S96 .f32

/-- The mean over images, rows and columns, and the normalization, of whole arrays. -/
def meanVec (f : Img) : FVec Ideal S1x96x1x1 .f32 :=
  (Host.divf (broadcastInDim S1x96x1x1 ![1] bcast_S96_S1x96x1x1_1 (Host.reduceAdd f (constant S_ .f32 0x00000000#32) reducesTo_S4x96x224x224_S96_d0_2_3 h_S_)) (broadcastInDim S1x96x1x1 ![] bcast_S_S1x96x1x1 (constant S_ .f32 0x48440000#32)))

def devVec (f : Img) : Img := subf f (broadcastInDim S4x96x224x224 ![0, 1, 2, 3] bcast_S1x96x1x1_S4x96x224x224_0_1_2_3 (meanVec f))

def bnVec (f : Img) (g s : Chan) : Img :=
  addf (mulf (Host.divf (devVec f)
      (broadcastInDim S4x96x224x224 ![0, 1, 2, 3] bcast_S1x96x1x1_S4x96x224x224_0_1_2_3 (Host.sqrt (addf (meanVec (mulf (devVec f) (devVec f))) (broadcastInDim S1x96x1x1 ![] bcast_S_S1x96x1x1 (constant S_ .f32 0x3727C5AC#32))))))
      (broadcastInDim S4x96x224x224 ![0, 1, 2, 3] bcast_S1x96x1x1_S4x96x224x224_0_1_2_3 (shapeCast S1x96x1x1 g shapeCasts_S96_S1x96x1x1)))
    (broadcastInDim S4x96x224x224 ![0, 1, 2, 3] bcast_S1x96x1x1_S4x96x224x224_0_1_2_3 (shapeCast S1x96x1x1 s shapeCasts_S96_S1x96x1x1))

/-- The elements of an array that a sum over images, rows and columns gathers at channel `o`. -/
theorem fiber_img (h : S4x96x224x224.ReducesTo [0, 2, 3] S96) (o : Fin 96) (i : S4x96x224x224.Idx) :
    h.drop i = ix1 o ↔ ∃ k : Fin 4 × Fin 224 × Fin 224, ix4 k.1 o k.2.1 k.2.2 = i := by
  constructor
  · intro e
    refine ⟨(i 0, i 2, i 3), ?_⟩
    funext a
    apply Fin.ext
    match a with
    | ⟨0, _⟩ => rfl
    | ⟨1, _⟩ => exact (congrArg Fin.val (congrFun e 0)).symm
    | ⟨2, _⟩ => rfl
    | ⟨3, _⟩ => rfl
  · rintro ⟨k, rfl⟩
    funext b
    apply Fin.ext
    match b with
    | ⟨0, _⟩ => rfl

theorem sum_img (h : S4x96x224x224.ReducesTo [0, 2, 3] S96) (x : S4x96x224x224.Idx → EReal) (z : EReal) (o : Fin 96) :
    Ideal.hostReduceAdd h x z (ix1 o) = z + ∑ b : Fin 4, ∑ i : Fin 224, ∑ j : Fin 224, x (ix4 b o i j) := by
  refine congrArg (z + ·) ?_
  refine (Finset.sum_filter_eq_sum_of_fiber (fun i => h.drop i = ix1 o)
    (fun k : Fin 4 × Fin 224 × Fin 224 => ix4 k.1 o k.2.1 k.2.2)
    (fun _ _ e => Prod.ext (congrFun e 0) (Prod.ext (congrFun e 2) (congrFun e 3))) (fiber_img h o) x).trans ?_
  simp only [Fintype.sum_prod_type]

theorem meanVec_apply (f : Img) (F : ℕ → ℕ → ℕ → ℕ → EReal)
    (hf : ∀ (b : Fin 4) (o : Fin 96) (h w : Fin 224), f (ix4 b o h w) = F b o h w) (o : Fin 96) :
    meanVec f (ix4 0 o 0 0) = mean4 F o := by
  unfold meanVec
  pointwise
  rw [sum_img, zero_add]
  simp only [hf, mean4, sum3, Finset.sum_range]
  rfl

theorem devVec_apply (f : Img) (F : ℕ → ℕ → ℕ → ℕ → EReal)
    (hf : ∀ (b : Fin 4) (o : Fin 96) (h w : Fin 224), f (ix4 b o h w) = F b o h w)
    (b : Fin 4) (o : Fin 96) (h w : Fin 224) :
    devVec f (ix4 b o h w) = F b o h w - mean4 F o := by
  unfold devVec
  pointwise
  rw [hf, meanVec_apply f F hf]

theorem bnVec_apply (f : Img) (F : ℕ → ℕ → ℕ → ℕ → EReal)
    (hf : ∀ (b : Fin 4) (o : Fin 96) (h w : Fin 224), f (ix4 b o h w) = F b o h w)
    (g s : Chan) (G S : ℕ → EReal) (hg : ∀ o : Fin 96, g (ix1 o) = G o) (hs : ∀ o : Fin 96, s (ix1 o) = S o)
    (b : Fin 4) (o : Fin 96) (h w : Fin 224) :
    bnVec f g s (ix4 b o h w) = bnR F G S b o h w := by
  have hm := meanVec_apply (mulf (devVec f) (devVec f))
    (fun b o h w => (F b o h w - mean4 F o) * (F b o h w - mean4 F o))
    (fun b o h w => by pointwise; rw [devVec_apply f F hf]) o
  have hd := devVec_apply f F hf b o h w
  unfold bnVec
  pointwise
  rw [hd, hm, hg, hs]
  rfl

theorem padAt_eq (p : ℕ) (f : ℕ → EReal) (i : ℕ) (z : EReal) (hz : z = 0) :
    (if p ≤ i ∧ i - p < 224 then f (i - p) else z) = padAt p f i := by
  unfold padAt
  by_cases h1 : i < p
  · rw [if_pos h1, if_neg (fun h => absurd h.1 (by omega)), hz]
  · rw [if_neg h1]
    by_cases h2 : i - p < 224
    · rw [if_pos h2, if_pos ⟨by omega, h2⟩]
    · rw [if_neg h2, if_neg (fun h => h2 h.2), hz]

theorem v2_apply (x0 : (⟨S4x96x224x224, .f32⟩ : BufTy).Contents (Elt Ideal)) (x1 : (⟨S96x96x1x1, .f32⟩ : BufTy).Contents (Elt Ideal)) (X : ℕ → ℕ → ℕ → ℕ → EReal) (W : ℕ → ℕ → EReal)
    (hx : ∀ (b : Fin 4) (o : Fin 96) (h w : Fin 224), x0 (ix4 b o h w) = X b o h w)
    (hw : ∀ o i : Fin 96, x1 (ix4 o i 0 0) = W o i) (b : Fin 4) (o : Fin 96) (h w : Fin 224) :
    val_main_v2 (F := Ideal) x0 x1 (ix4 b o h w) = linR W X b o h w := by
  unfold val_main_v2 val_main_v1 val_main_v0
  pointwise
  simp only [hx, hw, linR, Finset.sum_range]

theorem v26_eq (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) :
    val_main_v26 (F := Ideal) x0 x1 x2 x3 = bnVec (val_main_v2 (F := Ideal) x0 x1) x2 x3 := by
  unfold bnVec devVec meanVec
  simp only [val_main_v26, val_main_v25, val_main_v24, val_main_v23, val_main_v22, val_main_v21, val_main_v20, val_main_v19, val_main_v18, val_main_v17, val_main_v16, val_main_cst_3, val_main_v15, val_main_v14, val_main_v13, val_main_v12, val_main_cst_2, val_main_v11, val_main_v10, val_main_cst_1, val_main_v9, val_main_v8, val_main_v7, val_main_v6, val_main_v5, val_main_cst_0, val_main_v4, val_main_v3, val_main_cst]

theorem v87_eq (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) :
    val_main_v87 (F := Ideal) x0 x1 x2 x3 x4 x5 x6 = bnVec (val_main_v63 (F := Ideal) x0 x1 x2 x3 x4) x5 x6 := by
  unfold bnVec devVec meanVec
  simp only [val_main_v87, val_main_v86, val_main_v85, val_main_v84, val_main_v83, val_main_v82, val_main_v81, val_main_v80, val_main_v79, val_main_v78, val_main_v77, val_main_cst_9, val_main_v76, val_main_v75, val_main_v74, val_main_v73, val_main_cst_8, val_main_v72, val_main_v71, val_main_cst_7, val_main_v70, val_main_v69, val_main_v68, val_main_v67, val_main_v66, val_main_cst_6, val_main_v65, val_main_v64, val_main_cst_5]

theorem v148_eq (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) :
    val_main_v148 (F := Ideal) x0 x1 x2 x3 x4 x5 x6 x7 x8 x9 = bnVec (val_main_v124 (F := Ideal) x0 x1 x2 x3 x4 x5 x6 x7) x8 x9 := by
  unfold bnVec devVec meanVec
  simp only [val_main_v148, val_main_v147, val_main_v146, val_main_v145, val_main_v144, val_main_v143, val_main_v142, val_main_v141, val_main_v140, val_main_v139, val_main_v138, val_main_cst_16, val_main_v137, val_main_v136, val_main_v135, val_main_v134, val_main_cst_15, val_main_v133, val_main_v132, val_main_cst_14, val_main_v131, val_main_v130, val_main_v129, val_main_v128, val_main_v127, val_main_cst_13, val_main_v126, val_main_v125, val_main_cst_12]

theorem v212_eq (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) :
    val_main_v212 (F := Ideal) x0 x1 x2 x3 x4 x5 x6 x7 x8 x9 x10 x11 x12 x13 = bnVec (val_main_v188 (F := Ideal) x0 x1 x2 x3 x4 x5 x6 x7 x8 x9 x10 x11) x12 x13 := by
  unfold bnVec devVec meanVec
  simp only [val_main_v212, val_main_v211, val_main_v210, val_main_v209, val_main_v208, val_main_v207, val_main_v206, val_main_v205, val_main_v204, val_main_v203, val_main_v202, val_main_cst_23, val_main_v201, val_main_v200, val_main_v199, val_main_v198, val_main_cst_22, val_main_v197, val_main_v196, val_main_cst_21, val_main_v195, val_main_v194, val_main_v193, val_main_v192, val_main_v191, val_main_cst_20, val_main_v190, val_main_v189, val_main_cst_19]

theorem v276_eq (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (x14 : (⟨S96x1x5x1, .f32⟩ : BufTy).Contents (Elt Ideal)) (x15 x16 x17 : (⟨S96, .f32⟩ : BufTy).Contents (Elt Ideal)) :
    val_main_v276 (F := Ideal) x0 x1 x2 x3 x4 x5 x6 x7 x8 x9 x10 x11 x12 x13 x14 x15 x16 x17 = bnVec (val_main_v252 (F := Ideal) x0 x1 x2 x3 x4 x5 x6 x7 x8 x9 x10 x11 x12 x13 x14 x15) x16 x17 := by
  unfold bnVec devVec meanVec
  simp only [val_main_v276, val_main_v275, val_main_v274, val_main_v273, val_main_v272, val_main_v271, val_main_v270, val_main_v269, val_main_v268, val_main_v267, val_main_v266, val_main_cst_30, val_main_v265, val_main_v264, val_main_v263, val_main_v262, val_main_cst_29, val_main_v261, val_main_v260, val_main_cst_28, val_main_v259, val_main_v258, val_main_v257, val_main_v256, val_main_v255, val_main_cst_27, val_main_v254, val_main_v253, val_main_cst_26]

theorem v390_eq (x0 : (⟨S4x96x224x224, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 x27 x28 : (⟨S96, .f32⟩ : BufTy).Contents (Elt Ideal)) :
    val_main_v390 (F := Ideal) x0 x18 x19 x20 x21 x22 x23 x24 x25 x27 x28 = bnVec (val_main_v366 (F := Ideal) x0 x18 x19 x20 x21 x22 x23 x24 x25) x27 x28 := by
  unfold bnVec devVec meanVec
  simp only [val_main_v390, val_main_v389, val_main_v388, val_main_v387, val_main_v386, val_main_v385, val_main_v384, val_main_v383, val_main_v382, val_main_v381, val_main_v380, val_main_cst_54, val_main_v379, val_main_v378, val_main_v377, val_main_v376, val_main_cst_53, val_main_v375, val_main_v374, val_main_cst_52, val_main_v373, val_main_v372, val_main_v371, val_main_v370, val_main_v369, val_main_cst_51, val_main_v368, val_main_v367, val_main_cst_50]

theorem v420_eq (x0 : (⟨S4x96x224x224, .f32⟩ : BufTy).Contents (Elt Ideal)) (x26 : (⟨S96x1x1x1, .f32⟩ : BufTy).Contents (Elt Ideal)) (x29 x30 : (⟨S96, .f32⟩ : BufTy).Contents (Elt Ideal)) :
    val_main_v420 (F := Ideal) x0 x26 x29 x30 = bnVec (val_main_v396 (F := Ideal) x0 x26) x29 x30 := by
  unfold bnVec devVec meanVec
  simp only [val_main_v420, val_main_v419, val_main_v418, val_main_v417, val_main_v416, val_main_v415, val_main_v414, val_main_v413, val_main_v412, val_main_v411, val_main_v410, val_main_cst_59, val_main_v409, val_main_v408, val_main_v407, val_main_v406, val_main_cst_58, val_main_v405, val_main_v404, val_main_cst_57, val_main_v403, val_main_v402, val_main_v401, val_main_v400, val_main_v399, val_main_cst_56, val_main_v398, val_main_v397, val_main_cst_55]

theorem v27_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (A : ℕ → ℕ → ℕ → ℕ → EReal)
    (hA : ∀ (b : Fin 4) (o : Fin 96) (h w : Fin 224), val_main_v26 (F := Ideal) x0 x1 x2 x3 (ix4 b o h w) = A b o h w)
    (b : Fin 4) (o : Fin 96) (h : Fin 224) (w : Fin 228) :
    val_main_v27 (F := Ideal) x0 x1 x2 x3 (ix4 b o h w) = padAt 2 (fun w => A b o h w) w := by
  have hz : ∀ u, val_main_call0_v0 (F := Ideal) u = (0 : EReal) := fun u => by
    simp [val_main_call0_v0, val_main_c, sitofp, constant, constantI, FloatOps.sitofp]
  unfold val_main_v27
  pointwise
  rw [← padAt_eq 2 _ _ _ (hz (Shape.Idx.first h_S_))]
  simp only [hA]
  split <;> rfl

theorem v63_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (A : ℕ → ℕ → ℕ → ℕ → EReal)
    (hA : ∀ (b : Fin 4) (o : Fin 96) (h w : Fin 224), val_main_v26 (F := Ideal) x0 x1 x2 x3 (ix4 b o h w) = A b o h w)
    (K : ℕ → ℕ → EReal) (hK : ∀ (o : Fin 96) (t : Fin 5), x4 (ix4 o 0 0 t) = K o t)
    (b : Fin 4) (o : Fin 96) (h w : Fin 224) :
    val_main_v63 (F := Ideal) x0 x1 x2 x3 x4 (ix4 b o h w) = convW1 K A b o h w := by
  have hp := v27_apply x0 x1 x2 x3 A hA
  simp only [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_4, val_main_v33, val_main_v32, val_main_v31, val_main_v30, val_main_v29, val_main_v28]
  pointwise
  simp [hp, hK, convW1, conv5, Nat.add_comm]

theorem v88_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (A : ℕ → ℕ → ℕ → ℕ → EReal)
    (hA : ∀ (b : Fin 4) (o : Fin 96) (h w : Fin 224), val_main_v87 (F := Ideal) x0 x1 x2 x3 x4 x5 x6 (ix4 b o h w) = A b o h w)
    (b : Fin 4) (o : Fin 96) (h : Fin 228) (w : Fin 224) :
    val_main_v88 (F := Ideal) x0 x1 x2 x3 x4 x5 x6 (ix4 b o h w) = padAt 2 (fun h => A b o h w) h := by
  have hz : ∀ u, val_main_call1_v0 (F := Ideal) u = (0 : EReal) := fun u => by
    simp [val_main_call1_v0, val_main_c_10, sitofp, constant, constantI, FloatOps.sitofp]
  unfold val_main_v88
  pointwise
  rw [← padAt_eq 2 _ _ _ (hz (Shape.Idx.first h_S_))]
  simp only [hA]
  split <;> rfl

theorem v124_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (A : ℕ → ℕ → ℕ → ℕ → EReal)
    (hA : ∀ (b : Fin 4) (o : Fin 96) (h w : Fin 224), val_main_v87 (F := Ideal) x0 x1 x2 x3 x4 x5 x6 (ix4 b o h w) = A b o h w)
    (K : ℕ → ℕ → EReal) (hK : ∀ (o : Fin 96) (t : Fin 5), x7 (ix4 o 0 t 0) = K o t)
    (b : Fin 4) (o : Fin 96) (h w : Fin 224) :
    val_main_v124 (F := Ideal) x0 x1 x2 x3 x4 x5 x6 x7 (ix4 b o h w) = convH1 K A b o h w := by
  have hp := v88_apply x0 x1 x2 x3 x4 x5 x6 A hA
  simp only [val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_cst_11, val_main_v94, val_main_v93, val_main_v92, val_main_v91, val_main_v90, val_main_v89]
  pointwise
  simp [hp, hK, convH1, conv5, Nat.add_comm]

theorem v149_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (A : ℕ → ℕ → ℕ → ℕ → EReal)
    (hA : ∀ (b : Fin 4) (o : Fin 96) (h w : Fin 224), val_main_v148 (F := Ideal) x0 x1 x2 x3 x4 x5 x6 x7 x8 x9 (ix4 b o h w) = A b o h w)
    (b : Fin 4) (o : Fin 96) (h : Fin 224) (w : Fin 232) :
    val_main_v149 (F := Ideal) x0 x1 x2 x3 x4 x5 x6 x7 x8 x9 (ix4 b o h w) = padAt 4 (fun w => A b o h w) w := by
  have hz : ∀ u, val_main_call2_v0 (F := Ideal) u = (0 : EReal) := fun u => by
    simp [val_main_call2_v0, val_main_c_17, sitofp, constant, constantI, FloatOps.sitofp]
  unfold val_main_v149
  pointwise
  rw [← padAt_eq 4 _ _ _ (hz (Shape.Idx.first h_S_))]
  simp only [hA]
  split <;> rfl

theorem v188_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 : (⟨S96, .f32⟩ : BufTy).Contents (Elt Ideal)) (A : ℕ → ℕ → ℕ → ℕ → EReal)
    (hA : ∀ (b : Fin 4) (o : Fin 96) (h w : Fin 224), val_main_v148 (F := Ideal) x0 x1 x2 x3 x4 x5 x6 x7 x8 x9 (ix4 b o h w) = A b o h w)
    (K : ℕ → ℕ → EReal) (hK : ∀ (o : Fin 96) (t : Fin 5), x10 (ix4 o 0 0 t) = K o t) (B : ℕ → EReal) (hB : ∀ o : Fin 96, x11 (ix1 o) = B o)
    (b : Fin 4) (o : Fin 96) (h w : Fin 224) :
    val_main_v188 (F := Ideal) x0 x1 x2 x3 x4 x5 x6 x7 x8 x9 x10 x11 (ix4 b o h w) = convW2 K B A b o h w := by
  have hp := v149_apply x0 x1 x2 x3 x4 x5 x6 x7 x8 x9 A hA
  simp only [val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_cst_18, val_main_v155, val_main_v154, val_main_v153, val_main_v152, val_main_v151, val_main_v150]
  pointwise
  simp [hp, hK, hB, convW2, conv5, Nat.add_comm]

theorem v213_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (A : ℕ → ℕ → ℕ → ℕ → EReal)
    (hA : ∀ (b : Fin 4) (o : Fin 96) (h w : Fin 224), val_main_v212 (F := Ideal) x0 x1 x2 x3 x4 x5 x6 x7 x8 x9 x10 x11 x12 x13 (ix4 b o h w) = A b o h w)
    (b : Fin 4) (o : Fin 96) (h : Fin 232) (w : Fin 224) :
    val_main_v213 (F := Ideal) x0 x1 x2 x3 x4 x5 x6 x7 x8 x9 x10 x11 x12 x13 (ix4 b o h w) = padAt 4 (fun h => A b o h w) h := by
  have hz : ∀ u, val_main_call3_v0 (F := Ideal) u = (0 : EReal) := fun u => by
    simp [val_main_call3_v0, val_main_c_24, sitofp, constant, constantI, FloatOps.sitofp]
  unfold val_main_v213
  pointwise
  rw [← padAt_eq 4 _ _ _ (hz (Shape.Idx.first h_S_))]
  simp only [hA]
  split <;> rfl

theorem v252_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (x14 : (⟨S96x1x5x1, .f32⟩ : BufTy).Contents (Elt Ideal)) (x15 : (⟨S96, .f32⟩ : BufTy).Contents (Elt Ideal)) (A : ℕ → ℕ → ℕ → ℕ → EReal)
    (hA : ∀ (b : Fin 4) (o : Fin 96) (h w : Fin 224), val_main_v212 (F := Ideal) x0 x1 x2 x3 x4 x5 x6 x7 x8 x9 x10 x11 x12 x13 (ix4 b o h w) = A b o h w)
    (K : ℕ → ℕ → EReal) (hK : ∀ (o : Fin 96) (t : Fin 5), x14 (ix4 o 0 t 0) = K o t) (B : ℕ → EReal) (hB : ∀ o : Fin 96, x15 (ix1 o) = B o)
    (b : Fin 4) (o : Fin 96) (h w : Fin 224) :
    val_main_v252 (F := Ideal) x0 x1 x2 x3 x4 x5 x6 x7 x8 x9 x10 x11 x12 x13 x14 x15 (ix4 b o h w) = convH2 K B A b o h w := by
  have hp := v213_apply x0 x1 x2 x3 x4 x5 x6 x7 x8 x9 x10 x11 x12 x13 A hA
  simp only [val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_cst_25, val_main_v219, val_main_v218, val_main_v217, val_main_v216, val_main_v215, val_main_v214]
  pointwise
  simp [hp, hK, hB, convH2, conv5, Nat.add_comm]

end Cert.KVal
-- ==== Proof.RefB.lean ====
/-
  The reference's values, stage by stage, read at an index: the cosine, the histogram and its levels, the texture coefficients, and the result.
-/
module

public import proofs.«01_k».proof.Proof.RefA
public import proofs.«01_k».proof.Proof.Gen.ReferenceIdeal.Read

@[expose] public section

set_option maxRecDepth 16384

noncomputable section

namespace Cert.KVal

open Cert.ReferenceIdeal Cert.ReferenceIdeal.Gen Cert.ReferenceIdeal.Read
open Idealize.ShloMosaic Idealize.ShloMosaic.TcCoe Idealize.ShloMosaic.Tactic

theorem v280_apply (x0 : (⟨S4x96x224x224, .f32⟩ : BufTy).Contents (Elt Ideal)) (X : ℕ → ℕ → ℕ → ℕ → EReal)
    (hx : ∀ (b : Fin 4) (o : Fin 96) (h w : Fin 224), x0 (ix4 b o h w) = X b o h w) (b : Fin 4) (o : Fin 96) :
    val_main_v280 (F := Ideal) x0 (ix4 b o 0 0) = meanHW X b o := by
  simp only [val_main_v280, val_main_v279, val_main_cst_32, val_main_v278, val_main_v277, val_main_cst_31]
  pointwise
  simp only [hx, meanHW, Finset.sum_range]

theorem v296_apply (x0 : (⟨S4x96x224x224, .f32⟩ : BufTy).Contents (Elt Ideal)) (X : ℕ → ℕ → ℕ → ℕ → EReal)
    (hx : ∀ (b : Fin 4) (o : Fin 96) (h w : Fin 224), x0 (ix4 b o h w) = X b o h w) (b : Fin 4) (h w : Fin 224) :
    val_main_v296 (F := Ideal) x0 (ix3 b h w) = Ideal.div (∑ i ∈ Finset.range 96, meanHW X b i * X b i h w)
      (max (Ideal.sqrt (∑ i ∈ Finset.range 96, meanHW X b i * meanHW X b i)) eps8
        * max (Ideal.sqrt (∑ i ∈ Finset.range 96, X b i h w * X b i h w)) eps8) := by
  have hm := v280_apply x0 X hx
  simp only [val_main_v296, val_main_v295, val_main_v294, val_main_v293, val_main_v292, val_main_cst_37, val_main_v291, val_main_v290, val_main_cst_36, val_main_v289, val_main_v288, val_main_cst_35, val_main_v287, val_main_v286, val_main_v285, val_main_cst_34, val_main_v284, val_main_v283, val_main_cst_33, val_main_v282, val_main_v281]
  pointwise
  simp only [hx, hm, eps8, Finset.sum_range]

theorem v297_apply (x0 : (⟨S4x96x224x224, .f32⟩ : BufTy).Contents (Elt Ideal)) (X : ℕ → ℕ → ℕ → ℕ → EReal)
    (hx : ∀ (b : Fin 4) (o : Fin 96) (h w : Fin 224), x0 (ix4 b o h w) = X b o h w) (b : Fin 4) (n : Fin 50176) :
    val_main_v297 (F := Ideal) x0 (ix2 b n) = cosine (meanHW X) (flat X) b n := by
  have h := v296_apply x0 X hx
  unfold val_main_v297
  pointwise
  have e1 : (b.val * 50176 + n.val) / 224 % 224 = n.val / 224 := by omega
  have e2 : (b.val * 50176 + n.val) % 224 = n.val % 224 := by omega
  simp [h, cosine, flat, e1, e2]

theorem v300_apply (i : Fin 10) : val_main_v300 (F := Ideal) (ix1 i) = lsp i := by
  simp only [val_main_v300, val_main_call4_v16, val_main_call4_v15, val_main_call4_v14, val_main_call4_v13, val_main_call4_v12, val_main_call4_v11, val_main_call4_v10, val_main_call4_v9, val_main_call4_v8, val_main_call4_cst_1, val_main_call4_v7, val_main_call4_v6, val_main_call4_v5, val_main_call4_cst_0, val_main_call4_v4, val_main_call4_v1, val_main_call4_v0, val_main_cst_41, val_main_cst_40]
  pointwise
  simp [lsp, ninth, constant]

theorem v298_apply (x0 : (⟨S4x96x224x224, .f32⟩ : BufTy).Contents (Elt Ideal)) (S : ℕ → ℕ → EReal)
    (hs : ∀ (b : Fin 4) (n : Fin 50176), val_main_v297 (F := Ideal) x0 (ix2 b n) = S b n) (b : Fin 4) : val_main_v298 (F := Ideal) x0 (ix1 b) = hi S b := by
  simp only [val_main_v298, val_main_cst_38]
  pointwise
  simp only [hs, hi, ofBits_ninf, ← fold_max_range]

theorem v299_apply (x0 : (⟨S4x96x224x224, .f32⟩ : BufTy).Contents (Elt Ideal)) (S : ℕ → ℕ → EReal)
    (hs : ∀ (b : Fin 4) (n : Fin 50176), val_main_v297 (F := Ideal) x0 (ix2 b n) = S b n) (b : Fin 4) : val_main_v299 (F := Ideal) x0 (ix1 b) = lo S b := by
  simp only [val_main_v299, val_main_cst_39]
  pointwise
  simp only [hs, lo, ofBits_pinf, ← fold_min_range]

theorem v309_apply (x0 : (⟨S4x96x224x224, .f32⟩ : BufTy).Contents (Elt Ideal)) (S : ℕ → ℕ → EReal)
    (hs : ∀ (b : Fin 4) (n : Fin 50176), val_main_v297 (F := Ideal) x0 (ix2 b n) = S b n) (b : Fin 4) (k : Fin 10) : val_main_v309 (F := Ideal) x0 (ix2 b k) = level S b k := by
  have h0 := v298_apply x0 S hs
  have h1 := v299_apply x0 S hs
  have h2 := v300_apply
  simp only [val_main_v309, val_main_v308, val_main_v307, val_main_v306, val_main_v305, val_main_v304, val_main_v303, val_main_v302, val_main_v301]
  pointwise
  simp only [h0, h1, h2, level]

theorem v320_apply (x0 : (⟨S4x96x224x224, .f32⟩ : BufTy).Contents (Elt Ideal)) (S : ℕ → ℕ → EReal)
    (hs : ∀ (b : Fin 4) (n : Fin 50176), val_main_v297 (F := Ideal) x0 (ix2 b n) = S b n) (b : Fin 4) (n : Fin 50176) (k : Fin 10) :
    val_main_v320 (F := Ideal) x0 (ix3 b n k) = bins S b n k := by
  have h := v309_apply x0 S hs
  simp only [val_main_v320, val_main_call5_v1, val_main_call5_v0, val_main_cst_44, val_main_v319, val_main_v318, val_main_cst_43, val_main_v317, val_main_v316, val_main_cst_42, val_main_v315, val_main_v314, val_main_v313, val_main_v312, val_main_v311, val_main_v310]
  pointwise
  simp [h, hs, constant]
  rfl

theorem v321_apply (x0 : (⟨S4x96x224x224, .f32⟩ : BufTy).Contents (Elt Ideal)) (S : ℕ → ℕ → EReal)
    (hs : ∀ (b : Fin 4) (n : Fin 50176), val_main_v297 (F := Ideal) x0 (ix2 b n) = S b n) (b : Fin 4) (k : Fin 10) : val_main_v321 (F := Ideal) x0 (ix2 b k) = binSum S b k := by
  have h := v320_apply x0 S hs
  simp only [val_main_v321, val_main_cst_45]
  pointwise
  simp only [h, binSum, Finset.sum_range]

theorem v322_apply (x0 : (⟨S4x96x224x224, .f32⟩ : BufTy).Contents (Elt Ideal)) (S : ℕ → ℕ → EReal)
    (hs : ∀ (b : Fin 4) (n : Fin 50176), val_main_v297 (F := Ideal) x0 (ix2 b n) = S b n) (b : Fin 4) : val_main_v322 (F := Ideal) x0 (ix1 b) = binTot S b := by
  have h := v320_apply x0 S hs
  simp only [val_main_v322, val_main_cst_46]
  pointwise
  simp only [h, binTot, binSum, Finset.sum_range]
  exact Finset.sum_comm

theorem v329_apply (x0 : (⟨S4x96x224x224, .f32⟩ : BufTy).Contents (Elt Ideal)) (S : ℕ → ℕ → EReal)
    (hs : ∀ (b : Fin 4) (n : Fin 50176), val_main_v297 (F := Ideal) x0 (ix2 b n) = S b n) (r : Fin 40) (k : Fin 2) :
    val_main_v329 (F := Ideal) x0 (ix2 r k) = pair S r k := by
  have h0 := v321_apply x0 S hs
  have h1 := v322_apply x0 S hs
  have h2 := v309_apply x0 S hs
  simp only [val_main_v329, val_main_v328, val_main_v327, val_main_v326, val_main_v325, val_main_v324, val_main_v323]
  pointwise
  unfold pair
  split
  · next hk => simp [h0, h1, show k.val = 0 by omega]
  · next hk => simp [h2, show k.val ≠ 0 by omega]

theorem v335_apply (x0 : (⟨S4x96x224x224, .f32⟩ : BufTy).Contents (Elt Ideal)) (x18 : (⟨S96x2, .f32⟩ : BufTy).Contents (Elt Ideal)) (x19 : (⟨S96, .f32⟩ : BufTy).Contents (Elt Ideal)) (S : ℕ → ℕ → EReal)
    (hs : ∀ (b : Fin 4) (n : Fin 50176), val_main_v297 (F := Ideal) x0 (ix2 b n) = S b n)
    (wf : ℕ → ℕ → EReal) (hw : ∀ (o : Fin 96) (k : Fin 2), x18 (ix2 o k) = wf k o)
    (bf : ℕ → EReal) (hb : ∀ o : Fin 96, x19 (ix1 o) = bf o) (b : Fin 4) (o : Fin 96) (m : Fin 10) :
    val_main_v335 (F := Ideal) x0 x18 x19 (ix3 b o m) = feat S wf bf b o m := by
  have h := v329_apply x0 S hs
  simp only [val_main_v335, val_main_v334, val_main_v333, val_main_v332, val_main_v331, val_main_v330]
  pointwise
  simp [h, hw, hb, feat, fc, Fin.sum_univ_two]

theorem v340_apply (x0 : (⟨S4x96x224x224, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (ch : ℕ → ℕ → ℕ → EReal)
    (hc : ∀ (b : Fin 4) (o : Fin 96) (m : Fin 10), val_main_v335 (F := Ideal) x0 x18 x19 (ix3 b o m) = ch b o m)
    (P : ℕ → ℕ → EReal) (hw : ∀ o i : Fin 96, x20 (ix2 o i) = P o i)
    (B : ℕ → EReal) (hb : ∀ o : Fin 96, x21 (ix1 o) = B o) (b : Fin 4) (o : Fin 96) (m : Fin 10) :
    val_main_v340 (F := Ideal) x0 x18 x19 x20 x21 (ix3 b o m) = proj P B (ch b) o m := by
  simp only [val_main_v340, val_main_v339, val_main_v338, val_main_v337, val_main_v336]
  pointwise
  simp only [hc, hw, hb, proj, Finset.sum_range]
  exact congrArg (· + _) (Finset.sum_congr rfl fun _ _ => mul_comm (G := EReal) _ _)

theorem v345_apply (x0 : (⟨S4x96x224x224, .f32⟩ : BufTy).Contents (Elt Ideal)) (x18 : (⟨S96x2, .f32⟩ : BufTy).Contents (Elt Ideal)) (x19 : (⟨S96, .f32⟩ : BufTy).Contents (Elt Ideal)) (x22 : (⟨S96x96, .f32⟩ : BufTy).Contents (Elt Ideal)) (x23 : (⟨S96, .f32⟩ : BufTy).Contents (Elt Ideal)) (ch : ℕ → ℕ → ℕ → EReal)
    (hc : ∀ (b : Fin 4) (o : Fin 96) (m : Fin 10), val_main_v335 (F := Ideal) x0 x18 x19 (ix3 b o m) = ch b o m)
    (P : ℕ → ℕ → EReal) (hw : ∀ o i : Fin 96, x22 (ix2 o i) = P o i)
    (B : ℕ → EReal) (hb : ∀ o : Fin 96, x23 (ix1 o) = B o) (b : Fin 4) (o : Fin 96) (m : Fin 10) :
    val_main_v345 (F := Ideal) x0 x18 x19 x22 x23 (ix3 b o m) = proj P B (ch b) o m := by
  simp only [val_main_v345, val_main_v344, val_main_v343, val_main_v342, val_main_v341]
  pointwise
  simp only [hc, hw, hb, proj, Finset.sum_range]
  exact congrArg (· + _) (Finset.sum_congr rfl fun _ _ => mul_comm (G := EReal) _ _)

theorem v362_apply (x0 : (⟨S4x96x224x224, .f32⟩ : BufTy).Contents (Elt Ideal)) (x18 : (⟨S96x2, .f32⟩ : BufTy).Contents (Elt Ideal)) (x19 : (⟨S96, .f32⟩ : BufTy).Contents (Elt Ideal)) (x24 : (⟨S96x96, .f32⟩ : BufTy).Contents (Elt Ideal)) (x25 : (⟨S96, .f32⟩ : BufTy).Contents (Elt Ideal)) (ch : ℕ → ℕ → ℕ → EReal)
    (hc : ∀ (b : Fin 4) (o : Fin 96) (m : Fin 10), val_main_v335 (F := Ideal) x0 x18 x19 (ix3 b o m) = ch b o m)
    (P : ℕ → ℕ → EReal) (hw : ∀ o i : Fin 96, x24 (ix2 o i) = P o i)
    (B : ℕ → EReal) (hb : ∀ o : Fin 96, x25 (ix1 o) = B o) (b : Fin 4) (o : Fin 96) (m : Fin 10) :
    val_main_v362 (F := Ideal) x0 x18 x19 x24 x25 (ix3 b o m) = proj P B (ch b) o m := by
  simp only [val_main_v362, val_main_v361, val_main_v360, val_main_v359, val_main_v358]
  pointwise
  simp only [hc, hw, hb, proj, Finset.sum_range]
  exact congrArg (· + _) (Finset.sum_congr rfl fun _ _ => mul_comm (G := EReal) _ _)

theorem v346_apply (x0 : (⟨S4x96x224x224, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (p q : ℕ → ℕ → ℕ → EReal)
    (hp : ∀ (b : Fin 4) (o : Fin 96) (m : Fin 10), val_main_v340 (F := Ideal) x0 x18 x19 x20 x21 (ix3 b o m) = p b o m)
    (hq : ∀ (b : Fin 4) (o : Fin 96) (m : Fin 10), val_main_v345 (F := Ideal) x0 x18 x19 x22 x23 (ix3 b o m) = q b o m)
    (b : Fin 4) (m n : Fin 10) :
    val_main_v346 (F := Ideal) x0 x18 x19 x20 x21 x22 x23 (ix3 b m n) = logit (p b) (q b) m n := by
  simp only [val_main_v346]
  pointwise
  simp only [hp, hq, logit, Finset.sum_range]

theorem v357_apply (x0 : (⟨S4x96x224x224, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (l : ℕ → ℕ → ℕ → EReal)
    (hl : ∀ (b : Fin 4) (m n : Fin 10), val_main_v346 (F := Ideal) x0 x18 x19 x20 x21 x22 x23 (ix3 b m n) = l b m n)
    (b : Fin 4) (m n : Fin 10) :
    val_main_v357 (F := Ideal) x0 x18 x19 x20 x21 x22 x23 (ix3 b m n) = soft (l b) m n := by
  simp only [val_main_v357, val_main_v356, val_main_v355, val_main_v354, val_main_cst_49, val_main_v353, val_main_v352, val_main_v351, val_main_v350, val_main_v349, val_main_v348, val_main_cst_48, val_main_v347, val_main_cst_47]
  pointwise
  simp [hl, ofBits_ninf, soft, expo, ← fold_max_range, Finset.sum_range]

theorem v363_apply (x0 : (⟨S4x96x224x224, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 : (⟨S96, .f32⟩ : BufTy).Contents (Elt Ideal)) (p s : ℕ → ℕ → ℕ → EReal)
    (hp : ∀ (b : Fin 4) (o : Fin 96) (m : Fin 10), val_main_v362 (F := Ideal) x0 x18 x19 x24 x25 (ix3 b o m) = p b o m)
    (hs : ∀ (b : Fin 4) (m n : Fin 10), val_main_v357 (F := Ideal) x0 x18 x19 x20 x21 x22 x23 (ix3 b m n) = s b m n)
    (b : Fin 4) (o : Fin 96) (n : Fin 10) :
    val_main_v363 (F := Ideal) x0 x18 x19 x20 x21 x22 x23 x24 x25 (ix3 b o n) = mix (p b) (s b) o n := by
  simp only [val_main_v363]
  pointwise
  simp only [hp, hs, mix, Finset.sum_range]

theorem v366_apply (x0 : (⟨S4x96x224x224, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 : (⟨S96, .f32⟩ : BufTy).Contents (Elt Ideal)) (S : ℕ → ℕ → EReal)
    (hs : ∀ (b : Fin 4) (n : Fin 50176), val_main_v297 (F := Ideal) x0 (ix2 b n) = S b n)
    (lp : ℕ → ℕ → ℕ → EReal)
    (hp : ∀ (b : Fin 4) (o : Fin 96) (m : Fin 10), val_main_v363 (F := Ideal) x0 x18 x19 x20 x21 x22 x23 x24 x25 (ix3 b o m) = lp b o m)
    (b : Fin 4) (o : Fin 96) (h w : Fin 224) :
    val_main_v366 (F := Ideal) x0 x18 x19 x20 x21 x22 x23 x24 x25 (ix4 b o h w) = texMap lp S b o h w := by
  have hv := v320_apply x0 S hs
  simp only [val_main_v366, val_main_v365, val_main_v364]
  pointwise
  simp only [hp, hv, texMap, rows, Finset.sum_range]
  refine Finset.sum_congr rfl fun m _ => ?_
  have e1 : (b.val * 501760 + m.val * 50176 + (h.val * 224 + w.val)) / 10 % 50176
      = (m.val * 50176 + (h.val * 224 + w.val)) / 10 := by omega
  have e2 : (b.val * 501760 + m.val * 50176 + (h.val * 224 + w.val)) % 10
      = (m.val * 50176 + (h.val * 224 + w.val)) % 10 := by omega
  rw [e1, e2]

theorem v396_apply (x0 : (⟨S4x96x224x224, .f32⟩ : BufTy).Contents (Elt Ideal)) (x26 : (⟨S96x1x1x1, .f32⟩ : BufTy).Contents (Elt Ideal)) (S : ℕ → ℕ → EReal)
    (hs : ∀ (b : Fin 4) (n : Fin 50176), val_main_v297 (F := Ideal) x0 (ix2 b n) = S b n)
    (w2 : ℕ → EReal) (hw : ∀ o : Fin 96, x26 (ix4 o 0 0 0) = w2 o)
    (b : Fin 4) (o : Fin 96) (h w : Fin 224) :
    val_main_v396 (F := Ideal) x0 x26 (ix4 b o h w) = satMap S w2 b o h w := by
  simp only [val_main_v396, val_main_v395, val_main_v394, val_main_v393, val_main_v392, val_main_v391]
  pointwise
  simp [hs, hw, satMap]

theorem v429_apply (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (x14 : (⟨S96x1x5x1, .f32⟩ : BufTy).Contents (Elt Ideal)) (x15 x16 x17 : (⟨S96, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 : (⟨S96, .f32⟩ : BufTy).Contents (Elt Ideal)) (x26 : (⟨S96x1x1x1, .f32⟩ : BufTy).Contents (Elt Ideal)) (x27 x28 x29 x30 : (⟨S96, .f32⟩ : BufTy).Contents (Elt Ideal)) (X : ℕ → ℕ → ℕ → ℕ → EReal)
    (hx : ∀ (b : Fin 4) (o : Fin 96) (h w : Fin 224), x0 (ix4 b o h w) = X b o h w)
    (tf tx xc : ℕ → ℕ → ℕ → ℕ → EReal)
    (h1 : ∀ (b : Fin 4) (o : Fin 96) (h w : Fin 224), val_main_v420 (F := Ideal) x0 x26 x29 x30 (ix4 b o h w) = tf b o h w)
    (h2 : ∀ (b : Fin 4) (o : Fin 96) (h w : Fin 224), val_main_v390 (F := Ideal) x0 x18 x19 x20 x21 x22 x23 x24 x25 x27 x28 (ix4 b o h w) = tx b o h w)
    (h3 : ∀ (b : Fin 4) (o : Fin 96) (h w : Fin 224), val_main_v276 (F := Ideal) x0 x1 x2 x3 x4 x5 x6 x7 x8 x9 x10 x11 x12 x13 x14 x15 x16 x17 (ix4 b o h w) = xc b o h w)
    (b : Fin 4) (o : Fin 96) (h w : Fin 224) :
    val_main_v429 (F := Ideal) x0 x1 x2 x3 x4 x5 x6 x7 x8 x9 x10 x11 x12 x13 x14 x15 x16 x17 x18 x19 x20 x21 x22 x23 x24 x25 x26 x27 x28 x29 x30 (ix4 b o h w) = gate (X b o h w) (tf b o h w) (tx b o h w) (xc b o h w) := by
  simp only [val_main_v429, val_main_v428, val_main_v427, val_main_cst_61, val_main_v426, val_main_v425, val_main_cst_60, val_main_v424, val_main_v423, val_main_v422, val_main_v421]
  pointwise
  simp only [hx, h1, h2, h3, gate]
  rfl

end Cert.KVal
-- ==== Proof.Finite.lean ====
/-
  Finite values: the extended reals that are real numbers, closed under the operations of the kernel and the reference, and
  the constants as real numbers.
-/
module

public import proofs.«01_k».proof.Proof.RefSpec

@[expose] public section

noncomputable section

namespace Cert.KVal

open Idealize.ShloMosaic

/-- A finite value. -/
def Fn (x : EReal) : Prop := ∃ r : ℝ, x = (r : EReal)

theorem fn_coe (r : ℝ) : Fn (r : EReal) := ⟨r, rfl⟩
theorem fn_zero : Fn 0 := ⟨0, EReal.coe_zero.symm⟩
theorem fn_one : Fn 1 := ⟨1, EReal.coe_one.symm⟩
theorem fn_add {x y : EReal} (hx : Fn x) (hy : Fn y) : Fn (x + y) := by
  obtain ⟨a, rfl⟩ := hx; obtain ⟨b, rfl⟩ := hy; exact ⟨a + b, (EReal.coe_add a b).symm⟩
theorem fn_sub {x y : EReal} (hx : Fn x) (hy : Fn y) : Fn (x - y) := by
  obtain ⟨a, rfl⟩ := hx; obtain ⟨b, rfl⟩ := hy; exact ⟨a - b, (EReal.coe_sub a b).symm⟩
theorem fn_mul {x y : EReal} (hx : Fn x) (hy : Fn y) : Fn (x * y) := by
  obtain ⟨a, rfl⟩ := hx; obtain ⟨b, rfl⟩ := hy; exact ⟨a * b, (EReal.coe_mul a b).symm⟩
theorem fn_neg {x : EReal} (hx : Fn x) : Fn (-x) := by
  obtain ⟨a, rfl⟩ := hx; exact ⟨-a, (EReal.coe_neg a).symm⟩
theorem fn_max {x y : EReal} (hx : Fn x) (hy : Fn y) : Fn (max x y) := by
  rcases max_choice x y with h | h <;> rw [h] <;> assumption

/-- Sums of real numbers. -/
theorem coe_sum {ι : Type} (T : Finset ι) (f : ι → ℝ) : ∑ i ∈ T, (f i : EReal) = ((∑ i ∈ T, f i : ℝ) : EReal) := by
  classical
  induction T using Finset.induction_on with
  | empty => simp
  | insert a T h ih => rw [Finset.sum_insert h, Finset.sum_insert h, ih, EReal.coe_add]
theorem fn_sum {ι : Type} (T : Finset ι) (f : ι → EReal) (h : ∀ i, Fn (f i)) : Fn (∑ i ∈ T, f i) := by
  choose g hg using h
  exact ⟨∑ i ∈ T, g i, by simp only [hg, coe_sum]⟩

/-- A finite function's real values. -/
theorem Fn.lift1 {f : ℕ → EReal} (h : ∀ i, Fn (f i)) : ∃ g : ℕ → ℝ, f = fun i => (g i : EReal) := by
  choose g hg using h; exact ⟨g, funext hg⟩
theorem Fn.lift2 {f : ℕ → ℕ → EReal} (h : ∀ i j, Fn (f i j)) : ∃ g : ℕ → ℕ → ℝ, f = fun i j => (g i j : EReal) := by
  choose g hg using h; exact ⟨g, funext fun i => funext (hg i)⟩
theorem Fn.lift3 {f : ℕ → ℕ → ℕ → EReal} (h : ∀ i j k, Fn (f i j k)) :
    ∃ g : ℕ → ℕ → ℕ → ℝ, f = fun i j k => (g i j k : EReal) := by
  choose g hg using h; exact ⟨g, funext fun i => funext fun j => funext (hg i j)⟩
theorem Fn.lift4 {f : ℕ → ℕ → ℕ → ℕ → EReal} (h : ∀ i j k l, Fn (f i j k l)) :
    ∃ g : ℕ → ℕ → ℕ → ℕ → ℝ, f = fun i j k l => (g i j k l : EReal) := by
  choose g hg using h; exact ⟨g, funext fun i => funext fun j => funext fun k => funext (hg i j k)⟩

/-- Division, the square root and the exponential of real numbers. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]
theorem fn_div {x y : EReal} (hx : Fn x) (hy : Fn y) (h0 : y ≠ 0) : Fn (Ideal.div x y) := by
  obtain ⟨a, rfl⟩ := hx; obtain ⟨b, rfl⟩ := hy
  exact ⟨a / b, div_real a b (by exact_mod_cast h0)⟩
theorem sqrt_real (r : ℝ) (h : 0 ≤ r) : Ideal.sqrt (r : EReal) = ((Real.sqrt r : ℝ) : EReal) := by
  rw [Ideal.sqrt_coe, if_neg (not_lt.mpr h)]
theorem fn_sqrt {x : EReal} (hx : Fn x) (h : 0 ≤ x) : Fn (Ideal.sqrt x) := by
  obtain ⟨a, rfl⟩ := hx
  exact ⟨_, sqrt_real a (by exact_mod_cast h)⟩
theorem fn_exp {x : EReal} (hx : Fn x) : Fn (Ideal.exp x) := by
  obtain ⟨a, rfl⟩ := hx; exact ⟨_, Ideal.exp_coe a⟩

/-- A smallest and a largest of finitely many finite values, at least one. -/
theorem fn_inf (n : ℕ) (hn : 0 < n) (f : ℕ → EReal) (h : ∀ i, Fn (f i)) : Fn ((Finset.range n).inf f) := by
  obtain ⟨i, _, hi⟩ := Finset.exists_mem_eq_inf (Finset.range n) ⟨0, Finset.mem_range.mpr hn⟩ f
  rw [hi]; exact h i
theorem fn_sup (n : ℕ) (hn : 0 < n) (f : ℕ → EReal) (h : ∀ i, Fn (f i)) : Fn ((Finset.range n).sup f) := by
  obtain ⟨i, _, hi⟩ := Finset.exists_mem_eq_sup (Finset.range n) ⟨0, Finset.mem_range.mpr hn⟩ f
  rw [hi]; exact h i

/-- The constants. -/
theorem nTot_eq : nTot = ((200704 : ℝ) : EReal) := by
  unfold nTot; simp [Ideal.ofBits, Ideal.ieee]; rw [← EReal.coe_mul]; norm_num
theorem nHW_eq : Ideal.ofBits .f32 0x47440000#32 = ((50176 : ℝ) : EReal) := by
  simp [Ideal.ofBits, Ideal.ieee]; rw [← EReal.coe_mul]; norm_num
theorem nine_eq : Ideal.ofBits .f32 0x41100000#32 = ((9 : ℝ) : EReal) := by
  simp [Ideal.ofBits, Ideal.ieee]; rw [← EReal.coe_mul]; norm_num
theorem eps5_eq : ∃ e : ℝ, 0 < e ∧ eps5 = (e : EReal) := by
  unfold eps5; simp [Ideal.ofBits, Ideal.ieee]
  refine ⟨_, ?_, rfl⟩
  norm_num
theorem eps8_eq : ∃ e : ℝ, 0 < e ∧ eps8 = (e : EReal) := by
  unfold eps8; simp [Ideal.ofBits, Ideal.ieee]
  refine ⟨_, ?_, rfl⟩
  norm_num
theorem half10_eq : ∃ e : ℝ, 0 < e ∧ e < 1 ∧ half10 = (e : EReal) := by
  unfold half10; simp [Ideal.ofBits, Ideal.ieee]
  refine ⟨_, ?_, ?_, rfl⟩
  all_goals norm_num

end Cert.KVal
-- ==== Proof.Norm.lean ====
/-
  The batch normalizations over finite values: the scale and shift that the kernel computes from a channel's sum and sum of
  squares give the normalization by the mean and the mean squared deviation; for the texture map the sums are found through
  the bins' sums and products, for the attention map through those of the map before its weights.
-/
module

public import proofs.«01_k».proof.Proof.Finite

@[expose] public section

noncomputable section

namespace Cert.KVal

open Idealize.ShloMosaic

/-- A channel's real sum over all images, rows and columns. -/
def rsum (f : ℕ → ℕ → ℕ → ℝ) : ℝ := ∑ b ∈ Finset.range 4, ∑ h ∈ Finset.range 224, ∑ w ∈ Finset.range 224, f b h w

theorem rsum_nonneg (f : ℕ → ℕ → ℕ → ℝ) (h : ∀ b i j, 0 ≤ f b i j) : 0 ≤ rsum f :=
  Finset.sum_nonneg fun b _ => Finset.sum_nonneg fun i _ => Finset.sum_nonneg fun j _ => h b i j

/-- The sum of the squared deviations from the mean. -/
theorem rsum_dev (f : ℕ → ℕ → ℕ → ℝ) (m : ℝ) (hm : m * 200704 = rsum f) :
    rsum (fun b i j => (f b i j - m) * (f b i j - m)) = rsum (fun b i j => f b i j * f b i j) - 200704 * (m * m) := by
  have e : ∀ x : ℝ, (x - m) * (x - m) = x * x - 2 * m * x + m * m := fun x => by ring
  have h : rsum (fun b i j => (f b i j - m) * (f b i j - m))
      = rsum (fun b i j => f b i j * f b i j) - 2 * m * rsum f + 200704 * (m * m) := by
    simp only [rsum, e, Finset.sum_add_distrib, Finset.sum_sub_distrib, ← Finset.mul_sum, Finset.sum_const, Finset.card_range,
      smul_smul, nsmul_eq_mul]
    norm_num
    ring
  rw [h, ← hm]; ring

theorem sum3_real (f : ℕ → ℕ → ℕ → ℕ → ℝ) (o : ℕ) :
    sum3 (fun b o h w => (f b o h w : EReal)) o = ((rsum fun b h w => f b o h w : ℝ) : EReal) := by
  simp only [sum3, coe_sum, rsum]
theorem stat0_eq (f : ℕ → ℕ → ℕ → ℕ → EReal) (o : ℕ) : stat4 f 0 o = sum3 f o := rfl
theorem stat1_real (f : ℕ → ℕ → ℕ → ℕ → ℝ) (o : ℕ) :
    stat4 (fun b o h w => (f b o h w : EReal)) 1 o = ((rsum fun b h w => f b o h w * f b o h w : ℝ) : EReal) :=
  (Finset.sum_congr rfl fun b _ => Finset.sum_congr rfl fun h _ => Finset.sum_congr rfl fun w _ =>
    (EReal.coe_mul (f b o h w) (f b o h w)).symm).trans (sum3_real (fun b o h w => f b o h w * f b o h w) o)

/-- A channel's mean, mean squared deviation and deviation as real numbers, and the kernel's scale. -/
theorem norm_real (f : ℕ → ℕ → ℕ → ℕ → ℝ) (o : ℕ) (g : ℝ) : ∃ m d : ℝ, 0 < d ∧
    mean4 (fun b o h w => (f b o h w : EReal)) o = (m : EReal) ∧
    Ideal.sqrt (var4 (fun b o h w => (f b o h w : EReal)) o + eps5) = (d : EReal) ∧
    Ideal.div (stat4 (fun b o h w => (f b o h w : EReal)) 0 o) nTot = (m : EReal) ∧
    bnA (g : EReal) (stat4 (fun b o h w => (f b o h w : EReal)) 0 o) (stat4 (fun b o h w => (f b o h w : EReal)) 1 o)
      = ((g / d : ℝ) : EReal) := by
  obtain ⟨e, he, hE⟩ := eps5_eq
  have hm : mean4 (fun b o h w => (f b o h w : EReal)) o
      = (((rsum fun b h w => f b o h w) / 200704 : ℝ) : EReal) := by
    unfold mean4; rw [sum3_real, nTot_eq, div_real _ _ (by norm_num)]
  generalize hM : (rsum fun b h w => f b o h w) / 200704 = m at hm
  have hM' : m * 200704 = rsum fun b h w => f b o h w := by rw [← hM]; ring
  have hv : var4 (fun b o h w => (f b o h w : EReal)) o
      = (((rsum fun b h w => (f b o h w - m) * (f b o h w - m)) / 200704 : ℝ) : EReal) := by
    unfold var4 sum3
    simp only [hm, nTot_eq, ← EReal.coe_sub, ← EReal.coe_mul, coe_sum]
    exact div_real _ _ (by norm_num)
  have hv0 : 0 ≤ (rsum fun b h w => (f b o h w - m) * (f b o h w - m)) / 200704 :=
    div_nonneg (rsum_nonneg _ fun _ _ _ => mul_self_nonneg _) (by norm_num)
  have hve : (rsum fun b h w => (f b o h w - m) * (f b o h w - m)) / 200704
      = (rsum fun b h w => f b o h w * f b o h w) / 200704 - m * m := by
    rw [rsum_dev (fun b h w => f b o h w) m hM']; ring
  generalize (rsum fun b h w => (f b o h w - m) * (f b o h w - m)) / 200704 = v at hv hv0 hve
  have hd : 0 < Real.sqrt (v + e) := Real.sqrt_pos.mpr (by linarith)
  have hs : Ideal.div (stat4 (fun b o h w => (f b o h w : EReal)) 0 o) nTot = (m : EReal) := by
    rw [stat0_eq, sum3_real, nTot_eq, div_real _ _ (by norm_num), hM]
  refine ⟨m, Real.sqrt (v + e), hd, hm, ?_, hs, ?_⟩
  · rw [hv, hE, ← EReal.coe_add, sqrt_real _ (by linarith)]
  · unfold bnA
    rw [hs, stat1_real, nTot_eq, div_real _ _ (by norm_num), hE, ← EReal.coe_mul, ← EReal.coe_sub, ← EReal.coe_add,
      ← hve, sqrt_real _ (by linarith), div_real _ _ hd.ne']

/-- The normalization from the sums is the normalization by mean and deviation. -/
theorem norm_eq (f : ℕ → ℕ → ℕ → ℕ → EReal) (hf : ∀ b o h w, Fn (f b o h w)) (g s : ℕ → EReal) (hg : ∀ o, Fn (g o))
    (hs : ∀ o, Fn (s o)) (b o h w : ℕ) :
    f b o h w * bnA (g o) (stat4 f 0 o) (stat4 f 1 o) + bnB (g o) (s o) (stat4 f 0 o) (stat4 f 1 o) = bnR f g s b o h w := by
  obtain ⟨f, rfl⟩ := Fn.lift4 hf
  obtain ⟨γ, hγ⟩ := hg o
  obtain ⟨σ, hσ⟩ := hs o
  obtain ⟨m, d, hd, h1, h2, h3, h4⟩ := norm_real f o γ
  unfold bnB bnR
  rw [hγ, hσ, h4, h1, h2, h3, ← EReal.coe_sub, div_real _ _ hd.ne']
  simp only [← EReal.coe_mul, ← EReal.coe_add, ← EReal.coe_sub]
  refine congrArg Real.toEReal ?_
  ring

theorem fn_bnR (f : ℕ → ℕ → ℕ → ℕ → EReal) (hf : ∀ b o h w, Fn (f b o h w)) (g s : ℕ → EReal) (hg : ∀ o, Fn (g o))
    (hs : ∀ o, Fn (s o)) (b o h w : ℕ) : Fn (bnR f g s b o h w) := by
  obtain ⟨f, rfl⟩ := Fn.lift4 hf
  obtain ⟨m, d, hd, h1, h2, -, -⟩ := norm_real f o 0
  unfold bnR
  rw [h1, h2, ← EReal.coe_sub, div_real _ _ hd.ne']
  exact fn_add (fn_mul (fn_coe _) (hg o)) (hs o)

/-- The pixels of an image, row by row. -/
theorem sum_hw {M : Type} [AddCommMonoid M] (f : ℕ → M) :
    ∑ h ∈ Finset.range 224, ∑ w ∈ Finset.range 224, f (h * 224 + w) = ∑ n ∈ Finset.range 50176, f n :=
  Finset.sum_range_range_mul_add 224 224 f

theorem sum4_eq (f : ℕ → EReal) : sum4 f = ∑ b ∈ Finset.range 4, f b := by
  simp [sum4, Finset.sum_range_succ]

theorem stat_eq (y : ℕ → ℕ → ℕ → EReal) (r o : ℕ) : stat y r o = stat4 (fun b o h w => y b o (h * 224 + w)) r o := by
  unfold stat stat4
  exact Finset.sum_congr rfl fun b _ => (sum_hw fun n => pow1 r (y b o n)).symm

/-- The texture map's sum and sum of squares through the rows' sums and products. -/
theorem texS_eq (lp : ℕ → ℕ → ℕ → EReal) (hl : ∀ b o m, Fn (lp b o m)) (u : ℕ → ℕ → ℕ → EReal) (hu : ∀ b m n, Fn (u b m n))
    (o : ℕ) : texS lp (rowSum u) o
      = stat4 (fun b o h w => ∑ m ∈ Finset.range 10, lp b o m * u b m (h * 224 + w)) 0 o := by
  obtain ⟨lp, rfl⟩ := Fn.lift3 hl
  obtain ⟨u, rfl⟩ := Fn.lift3 hu
  unfold texS
  rw [sum4_eq]
  refine Finset.sum_congr rfl fun b _ => ?_
  refine Eq.trans ?_ (sum_hw fun n => ∑ m ∈ Finset.range 10, (lp b o m : EReal) * (u b m n : EReal)).symm
  simp only [rowSum, ← EReal.coe_mul, coe_sum, Finset.mul_sum]
  rw [Finset.sum_comm]

theorem gram_real (M T : Finset ℕ) (l : ℕ → ℝ) (u : ℕ → ℕ → ℝ) :
    ∑ n ∈ M, (∑ m ∈ M, l m * ∑ p ∈ T, u m p * u n p) * l n
      = ∑ p ∈ T, (∑ m ∈ M, l m * u m p) * ∑ m ∈ M, l m * u m p := by
  simp only [Finset.sum_mul_sum, Finset.sum_mul, Finset.mul_sum]
  rw [Finset.sum_comm, Finset.sum_comm (s := T)]
  refine Finset.sum_congr rfl fun m _ => ?_
  rw [Finset.sum_comm (s := T)]
  exact Finset.sum_congr rfl fun n _ => Finset.sum_congr rfl fun p _ => by ring

theorem texQ_eq (lp : ℕ → ℕ → ℕ → EReal) (hl : ∀ b o m, Fn (lp b o m)) (u : ℕ → ℕ → ℕ → EReal) (hu : ∀ b m n, Fn (u b m n))
    (o : ℕ) : texQ lp (gram u) o
      = stat4 (fun b o h w => ∑ m ∈ Finset.range 10, lp b o m * u b m (h * 224 + w)) 1 o := by
  obtain ⟨lp, rfl⟩ := Fn.lift3 hl
  obtain ⟨u, rfl⟩ := Fn.lift3 hu
  unfold texQ
  rw [sum4_eq]
  refine Finset.sum_congr rfl fun b _ => ?_
  refine Eq.trans ?_ (sum_hw fun n => (∑ m ∈ Finset.range 10, (lp b o m : EReal) * (u b m n : EReal))
    * (∑ m ∈ Finset.range 10, (lp b o m : EReal) * (u b m n : EReal))).symm
  simp only [gram, ← EReal.coe_mul, coe_sum]
  exact congrArg Real.toEReal (gram_real (Finset.range 10) (Finset.range 50176) (lp b o) (u b))

/-- The texture branch: the scale taken into the coefficients. -/
theorem tex_eq (lp : ℕ → ℕ → ℕ → EReal) (hl : ∀ b o m, Fn (lp b o m)) (s : ℕ → ℕ → EReal)
    (hu : ∀ b m n, Fn (rows s b m n)) (g t : ℕ → EReal) (hg : ∀ o, Fn (g o)) (ht : ∀ o, Fn (t o)) (b o h w : ℕ) :
    ∑ m ∈ Finset.range 10, lp b o m * bnA (g o) (texS lp (rowSum (rows s)) o) (texQ lp (gram (rows s)) o)
        * rows s b m (h * 224 + w) + bnB (g o) (t o) (texS lp (rowSum (rows s)) o) (texQ lp (gram (rows s)) o)
      = bnR (texMap lp s) g t b o h w := by
  have hf : ∀ b o h w, Fn (texMap lp s b o h w) := fun b o h w => fn_sum _ _ fun m => fn_mul (hl b o m) (hu b m _)
  rw [← norm_eq (texMap lp s) hf g t hg ht, texS_eq lp hl _ hu, texQ_eq lp hl _ hu]
  change _ + bnB (g o) (t o) (stat4 (texMap lp s) 0 o) (stat4 (texMap lp s) 1 o) = _
  refine congrArg (· + _) ?_
  change ∑ m ∈ Finset.range 10, lp b o m * bnA (g o) (stat4 (texMap lp s) 0 o) (stat4 (texMap lp s) 1 o)
        * rows s b m (h * 224 + w) = _
  obtain ⟨γ, hγ⟩ := hg o
  obtain ⟨F, hF⟩ := Fn.lift4 hf
  obtain ⟨m, d, hd, -, -, -, h4⟩ := norm_real F o γ
  rw [← hF, ← hγ] at h4
  rw [h4]
  unfold texMap
  obtain ⟨lp, rfl⟩ := Fn.lift3 hl
  obtain ⟨u, hU⟩ := Fn.lift3 hu
  simp only [hU, ← EReal.coe_mul, coe_sum, Finset.sum_mul]
  refine congrArg Real.toEReal ?_
  exact Finset.sum_congr rfl fun i _ => by ring

/-- The attention branch: the weights taken into the scale and shift. -/
theorem sat_eq (s : ℕ → ℕ → EReal) (hs : ∀ b n, Fn (s b n)) (w2 g t : ℕ → EReal) (hw : ∀ o, Fn (w2 o)) (hg : ∀ o, Fn (g o))
    (ht : ∀ o, Fn (t o)) (b o h w : ℕ) :
    satA (g o) (w2 o) (sum4 (tot 0 s)) (sum4 (tot 1 s)) * w2 o * s b (h * 224 + w)
        + (t o - w2 o * Ideal.div (sum4 (tot 0 s)) nTot * satA (g o) (w2 o) (sum4 (tot 0 s)) (sum4 (tot 1 s)))
      = bnR (satMap s w2) g t b o h w := by
  have hf : ∀ b o h w, Fn (satMap s w2 b o h w) := fun b o h w => fn_mul (hs b _) (hw o)
  rw [← norm_eq (satMap s w2) hf g t hg ht]
  obtain ⟨γ, hγ⟩ := hg o
  obtain ⟨τ, hτ⟩ := ht o
  obtain ⟨ω, hω⟩ := hw o
  obtain ⟨F, hF⟩ := Fn.lift4 hf
  obtain ⟨s, rfl⟩ := Fn.lift2 hs
  obtain ⟨S0, hS0⟩ : ∃ S : ℝ, S = ∑ b ∈ Finset.range 4, ∑ n ∈ Finset.range 50176, s b n := ⟨_, rfl⟩
  obtain ⟨S1, hS1⟩ : ∃ S : ℝ, S = ∑ b ∈ Finset.range 4, ∑ n ∈ Finset.range 50176, s b n * s b n := ⟨_, rfl⟩
  have e0 : sum4 (tot 0 fun b n => (s b n : EReal)) = (S0 : EReal) := by
    rw [hS0]; rw [sum4_eq]; simp only [tot, pow1, if_true, coe_sum]
  have e1 : sum4 (tot 1 fun b n => (s b n : EReal)) = (S1 : EReal) := by
    rw [hS1]; rw [sum4_eq]; simp only [tot, pow1, if_neg one_ne_zero, ← EReal.coe_mul, coe_sum]
  have k0 : stat4 (satMap (fun b n => (s b n : EReal)) w2) 0 o
      = ((S0 * ω : ℝ) : EReal) := by
    rw [hS0, Finset.sum_mul, ← coe_sum]
    refine Finset.sum_congr rfl fun b _ => (sum_hw fun n => (s b n : EReal) * w2 o).trans ?_
    simp only [hω, ← EReal.coe_mul, coe_sum, Finset.sum_mul]
  have k1 : stat4 (satMap (fun b n => (s b n : EReal)) w2) 1 o
      = ((S1 * (ω * ω) : ℝ) : EReal) := by
    rw [hS1, Finset.sum_mul, ← coe_sum]
    refine Finset.sum_congr rfl fun b _ => (sum_hw fun n => (s b n : EReal) * w2 o * ((s b n : EReal) * w2 o)).trans ?_
    simp only [hω, ← EReal.coe_mul, coe_sum, Finset.sum_mul]
    refine congrArg Real.toEReal ?_
    exact Finset.sum_congr rfl fun i _ => by ring
  obtain ⟨m, d, hd, -, -, h3, h4⟩ := norm_real F o γ
  rw [← hF] at h3 h4
  rw [e0, e1]
  rw [k0] at h3 h4
  rw [k1] at h4
  rw [k0, k1]
  obtain ⟨e, he, hE⟩ := eps5_eq
  have hA : satA (γ : EReal) (ω : EReal) (S0 : EReal) (S1 : EReal) = ((γ / d : ℝ) : EReal) := by
    rw [← h4]
    unfold satA satV bnA
    rw [nTot_eq, div_real _ _ (by norm_num), div_real _ _ (by norm_num), div_real _ _ (by norm_num),
      div_real _ _ (by norm_num), hE]
    simp only [← EReal.coe_mul, ← EReal.coe_add, ← EReal.coe_sub]
    refine congrArg (fun v : ℝ => Ideal.div (γ : EReal) (Ideal.sqrt (v : EReal))) ?_
    ring
  have hm : m = S0 * ω / 200704 := by
    rw [nTot_eq, div_real _ _ (by norm_num)] at h3
    exact_mod_cast h3.symm
  unfold bnB satMap
  rw [hγ, hτ, hω, hA, h4, h3, nTot_eq, div_real _ _ (by norm_num), hm]
  simp only [← EReal.coe_mul, ← EReal.coe_add, ← EReal.coe_sub]
  refine congrArg Real.toEReal ?_
  ring

end Cert.KVal
-- ==== Proof.K1.lean ====
/-
  The second call of the kernel, read as values: the 1×1 convolution and its statistics over all images and pixels, and
  the cosine of every pixel with its image's mean vector, with each image's smallest, largest, sum and sum of squares.
-/
module

public import proofs.«01_k».proof.Proof.Gen.KernelIdeal.Frame.Region1
public import proofs.«01_k».proof.Proof.Spec

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx1_0 (t : Fin cfg1.N) : win1_0.index t = ![t.val / 28, 0, t.val % 28] :=
  (by decide +kernel : ∀ t : Fin grid1.N, win1_0.index t = ![t.val / 28, 0, t.val % 28]) t
theorem idx1_1 (t : Fin cfg1.N) : win1_1.index t = ![0, 0] :=
  (by decide +kernel : ∀ t : Fin grid1.N, win1_1.index t = ![0, 0]) t
theorem idx1_2 (t : Fin cfg1.N) : win1_2.index t = ![t.val / 28, 0, 0] :=
  (by decide +kernel : ∀ t : Fin grid1.N, win1_2.index t = ![t.val / 28, 0, 0]) t
theorem idx1_3 (t : Fin cfg1.N) : win1_3.index t = ![t.val / 28, 0, t.val % 28] :=
  (by decide +kernel : ∀ t : Fin grid1.N, win1_3.index t = ![t.val / 28, 0, t.val % 28]) t
theorem idx1_4 (t : Fin cfg1.N) : win1_4.index t = ![t.val / 28, 0, t.val % 28] :=
  (by decide +kernel : ∀ t : Fin grid1.N, win1_4.index t = ![t.val / 28, 0, t.val % 28]) t
theorem idx1_5 (t : Fin cfg1.N) : win1_5.index t = ![0, 0] :=
  (by decide +kernel : ∀ t : Fin grid1.N, win1_5.index t = ![0, 0]) t
theorem idx1_6 (t : Fin cfg1.N) : win1_6.index t = ![t.val / 28, 0, 0] :=
  (by decide +kernel : ∀ t : Fin grid1.N, win1_6.index t = ![t.val / 28, 0, 0]) t
theorem idx1_7 (t : Fin cfg1.N) : win1_7.index t = ![t.val / 28, 0, 0] :=
  (by decide +kernel : ∀ t : Fin grid1.N, win1_7.index t = ![t.val / 28, 0, 0]) t
theorem idx1_8 (t : Fin cfg1.N) : win1_8.index t = ![t.val / 28, 0, 0] :=
  (by decide +kernel : ∀ t : Fin grid1.N, win1_8.index t = ![t.val / 28, 0, 0]) t
theorem idx1_9 (t : Fin cfg1.N) : win1_9.index t = ![t.val / 28, 0, 0] :=
  (by decide +kernel : ∀ t : Fin grid1.N, win1_9.index t = ![t.val / 28, 0, 0]) t

/-- The exact value of the named constant: one over the number of pixels of an image. -/
def invHW : EReal := ((1 / 50176 : ℝ) : EReal)

/-! ## The body's values at an index, the blocks given as functions -/

section Pay
variable (v : Vec Ideal S1x96x1792 .f32) (w : Vec Ideal S96x96 .f32) (g : Vec Ideal S1x1x96 .f32)
  (X : ℕ → ℕ → EReal) (W : ℕ → ℕ → EReal) (G : ℕ → EReal)
  (hv : ∀ (j : Fin 96) (k : Fin 1792), v (ix3 0 j k) = X j k)
  (hw : ∀ (i j : Fin 96), w (ix2 i j) = W i j)
  (hg : ∀ (j : Fin 96), g (ix3 0 0 j) = G j)

include hv hw in
theorem pay1_4 (o : Fin 96) (k : Fin 1792) : k1_pay4 v w (ix2 o k) = ∑ i ∈ Finset.range 96, W o i * X i k := by
  pointwise [k1_pay4, k1_pay3]
  simp only [hv, hw, Finset.sum_range]

include hv hw in
theorem pay1_5 (y : S1x96x1792.Idx) : k1_pay5 v w y = ∑ i ∈ Finset.range 96, W (y 1).val i * X i (y 2).val := by
  idx_vars y
  pointwise [k1_pay5]
  exact pay1_4 v w X W hv hw _ _

include hv hw in
theorem pay1_7 (a : Vec Ideal S2x96 .f32) (y : S2x96.Idx) : k1_pay7 v w a y
    = a y + ∑ k ∈ Finset.range 1792, pow1 (y 0).val (∑ i ∈ Finset.range 96, W (y 1).val i * X i k) := by
  idx_vars y
  pointwise [k1_pay7]
  simp only [pay1_4 v w X W hv hw, pow1]
  congr 1
  by_cases h : y0.val = 0
  · simp only [h, Nat.zero_lt_one, dite_true, if_true, Finset.sum_range]
  · have h' : ¬y0.val < 1 := by omega
    simp only [h, h', dite_false, if_false, Finset.sum_range]

include hg in
theorem pay1_8 (j : Fin 96) : k1_pay8 g (ix1 j) = G j * invHW := by
  pointwise [k1_pay8]
  rw [hg]
  exact congrArg (G j.val * ·) (IdealRules.named_const.ideal_named_scalar _ _ _ _ rfl)

include hg in
theorem pay1_9 : k1_pay9 g = ∑ i ∈ Finset.range 96, G i * invHW * (G i * invHW) := by
  pointwise [k1_pay9]
  simp only [pay1_8 g G hg, Finset.sum_range]

/-- The cosine on a block. -/
def cosB (X : ℕ → ℕ → EReal) (G : ℕ → EReal) (n : ℕ) : EReal :=
  Ideal.div (∑ i ∈ Finset.range 96, G i * X i n)
    (max (Ideal.sqrt (∑ i ∈ Finset.range 96, G i * G i)) eps8
      * max (Ideal.sqrt (∑ i ∈ Finset.range 96, X i n * X i n)) eps8)

include hv hg in
theorem pay1_10 (k : Fin 1792) : k1_pay10 (k1_pay3 v) (k1_pay8 g) (k1_pay9 g) (ix1 k) = cosB X (fun j => G j * invHW) k := by
  rw [pay1_9 g G hg]
  pointwise [k1_pay10, k1_pay3]
  simp only [pay1_8 g G hg, hv, Finset.sum_range, cosB, eps8]
  rfl

include hv hg in
theorem pay1_11 (y : S1x1x1792.Idx) : k1_pay11 (k1_pay3 v) (k1_pay8 g) (k1_pay9 g) y = cosB X (fun j => G j * invHW) (y 2).val := by
  idx_vars y
  pointwise [k1_pay11]
  exact pay1_10 v g X G hv hg _

include hv hg in
theorem pay1_16 (a : Vec Ideal S1x1x1 .f32) (y : S1x1x1.Idx) : k1_pay16 (k1_pay3 v) (k1_pay8 g) (k1_pay9 g) a y
    = min (a y) ((Finset.range 1792).inf (cosB X fun j => G j * invHW)) := by
  idx_vars y
  pointwise [k1_pay16]
  simp only [pay1_10 v g X G hv hg, ofBits_pinf, fold_min_range]

include hv hg in
theorem pay1_17 (a : Vec Ideal S1x1x1 .f32) (y : S1x1x1.Idx) : k1_pay17 (k1_pay3 v) (k1_pay8 g) (k1_pay9 g) a y
    = max (a y) ((Finset.range 1792).sup (cosB X fun j => G j * invHW)) := by
  idx_vars y
  pointwise [k1_pay17]
  simp only [pay1_10 v g X G hv hg, ofBits_ninf, fold_max_range]

include hv hg in
theorem pay1_1 (a : Vec Ideal S1x1x1 .f32) (y : S1x1x1.Idx) : k1_pay1 (k1_pay10 (k1_pay3 v) (k1_pay8 g) (k1_pay9 g)) a y
    = a y + ∑ k ∈ Finset.range 1792, pow1 0 (cosB X (fun j => G j * invHW) k) := by
  idx_vars y
  pointwise [k1_pay1]
  simp only [pay1_10 v g X G hv hg, Finset.sum_range, pow1, if_true]

include hv hg in
theorem pay1_2 (a : Vec Ideal S1x1x1 .f32) (y : S1x1x1.Idx) : k1_pay2 (k1_pay10 (k1_pay3 v) (k1_pay8 g) (k1_pay9 g)) a y
    = a y + ∑ k ∈ Finset.range 1792, pow1 1 (cosB X (fun j => G j * invHW) k) := by
  idx_vars y
  pointwise [k1_pay2]
  simp only [pay1_10 v g X G hv hg, Finset.sum_range, pow1, one_ne_zero, if_false]

end Pay

/-! ## The result arrays -/

section Arr
variable (x : ℕ → ℕ → ℕ → EReal) (hx : ∀ (i : Fin 4) (j : Fin 96) (k : Fin 50176), V c main_v0 (ix3 i j k) = x i j k)
  (w : ℕ → ℕ → EReal) (hw : ∀ (i j : Fin 96), V c main_v2 (ix2 i j) = w i j)
  (g : ℕ → ℕ → EReal) (hg : ∀ (i : Fin 4) (u : Fin 1) (j : Fin 96), V c main_v1 (ix3 i u j) = g i j)

include hx in
theorem blk1_0 (t : Fin cfg1.N) (j : Fin 96) (k : Fin 1792) :
    iblk1 V c 0 t (ix3 0 j k) = x (t.val / 28) j (t.val % 28 * 1792 + k) := by
  have ht : t.val < 112 := Nat.lt_of_lt_of_eq t.isLt N_1
  have := hx ⟨t.val / 28, by omega⟩ j ⟨t.val % 28 * 1792 + k, by omega⟩
  rw [← this]
  blk_ext [iblk1, idx1_0 t]

include hw in
theorem blk1_1 (t : Fin cfg1.N) (i j : Fin 96) : iblk1 V c 1 t (ix2 i j) = w i j := by
  rw [← hw i j]
  blk_ext [iblk1, idx1_1 t]

include hg in
theorem blk1_2 (t : Fin cfg1.N) (j : Fin 96) : iblk1 V c 2 t (ix3 0 0 j) = g (t.val / 28) j := by
  have ht : t.val < 112 := Nat.lt_of_lt_of_eq t.isLt N_1
  rw [← hg ⟨t.val / 28, by omega⟩ 0 j]
  blk_ext [iblk1, idx1_2 t]

/-- The three kinds of point: the grid's first, the other first points of an image, and the rest. -/
theorem cases1 (t : Fin cfg1.N) : (t.val % 112 = 0 ∧ t.val % 28 = 0) ∨ (¬t.val % 112 = 0 ∧ ¬t.val % 28 = 0)
    ∨ (¬t.val % 112 = 0 ∧ t.val % 28 = 0) := by omega

include hx hw in
/-- The 1×1 convolution's array. -/
theorem r1_3 (i : Fin 4) (o : Fin 96) (n : Fin 50176) :
    (dat1 V c).arrAt 3 cfg1.N (ix3 i o n) = lin w x i o n := by
  refine congrFun ((dat1 V c).arrAt_eq_of_covers 3 (fun i => lin w x (i 0).val (i 1).val (i 2).val) (by decide +kernel) ?_) (ix3 i o n)
  intro t hf y
  blk_simp [idx1_3 t]
  rw [after1_3]
  rcases cases1 t with ⟨h0, h1⟩ | ⟨h0, h1⟩ | ⟨h0, h1⟩
  · rw [outsAt1_A V c t h0 h1]; frame_out
    exact pay1_5 _ _ (fun j k => x (t.val / 28) j (t.val % 28 * 1792 + k)) w (blk1_0 V c x hx t) (blk1_1 V c w hw t) y
  · rw [outsAt1_B V c t h0 h1]; frame_out
    exact pay1_5 _ _ (fun j k => x (t.val / 28) j (t.val % 28 * 1792 + k)) w (blk1_0 V c x hx t) (blk1_1 V c w hw t) y
  · rw [outsAt1_C V c t h0 h1]; frame_out
    exact pay1_5 _ _ (fun j k => x (t.val / 28) j (t.val % 28 * 1792 + k)) w (blk1_0 V c x hx t) (blk1_1 V c w hw t) y

include hx hg in
/-- The cosine's array. -/
theorem r1_4 (i : Fin 4) (u : Fin 1) (n : Fin 50176) :
    (dat1 V c).arrAt 4 cfg1.N (ix3 i u n) = cosine (fun b j => g b j * invHW) x i n := by
  refine congrFun ((dat1 V c).arrAt_eq_of_covers 4 (fun i => cosine (fun b j => g b j * invHW) x (i 0).val (i 2).val) (by decide +kernel) ?_) (ix3 i u n)
  intro t hf y
  blk_simp [idx1_4 t]
  rw [after1_4]
  rcases cases1 t with ⟨h0, h1⟩ | ⟨h0, h1⟩ | ⟨h0, h1⟩
  · rw [outsAt1_A V c t h0 h1]; frame_out
    exact pay1_11 _ _ (fun j k => x (t.val / 28) j (t.val % 28 * 1792 + k)) (g (t.val / 28)) (blk1_0 V c x hx t) (blk1_2 V c g hg t) y
  · rw [outsAt1_B V c t h0 h1]; frame_out
    exact pay1_11 _ _ (fun j k => x (t.val / 28) j (t.val % 28 * 1792 + k)) (g (t.val / 28)) (blk1_0 V c x hx t) (blk1_2 V c g hg t) y
  · rw [outsAt1_C V c t h0 h1]; frame_out
    exact pay1_11 _ _ (fun j k => x (t.val / 28) j (t.val % 28 * 1792 + k)) (g (t.val / 28)) (blk1_0 V c x hx t) (blk1_2 V c g hg t) y

include hx hw in
/-- The statistics' array: it starts over at the grid's first point only. -/
theorem r1_5 (r : Fin 2) (o : Fin 96) :
    (dat1 V c).arrAt 5 cfg1.N (ix2 r o) = stat (lin w x) r o := by
  refine congrFun ((dat1 V c).arrAt_eq_of_covers 5 (fun i => stat (lin w x) (i 0).val (i 1).val) (by decide +kernel) ?_) (ix2 r o)
  intro t hf y
  have hr := (flush1_5 t).mp hf
  have ht : t.val < 112 := Nat.lt_of_lt_of_eq t.isLt N_1
  blk_simp [idx1_5 t]
  rw [after1_5]
  have H := Pipeline.eq_sum_of_reset_step_apply_single (M := EReal) (fun n h => (outsAt1 V c n h).2.2.1) 112 (fun _ => 0)
    (fun p y => ∑ k ∈ Finset.range 1792, pow1 (y 0).val (lin w x (p / 28) (y 1).val (p % 28 * 1792 + k))) ?_ ?_
    (Nat.le_of_eq N_1) t y
  · rw [H, zero_add, show t.val + 1 = 4 * 28 by omega,
      Finset.sum_points_lanes 4 28 1792 (fun b n => pow1 (y 0).val (lin w x b (y 1).val n))]
    rfl
  · intro t h0 y
    rw [outsAt1_A V c t h0 (by omega)]; frame_out
    rw [pay1_7 _ _ (fun j k => x (t.val / 28) j (t.val % 28 * 1792 + k)) w (blk1_0 V c x hx t) (blk1_1 V c w hw t)]
    pointwise [k1_pay6]
    rfl
  · intro t h0 y
    by_cases h1 : t.val % 28 = 0
    · rw [outsAt1_C V c t h0 h1]; frame_out
      exact pay1_7 _ _ (fun j k => x (t.val / 28) j (t.val % 28 * 1792 + k)) w (blk1_0 V c x hx t) (blk1_1 V c w hw t) _ _
    · rw [outsAt1_B V c t h0 h1]; frame_out
      exact pay1_7 _ _ (fun j k => x (t.val / 28) j (t.val % 28 * 1792 + k)) w (blk1_0 V c x hx t) (blk1_1 V c w hw t) _ _

include hx hg in
/-- Each image's smallest cosine. -/
theorem r1_6 (i : Fin 4) (u v : Fin 1) :
    (dat1 V c).arrAt 6 cfg1.N (ix3 i u v) = lo (cosine (fun b j => g b j * invHW) x) i := by
  refine congrFun ((dat1 V c).arrAt_eq_of_covers 6 (fun i => lo (cosine (fun b j => g b j * invHW) x) (i 0).val) (by decide +kernel) ?_) (ix3 i u v)
  intro t hf y
  have hr := (flush1_6 t).mp hf
  blk_simp [idx1_6 t]
  rw [after1_6]
  have H := inf_of_reset (fun n h => (outsAt1 V c n h).2.2.2.1 y) 28
    (fun q p => (Finset.range 1792).inf fun k => cosine (fun b j => g b j * invHW) x q (p * 1792 + k)) ?_ ?_ t
  · rw [H, hr, inf_range_mul 28 1792 (cosine (fun b j => g b j * invHW) x (t.val / 28))]
    rfl
  · intro t h1
    by_cases h0 : t.val % 112 = 0
    · rw [outsAt1_A V c t h0 h1]; frame_out
      rw [pay1_16 _ _ (fun j k => x (t.val / 28) j (t.val % 28 * 1792 + k)) (g (t.val / 28)) (blk1_0 V c x hx t) (blk1_2 V c g hg t)]
      pointwise [k1_pay12, ofBits_pinf]
      rfl
    · rw [outsAt1_C V c t h0 h1]; frame_out
      rw [pay1_16 _ _ (fun j k => x (t.val / 28) j (t.val % 28 * 1792 + k)) (g (t.val / 28)) (blk1_0 V c x hx t) (blk1_2 V c g hg t)]
      pointwise [k1_pay12, ofBits_pinf]
      rfl
  · intro t h1
    rw [outsAt1_B V c t (by omega) h1]; frame_out
    exact pay1_16 _ _ (fun j k => x (t.val / 28) j (t.val % 28 * 1792 + k)) (g (t.val / 28)) (blk1_0 V c x hx t) (blk1_2 V c g hg t) _ _

include hx hg in
/-- Each image's largest cosine. -/
theorem r1_7 (i : Fin 4) (u v : Fin 1) :
    (dat1 V c).arrAt 7 cfg1.N (ix3 i u v) = hi (cosine (fun b j => g b j * invHW) x) i := by
  refine congrFun ((dat1 V c).arrAt_eq_of_covers 7 (fun i => hi (cosine (fun b j => g b j * invHW) x) (i 0).val) (by decide +kernel) ?_) (ix3 i u v)
  intro t hf y
  have hr := (flush1_7 t).mp hf
  blk_simp [idx1_7 t]
  rw [after1_7]
  have H := sup_of_reset (fun n h => (outsAt1 V c n h).2.2.2.2.1 y) 28
    (fun q p => (Finset.range 1792).sup fun k => cosine (fun b j => g b j * invHW) x q (p * 1792 + k)) ?_ ?_ t
  · rw [H, hr, sup_range_mul 28 1792 (cosine (fun b j => g b j * invHW) x (t.val / 28))]
    rfl
  · intro t h1
    by_cases h0 : t.val % 112 = 0
    · rw [outsAt1_A V c t h0 h1]; frame_out
      rw [pay1_17 _ _ (fun j k => x (t.val / 28) j (t.val % 28 * 1792 + k)) (g (t.val / 28)) (blk1_0 V c x hx t) (blk1_2 V c g hg t)]
      pointwise [k1_pay13, ofBits_ninf]
      rfl
    · rw [outsAt1_C V c t h0 h1]; frame_out
      rw [pay1_17 _ _ (fun j k => x (t.val / 28) j (t.val % 28 * 1792 + k)) (g (t.val / 28)) (blk1_0 V c x hx t) (blk1_2 V c g hg t)]
      pointwise [k1_pay13, ofBits_ninf]
      rfl
  · intro t h1
    rw [outsAt1_B V c t (by omega) h1]; frame_out
    exact pay1_17 _ _ (fun j k => x (t.val / 28) j (t.val % 28 * 1792 + k)) (g (t.val / 28)) (blk1_0 V c x hx t) (blk1_2 V c g hg t) _ _

include hx hg in
/-- Each image's sum of cosines. -/
theorem r1_8 (i : Fin 4) (u v : Fin 1) :
    (dat1 V c).arrAt 8 cfg1.N (ix3 i u v) = tot 0 (cosine (fun b j => g b j * invHW) x) i := by
  refine congrFun ((dat1 V c).arrAt_eq_of_covers 8 (fun i => tot 0 (cosine (fun b j => g b j * invHW) x) (i 0).val) (by decide +kernel) ?_) (ix3 i u v)
  intro t hf y
  have hr := (flush1_8 t).mp hf
  blk_simp [idx1_8 t]
  rw [after1_8]
  have H := Pipeline.eq_sum_of_reset_step_apply_divmod (M := EReal) (fun n h => (outsAt1 V c n h).2.2.2.2.2.1) 28 (fun _ => 0)
    (fun q p _ => ∑ k ∈ Finset.range 1792, pow1 0 (cosine (fun b j => g b j * invHW) x q (p * 1792 + k))) ?_ ?_ t y
  · rw [H, hr, zero_add, Finset.sum_range_range_mul_add 28 1792 (fun n => pow1 0 (cosine (fun b j => g b j * invHW) x (t.val / 28) n))]
    rfl
  · intro t h1 y
    by_cases h0 : t.val % 112 = 0
    · rw [outsAt1_A V c t h0 h1]; frame_out
      rw [pay1_1 _ _ (fun j k => x (t.val / 28) j (t.val % 28 * 1792 + k)) (g (t.val / 28)) (blk1_0 V c x hx t) (blk1_2 V c g hg t)]
      pointwise [k1_pay14]
      rfl
    · rw [outsAt1_C V c t h0 h1]; frame_out
      rw [pay1_1 _ _ (fun j k => x (t.val / 28) j (t.val % 28 * 1792 + k)) (g (t.val / 28)) (blk1_0 V c x hx t) (blk1_2 V c g hg t)]
      pointwise [k1_pay14]
      rfl
  · intro t h1 y
    rw [outsAt1_B V c t (by omega) h1]; frame_out
    exact pay1_1 _ _ (fun j k => x (t.val / 28) j (t.val % 28 * 1792 + k)) (g (t.val / 28)) (blk1_0 V c x hx t) (blk1_2 V c g hg t) _ _

include hx hg in
/-- Each image's sum of squared cosines. -/
theorem r1_9 (i : Fin 4) (u v : Fin 1) :
    (dat1 V c).arrAt 9 cfg1.N (ix3 i u v) = tot 1 (cosine (fun b j => g b j * invHW) x) i := by
  refine congrFun ((dat1 V c).arrAt_eq_of_covers 9 (fun i => tot 1 (cosine (fun b j => g b j * invHW) x) (i 0).val) (by decide +kernel) ?_) (ix3 i u v)
  intro t hf y
  have hr := (flush1_9 t).mp hf
  blk_simp [idx1_9 t]
  rw [after1_9]
  have H := Pipeline.eq_sum_of_reset_step_apply_divmod (M := EReal) (fun n h => (outsAt1 V c n h).2.2.2.2.2.2) 28 (fun _ => 0)
    (fun q p _ => ∑ k ∈ Finset.range 1792, pow1 1 (cosine (fun b j => g b j * invHW) x q (p * 1792 + k))) ?_ ?_ t y
  · rw [H, hr, zero_add, Finset.sum_range_range_mul_add 28 1792 (fun n => pow1 1 (cosine (fun b j => g b j * invHW) x (t.val / 28) n))]
    rfl
  · intro t h1 y
    by_cases h0 : t.val % 112 = 0
    · rw [outsAt1_A V c t h0 h1]; frame_out
      rw [pay1_2 _ _ (fun j k => x (t.val / 28) j (t.val % 28 * 1792 + k)) (g (t.val / 28)) (blk1_0 V c x hx t) (blk1_2 V c g hg t)]
      pointwise [k1_pay15]
      rfl
    · rw [outsAt1_C V c t h0 h1]; frame_out
      rw [pay1_2 _ _ (fun j k => x (t.val / 28) j (t.val % 28 * 1792 + k)) (g (t.val / 28)) (blk1_0 V c x hx t) (blk1_2 V c g hg t)]
      pointwise [k1_pay15]
      rfl
  · intro t h1 y
    rw [outsAt1_B V c t (by omega) h1]; frame_out
    exact pay1_2 _ _ (fun j k => x (t.val / 28) j (t.val % 28 * 1792 + k)) (g (t.val / 28)) (blk1_0 V c x hx t) (blk1_2 V c g hg t) _ _

end Arr

end Cert.KVal
-- ==== Proof.Model.lean ====
/-
  The whole computation as functions of the arguments, in the kernel's form and in the reference's, and their equality for
  finite arguments.
-/
module

public import proofs.«01_k».proof.Proof.Norm
public import proofs.«01_k».proof.Proof.K1

@[expose] public section

noncomputable section

namespace Cert.KVal

open Idealize.ShloMosaic

/-- The arguments, by natural-number coordinates. -/
structure Args where
  x : ℕ → ℕ → ℕ → ℕ → EReal
  w1 : ℕ → ℕ → EReal
  g2 : ℕ → EReal
  b3 : ℕ → EReal
  k4 : ℕ → ℕ → EReal
  g5 : ℕ → EReal
  b6 : ℕ → EReal
  k7 : ℕ → ℕ → EReal
  g8 : ℕ → EReal
  b9 : ℕ → EReal
  k10 : ℕ → ℕ → EReal
  c11 : ℕ → EReal
  g12 : ℕ → EReal
  b13 : ℕ → EReal
  k14 : ℕ → ℕ → EReal
  c15 : ℕ → EReal
  g16 : ℕ → EReal
  b17 : ℕ → EReal
  f18 : ℕ → ℕ → EReal
  b19 : ℕ → EReal
  p20 : ℕ → ℕ → EReal
  b21 : ℕ → EReal
  p22 : ℕ → ℕ → EReal
  b23 : ℕ → EReal
  p24 : ℕ → ℕ → EReal
  b25 : ℕ → EReal
  w26 : ℕ → EReal
  g27 : ℕ → EReal
  b28 : ℕ → EReal
  g29 : ℕ → EReal
  b30 : ℕ → EReal

/-- Every argument is finite. -/
structure Args.Finite (A : Args) : Prop where
  x : ∀ b o h w, Fn (A.x b o h w)
  w1 : ∀ o i, Fn (A.w1 o i)
  g2 : ∀ o, Fn (A.g2 o)
  b3 : ∀ o, Fn (A.b3 o)
  k4 : ∀ o i, Fn (A.k4 o i)
  g5 : ∀ o, Fn (A.g5 o)
  b6 : ∀ o, Fn (A.b6 o)
  k7 : ∀ o i, Fn (A.k7 o i)
  g8 : ∀ o, Fn (A.g8 o)
  b9 : ∀ o, Fn (A.b9 o)
  k10 : ∀ o i, Fn (A.k10 o i)
  c11 : ∀ o, Fn (A.c11 o)
  g12 : ∀ o, Fn (A.g12 o)
  b13 : ∀ o, Fn (A.b13 o)
  k14 : ∀ o i, Fn (A.k14 o i)
  c15 : ∀ o, Fn (A.c15 o)
  g16 : ∀ o, Fn (A.g16 o)
  b17 : ∀ o, Fn (A.b17 o)
  f18 : ∀ o i, Fn (A.f18 o i)
  b19 : ∀ o, Fn (A.b19 o)
  p20 : ∀ o i, Fn (A.p20 o i)
  b21 : ∀ o, Fn (A.b21 o)
  p22 : ∀ o i, Fn (A.p22 o i)
  b23 : ∀ o, Fn (A.b23 o)
  p24 : ∀ o i, Fn (A.p24 o i)
  b25 : ∀ o, Fn (A.b25 o)
  w26 : ∀ o, Fn (A.w26 o)
  g27 : ∀ o, Fn (A.g27 o)
  b28 : ∀ o, Fn (A.b28 o)
  g29 : ∀ o, Fn (A.g29 o)
  b30 : ∀ o, Fn (A.b30 o)

/-- A channel's scale and shift from its statistics. -/
def scl (g : ℕ → EReal) (st : ℕ → ℕ → EReal) (o : ℕ) : EReal := bnA (g o) (st 0 o) (st 1 o)
def shf (g s : ℕ → EReal) (st : ℕ → ℕ → EReal) (o : ℕ) : EReal := bnB (g o) (s o) (st 0 o) (st 1 o)

namespace Args

variable (A : Args)

/-- The 1×1 convolution's result, by pixels and by rows and columns. -/
def yN : ℕ → ℕ → ℕ → EReal := lin A.w1 (flat A.x)
def y (b o h w : ℕ) : EReal := A.yN b o (h * 224 + w)

/-- The kernel's four convolutions. -/
def kc1 : ℕ → ℕ → ℕ → ℕ → EReal := convW1 A.k4 (affine A.y (scl A.g2 (stat A.yN)) (shf A.g2 A.b3 (stat A.yN)))
def kc2 : ℕ → ℕ → ℕ → ℕ → EReal := convH1 A.k7 (affine A.kc1 (scl A.g5 (stat4 A.kc1)) (shf A.g5 A.b6 (stat4 A.kc1)))
def kc3 : ℕ → ℕ → ℕ → ℕ → EReal :=
  convW2 A.k10 A.c11 (affine A.kc2 (scl A.g8 (stat4 A.kc2)) (shf A.g8 A.b9 (stat4 A.kc2)))
def kc4 : ℕ → ℕ → ℕ → ℕ → EReal :=
  convH2 A.k14 A.c15 (affine A.kc3 (scl A.g12 (stat4 A.kc3)) (shf A.g12 A.b13 (stat4 A.kc3)))

/-- The reference's. -/
def rc1 : ℕ → ℕ → ℕ → ℕ → EReal := convW1 A.k4 (bnR A.y A.g2 A.b3)
def rc2 : ℕ → ℕ → ℕ → ℕ → EReal := convH1 A.k7 (bnR A.rc1 A.g5 A.b6)
def rc3 : ℕ → ℕ → ℕ → ℕ → EReal := convW2 A.k10 A.c11 (bnR A.rc2 A.g8 A.b9)
def rc4 : ℕ → ℕ → ℕ → ℕ → EReal := convH2 A.k14 A.c15 (bnR A.rc3 A.g12 A.b13)

/-- The cosine of a pixel with the image's mean, the kernel's mean as the sum times the constant. -/
def ks : ℕ → ℕ → EReal := cosine (fun b j => pixSum (flat A.x) b j * invHW) (flat A.x)
def rs : ℕ → ℕ → EReal := cosine (meanHW A.x) (flat A.x)

/-- The texture coefficients on the histogram of the cosines `s`. -/
def coef (s : ℕ → ℕ → EReal) (b : ℕ) : ℕ → ℕ → EReal := tex A.p20 A.p22 A.p24 A.b21 A.b23 A.b25 (feat s A.f18 A.b19 b)

/-- The kernel's result. -/
def kOut (b o h w : ℕ) : EReal :=
  gate (A.x b o h w)
    (satA (A.g29 o) (A.w26 o) (sum4 (tot 0 A.ks)) (sum4 (tot 1 A.ks)) * A.w26 o * A.ks b (h * 224 + w)
      + (A.b30 o - A.w26 o * Ideal.div (sum4 (tot 0 A.ks)) nTot
          * satA (A.g29 o) (A.w26 o) (sum4 (tot 0 A.ks)) (sum4 (tot 1 A.ks))))
    (∑ m ∈ Finset.range 10, A.coef A.ks b o m
        * bnA (A.g27 o) (texS (A.coef A.ks) (rowSum (rows A.ks)) o) (texQ (A.coef A.ks) (gram (rows A.ks)) o)
        * rows A.ks b m (h * 224 + w)
      + bnB (A.g27 o) (A.b28 o) (texS (A.coef A.ks) (rowSum (rows A.ks)) o) (texQ (A.coef A.ks) (gram (rows A.ks)) o))
    (affine A.kc4 (scl A.g16 (stat4 A.kc4)) (shf A.g16 A.b17 (stat4 A.kc4)) b o h w)

/-- The reference's result. -/
def rOut (b o h w : ℕ) : EReal :=
  gate (A.x b o h w) (bnR (satMap A.rs A.w26) A.g29 A.b30 b o h w) (bnR (texMap (A.coef A.rs) A.rs) A.g27 A.b28 b o h w)
    (bnR A.rc4 A.g16 A.b17 b o h w)

end Args

/-! The convolutions keep finite values. -/

theorem fn_padAt (p : ℕ) (f : ℕ → EReal) (hf : ∀ i, Fn (f i)) (i : ℕ) : Fn (padAt p f i) := by
  unfold padAt
  split
  · exact fn_zero
  · split
    · exact hf _
    · exact fn_zero

theorem fn_conv5 (p o1 o2 o3 o4 : ℕ) (k : ℕ → EReal) (hk : ∀ i, Fn (k i)) (f : ℕ → EReal) (hf : ∀ i, Fn (f i)) (i : ℕ) :
    Fn (conv5 p o1 o2 o3 o4 k f i) := by
  unfold conv5
  have h : ∀ t j, Fn (k t * padAt p f j) := fun t j => fn_mul (hk t) (fn_padAt p f hf j)
  exact fn_add (fn_add (fn_add (fn_add (h _ _) (h _ _)) (h _ _)) (h _ _)) (h _ _)

/-- The scaled and shifted values are the normalized ones. -/
theorem affine_eq (f : ℕ → ℕ → ℕ → ℕ → EReal) (hf : ∀ b o h w, Fn (f b o h w)) (g s : ℕ → EReal) (hg : ∀ o, Fn (g o))
    (hs : ∀ o, Fn (s o)) : affine f (scl g (stat4 f)) (shf g s (stat4 f)) = bnR f g s := by
  funext b o h w
  exact norm_eq f hf g s hg hs b o h w

section
variable {A : Args} (H : A.Finite)
include H

theorem fn_flat (b o n : ℕ) : Fn (flat A.x b o n) := H.x _ _ _ _
theorem fn_y (b o h w : ℕ) : Fn (A.y b o h w) := by
  unfold Args.y Args.yN lin
  exact fn_sum _ _ fun i => fn_mul (H.w1 o i) (fn_flat H _ _ _)
theorem fn_rc1 (b o h w : ℕ) : Fn (A.rc1 b o h w) :=
  fn_conv5 _ _ _ _ _ _ (H.k4 o) _ (fun _ => fn_bnR _ (fn_y H) _ _ H.g2 H.b3 _ _ _ _) _
theorem fn_rc2 (b o h w : ℕ) : Fn (A.rc2 b o h w) :=
  fn_conv5 _ _ _ _ _ _ (H.k7 o) _ (fun _ => fn_bnR _ (fn_rc1 H) _ _ H.g5 H.b6 _ _ _ _) _
theorem fn_rc3 (b o h w : ℕ) : Fn (A.rc3 b o h w) :=
  fn_add (fn_conv5 _ _ _ _ _ _ (H.k10 o) _ (fun _ => fn_bnR _ (fn_rc2 H) _ _ H.g8 H.b9 _ _ _ _) _) (H.c11 o)
theorem fn_rc4 (b o h w : ℕ) : Fn (A.rc4 b o h w) :=
  fn_add (fn_conv5 _ _ _ _ _ _ (H.k14 o) _ (fun _ => fn_bnR _ (fn_rc3 H) _ _ H.g12 H.b13 _ _ _ _) _) (H.c15 o)

theorem stat_y : stat A.yN = stat4 A.y := by
  funext r o
  exact stat_eq A.yN r o
theorem kc1_eq : A.kc1 = A.rc1 := by
  unfold Args.kc1 Args.rc1
  rw [stat_y H, affine_eq _ (fn_y H) _ _ H.g2 H.b3]
theorem kc2_eq : A.kc2 = A.rc2 := by
  unfold Args.kc2 Args.rc2
  rw [kc1_eq H, affine_eq _ (fn_rc1 H) _ _ H.g5 H.b6]
theorem kc3_eq : A.kc3 = A.rc3 := by
  unfold Args.kc3 Args.rc3
  rw [kc2_eq H, affine_eq _ (fn_rc2 H) _ _ H.g8 H.b9]
theorem kc4_eq : A.kc4 = A.rc4 := by
  unfold Args.kc4 Args.rc4
  rw [kc3_eq H, affine_eq _ (fn_rc3 H) _ _ H.g12 H.b13]

/-- The mean of a channel of an image. -/
theorem mean_eq (b j : ℕ) : pixSum (flat A.x) b j * invHW = meanHW A.x b j := by
  have e : pixSum (flat A.x) b j = ∑ h ∈ Finset.range 224, ∑ w ∈ Finset.range 224, A.x b j h w := by
    refine (sum_hw fun n => flat A.x b j n).symm.trans ?_
    refine Finset.sum_congr rfl fun h _ => Finset.sum_congr rfl fun w hw => ?_
    have hw := Finset.mem_range.mp hw
    have e1 : (h * 224 + w) / 224 = h := by omega
    have e2 : (h * 224 + w) % 224 = w := by omega
    simp only [flat, e1, e2]
  obtain ⟨r, hr⟩ : Fn (∑ h ∈ Finset.range 224, ∑ w ∈ Finset.range 224, A.x b j h w) :=
    fn_sum _ _ fun h => fn_sum _ _ fun w => H.x _ _ _ _
  unfold meanHW
  rw [e, hr, nHW_eq, div_real _ _ (by norm_num), invHW, ← EReal.coe_mul]
  refine congrArg Real.toEReal ?_
  ring
theorem ks_eq : A.ks = A.rs := by
  unfold Args.ks Args.rs
  have e : (fun b j => pixSum (flat A.x) b j * invHW) = meanHW A.x := by
    funext b j
    exact mean_eq H b j
  rw [e]

theorem fn_meanHW (b j : ℕ) : Fn (meanHW A.x b j) := by
  unfold meanHW
  refine fn_div (fn_sum _ _ fun h => fn_sum _ _ fun w => H.x _ _ _ _) ⟨_, nHW_eq⟩ ?_
  rw [nHW_eq]
  exact_mod_cast (by norm_num : (50176 : ℝ) ≠ 0)
end

theorem coe_max (a b : ℝ) : ((max a b : ℝ) : EReal) = max (a : EReal) (b : EReal) :=
  EReal.coe_strictMono.monotone.map_max

/-- A norm, kept from zero, is finite and positive. -/
theorem fn_norm (f : ℕ → EReal) (hf : ∀ i, Fn (f i)) :
    ∃ r : ℝ, 0 < r ∧ max (Ideal.sqrt (∑ i ∈ Finset.range 96, f i * f i)) eps8 = (r : EReal) := by
  obtain ⟨f, rfl⟩ := Fn.lift1 hf
  obtain ⟨e, he, hE⟩ := eps8_eq
  refine ⟨max (Real.sqrt (∑ i ∈ Finset.range 96, f i * f i)) e, lt_max_of_lt_right he, ?_⟩
  rw [hE]
  simp only [← EReal.coe_mul, coe_sum]
  rw [sqrt_real _ (Finset.sum_nonneg fun i _ => mul_self_nonneg _)]
  exact (coe_max _ _).symm

theorem fn_cosine (g : ℕ → ℕ → EReal) (hg : ∀ b j, Fn (g b j)) (x : ℕ → ℕ → ℕ → EReal) (hx : ∀ b o n, Fn (x b o n)) (b n : ℕ) :
    Fn (cosine g x b n) := by
  obtain ⟨p, hp, hP⟩ := fn_norm (g b) (hg b)
  obtain ⟨q, hq, hQ⟩ := fn_norm (fun i => x b i n) (fun i => hx b i n)
  unfold cosine
  rw [hP, hQ, ← EReal.coe_mul]
  exact fn_div (fn_sum _ _ fun i => fn_mul (hg b i) (hx b i n)) (fn_coe _) (by exact_mod_cast (mul_pos hp hq).ne')

/-! The histogram of finite cosines. -/

theorem ninth_eq (i : ℕ) : Fn (ninth i) := by
  unfold ninth
  rw [nine_eq]
  exact fn_div (fn_coe _) (fn_coe _) (by exact_mod_cast (by norm_num : (9 : ℝ) ≠ 0))
theorem ninth_zero : ninth 0 = 0 := by
  have h : FloatOps.sitofp (F := Ideal) .f32 (BitVec.ofNat 32 0) = ((0 : ℝ) : EReal) := by
    simp [FloatOps.sitofp]
  unfold ninth
  rw [nine_eq, h, div_real _ _ (by norm_num)]
  simp
theorem fn_lsp (i : ℕ) : Fn (lsp i) := by
  unfold lsp
  split
  · exact fn_add (fn_mul fn_zero (fn_sub fn_one (ninth_eq i))) (fn_mul fn_one (ninth_eq i))
  · exact fn_one
theorem lsp_zero : lsp 0 = 0 := by
  simp [lsp, ninth_zero]

/-- A bin's share is finite and not negative, and one at the level itself. -/
theorem bin_real (l s : ℝ) : ∃ r : ℝ, 0 ≤ r ∧ bin (l : EReal) (s : EReal) = (r : EReal) := by
  obtain ⟨e, he, he1, hE⟩ := half10_eq
  unfold bin
  rw [hE, ← EReal.coe_sub, ← EReal.coe_neg, ← coe_max]
  split
  · next h =>
    have h : max (l - s) (-(l - s)) < e := by exact_mod_cast h
    exact ⟨1 - max (l - s) (-(l - s)), by linarith, by rw [EReal.coe_sub, EReal.coe_one]⟩
  · exact ⟨0, le_refl _, EReal.coe_zero.symm⟩
theorem bin_self (l : ℝ) : bin (l : EReal) (l : EReal) = 1 := by
  obtain ⟨e, he, he1, hE⟩ := half10_eq
  unfold bin
  rw [hE, ← EReal.coe_sub, ← EReal.coe_neg, ← coe_max, sub_self, neg_zero, max_self, if_pos (by exact_mod_cast he)]
  simp

section
variable (s : ℕ → ℕ → EReal) (hs : ∀ b n, Fn (s b n))
include hs

theorem fn_level (b k : ℕ) : Fn (level s b k) := by
  have hl : Fn (lo s b) := fn_inf 50176 (by norm_num) _ (hs b)
  have hh : Fn (hi s b) := fn_sup 50176 (by norm_num) _ (hs b)
  exact fn_add hl (fn_mul (fn_sub hh hl) (fn_lsp k))
theorem bins_real (b n k : ℕ) : ∃ r : ℝ, 0 ≤ r ∧ bins s b n k = (r : EReal) := by
  obtain ⟨l, hl⟩ := fn_level s hs b k
  obtain ⟨t, ht⟩ := hs b n
  unfold bins
  rw [hl, ht]
  exact bin_real l t
theorem fn_bins (b n k : ℕ) : Fn (bins s b n k) := (bins_real s hs b n k).imp fun _ h => h.2
theorem fn_binSum (b k : ℕ) : Fn (binSum s b k) := fn_sum _ _ fun n => fn_bins s hs b n k

/-- Some pixel attains the smallest cosine and falls wholly in the first bin, so the bins' sum isn't zero. -/
theorem binTot_ne (b : ℕ) : binTot s b ≠ 0 := by
  obtain ⟨n, hn, hN⟩ := Finset.exists_mem_eq_inf (Finset.range 50176) ⟨0, Finset.mem_range.mpr (by norm_num)⟩ (s b)
  have h0 : bins s b n 0 = 1 := by
    obtain ⟨t, ht⟩ := hs b n
    have hl : level s b 0 = s b n := by
      unfold level lo
      rw [lsp_zero, mul_zero, add_zero, hN]
    unfold bins
    rw [hl, ht]
    exact bin_self t
  choose f hf hF using fun n k => bins_real s hs b n k
  have hn0 : f n 0 = 1 := by
    have := (hF n 0).symm.trans h0
    exact_mod_cast this
  have e : binTot s b = ((∑ k ∈ Finset.range 10, ∑ n ∈ Finset.range 50176, f n k : ℝ) : EReal) := by
    simp only [binTot, binSum, hF, coe_sum]
  have hp : 0 < ∑ k ∈ Finset.range 10, ∑ n ∈ Finset.range 50176, f n k := by
    refine Finset.sum_pos' (fun k _ => Finset.sum_nonneg fun n _ => hf n k) ⟨0, Finset.mem_range.mpr (by norm_num), ?_⟩
    exact Finset.sum_pos' (fun n _ => hf n 0) ⟨n, hn, by rw [hn0]; norm_num⟩
  rw [e]
  exact_mod_cast hp.ne'

theorem fn_pair (r k : ℕ) : Fn (pair s r k) := by
  unfold pair
  split
  · exact fn_div (fn_binSum s hs _ _) (fn_sum _ _ fun k => fn_binSum s hs _ k) (binTot_ne s hs _)
  · exact fn_level s hs _ _
theorem fn_feat (wf : ℕ → ℕ → EReal) (hw : ∀ k o, Fn (wf k o)) (bf : ℕ → EReal) (hb : ∀ o, Fn (bf o)) (b o m : ℕ) :
    Fn (feat s wf bf b o m) :=
  fn_add (fn_add (fn_mul (fn_pair s hs _ _) (hw _ _)) (fn_mul (fn_pair s hs _ _) (hw _ _))) (hb _)
end

/-! The texture coefficients. -/

theorem fn_proj (w : ℕ → ℕ → EReal) (hw : ∀ o i, Fn (w o i)) (bp : ℕ → EReal) (hb : ∀ o, Fn (bp o)) (ch : ℕ → ℕ → EReal)
    (hc : ∀ o m, Fn (ch o m)) (o m : ℕ) : Fn (proj w bp ch o m) :=
  fn_add (fn_sum _ _ fun c => fn_mul (hw o c) (hc c m)) (hb o)
theorem fn_soft (l : ℕ → ℕ → EReal) (hl : ∀ m n, Fn (l m n)) (m n : ℕ) : Fn (soft l m n) := by
  have he : ∀ n, ∃ r : ℝ, 0 < r ∧ expo l m n = (r : EReal) := by
    intro n
    obtain ⟨r, hr⟩ := fn_sub (hl m n) (fn_sup 10 (by norm_num) (l m) (hl m))
    exact ⟨Real.exp r, Real.exp_pos r, by unfold expo; rw [hr, Ideal.exp_coe]⟩
  choose f hf hF using he
  have h0 : 0 < ∑ k ∈ Finset.range 10, f k := Finset.sum_pos (fun k _ => hf k) ⟨0, Finset.mem_range.mpr (by norm_num)⟩
  unfold soft
  simp only [hF, coe_sum]
  exact fn_div (fn_coe _) (fn_coe _) (by exact_mod_cast h0.ne')

section
variable {A : Args} (H : A.Finite)
include H

theorem fn_rs (b n : ℕ) : Fn (A.rs b n) := fn_cosine _ (fn_meanHW H) _ (fn_flat H) b n
theorem fn_coef (b o m : ℕ) : Fn (A.coef A.rs b o m) := by
  have hc : ∀ o m, Fn (feat A.rs A.f18 A.b19 b o m) := fn_feat A.rs (fn_rs H) _ H.f18 _ H.b19 b
  unfold Args.coef tex mix logit
  exact fn_sum _ _ fun k => fn_mul (fn_proj _ H.p24 _ H.b25 _ hc _ _) (fn_soft _ (fun m n => fn_sum _ _ fun c =>
    fn_mul (fn_proj _ H.p20 _ H.b21 _ hc _ _) (fn_proj _ H.p22 _ H.b23 _ hc _ _)) _ _)

/-- The kernel's result is the reference's. -/
theorem kOut_eq (b o h w : ℕ) : A.kOut b o h w = A.rOut b o h w := by
  unfold Args.kOut Args.rOut
  rw [ks_eq H, kc4_eq H, affine_eq _ (fn_rc4 H) _ _ H.g16 H.b17, sat_eq A.rs (fn_rs H) A.w26 A.g29 A.b30 H.w26 H.g29 H.b30,
    tex_eq (A.coef A.rs) (fn_coef H) A.rs (fun b m n => fn_bins A.rs (fn_rs H) b _ _) A.g27 A.b28 H.g27 H.b28]
end

end Cert.KVal
-- ==== Proof.RefTop.lean ====
/-
  The arguments' arrays as functions of natural numbers, and the reference's result in terms of them.
-/
module

public import proofs.«01_k».proof.Proof.RefB
public import proofs.«01_k».proof.Proof.Model
public import proofs.«01_k».proof.Proof.Gen.ReferenceIdeal.Read

@[expose] public section

set_option maxRecDepth 16384

noncomputable section

namespace Cert.KVal

open Cert.ReferenceIdeal Cert.ReferenceIdeal.Gen Cert.ReferenceIdeal.Read
open Idealize.ShloMosaic Idealize.ShloMosaic.TcCoe Idealize.ShloMosaic.Tactic

/-- The arrays hold the arguments `A`. -/
structure Reads (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (x14 : (⟨S96x1x5x1, .f32⟩ : BufTy).Contents (Elt Ideal)) (x15 x16 x17 : (⟨S96, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 : (⟨S96, .f32⟩ : BufTy).Contents (Elt Ideal)) (x26 : (⟨S96x1x1x1, .f32⟩ : BufTy).Contents (Elt Ideal)) (x27 x28 x29 x30 : (⟨S96, .f32⟩ : BufTy).Contents (Elt Ideal))
    (A : Args) : Prop where
  r0 : ∀ (b : Fin 4) (o : Fin 96) (h w : Fin 224), x0 (ix4 b o h w) = A.x b o h w
  r1 : ∀ o i : Fin 96, x1 (ix4 o i 0 0) = A.w1 o i
  r2 : ∀ o : Fin 96, x2 (ix1 o) = A.g2 o
  r3 : ∀ o : Fin 96, x3 (ix1 o) = A.b3 o
  r4 : ∀ (o : Fin 96) (t : Fin 5), x4 (ix4 o 0 0 t) = A.k4 o t
  r5 : ∀ o : Fin 96, x5 (ix1 o) = A.g5 o
  r6 : ∀ o : Fin 96, x6 (ix1 o) = A.b6 o
  r7 : ∀ (o : Fin 96) (t : Fin 5), x7 (ix4 o 0 t 0) = A.k7 o t
  r8 : ∀ o : Fin 96, x8 (ix1 o) = A.g8 o
  r9 : ∀ o : Fin 96, x9 (ix1 o) = A.b9 o
  r10 : ∀ (o : Fin 96) (t : Fin 5), x10 (ix4 o 0 0 t) = A.k10 o t
  r11 : ∀ o : Fin 96, x11 (ix1 o) = A.c11 o
  r12 : ∀ o : Fin 96, x12 (ix1 o) = A.g12 o
  r13 : ∀ o : Fin 96, x13 (ix1 o) = A.b13 o
  r14 : ∀ (o : Fin 96) (t : Fin 5), x14 (ix4 o 0 t 0) = A.k14 o t
  r15 : ∀ o : Fin 96, x15 (ix1 o) = A.c15 o
  r16 : ∀ o : Fin 96, x16 (ix1 o) = A.g16 o
  r17 : ∀ o : Fin 96, x17 (ix1 o) = A.b17 o
  r18 : ∀ (o : Fin 96) (k : Fin 2), x18 (ix2 o k) = A.f18 k o
  r19 : ∀ o : Fin 96, x19 (ix1 o) = A.b19 o
  r20 : ∀ o i : Fin 96, x20 (ix2 o i) = A.p20 o i
  r21 : ∀ o : Fin 96, x21 (ix1 o) = A.b21 o
  r22 : ∀ o i : Fin 96, x22 (ix2 o i) = A.p22 o i
  r23 : ∀ o : Fin 96, x23 (ix1 o) = A.b23 o
  r24 : ∀ o i : Fin 96, x24 (ix2 o i) = A.p24 o i
  r25 : ∀ o : Fin 96, x25 (ix1 o) = A.b25 o
  r26 : ∀ o : Fin 96, x26 (ix4 o 0 0 0) = A.w26 o
  r27 : ∀ o : Fin 96, x27 (ix1 o) = A.g27 o
  r28 : ∀ o : Fin 96, x28 (ix1 o) = A.b28 o
  r29 : ∀ o : Fin 96, x29 (ix1 o) = A.g29 o
  r30 : ∀ o : Fin 96, x30 (ix1 o) = A.b30 o

/-- The arguments of given arrays. -/
def argsOf (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (x14 : (⟨S96x1x5x1, .f32⟩ : BufTy).Contents (Elt Ideal)) (x15 x16 x17 : (⟨S96, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 : (⟨S96, .f32⟩ : BufTy).Contents (Elt Ideal)) (x26 : (⟨S96x1x1x1, .f32⟩ : BufTy).Contents (Elt Ideal)) (x27 x28 x29 x30 : (⟨S96, .f32⟩ : BufTy).Contents (Elt Ideal)) : Args where
  x := fun b o h w => x0 (ix4 (Fin.ofNat 4 b) (Fin.ofNat 96 o) (Fin.ofNat 224 h) (Fin.ofNat 224 w))
  w1 := fun o i => x1 (ix4 (Fin.ofNat 96 o) (Fin.ofNat 96 i) 0 0)
  g2 := fun o => x2 (ix1 (Fin.ofNat 96 o))
  b3 := fun o => x3 (ix1 (Fin.ofNat 96 o))
  k4 := fun o t => x4 (ix4 (Fin.ofNat 96 o) 0 0 (Fin.ofNat 5 t))
  g5 := fun o => x5 (ix1 (Fin.ofNat 96 o))
  b6 := fun o => x6 (ix1 (Fin.ofNat 96 o))
  k7 := fun o t => x7 (ix4 (Fin.ofNat 96 o) 0 (Fin.ofNat 5 t) 0)
  g8 := fun o => x8 (ix1 (Fin.ofNat 96 o))
  b9 := fun o => x9 (ix1 (Fin.ofNat 96 o))
  k10 := fun o t => x10 (ix4 (Fin.ofNat 96 o) 0 0 (Fin.ofNat 5 t))
  c11 := fun o => x11 (ix1 (Fin.ofNat 96 o))
  g12 := fun o => x12 (ix1 (Fin.ofNat 96 o))
  b13 := fun o => x13 (ix1 (Fin.ofNat 96 o))
  k14 := fun o t => x14 (ix4 (Fin.ofNat 96 o) 0 (Fin.ofNat 5 t) 0)
  c15 := fun o => x15 (ix1 (Fin.ofNat 96 o))
  g16 := fun o => x16 (ix1 (Fin.ofNat 96 o))
  b17 := fun o => x17 (ix1 (Fin.ofNat 96 o))
  f18 := fun k o => x18 (ix2 (Fin.ofNat 96 o) (Fin.ofNat 2 k))
  b19 := fun o => x19 (ix1 (Fin.ofNat 96 o))
  p20 := fun o i => x20 (ix2 (Fin.ofNat 96 o) (Fin.ofNat 96 i))
  b21 := fun o => x21 (ix1 (Fin.ofNat 96 o))
  p22 := fun o i => x22 (ix2 (Fin.ofNat 96 o) (Fin.ofNat 96 i))
  b23 := fun o => x23 (ix1 (Fin.ofNat 96 o))
  p24 := fun o i => x24 (ix2 (Fin.ofNat 96 o) (Fin.ofNat 96 i))
  b25 := fun o => x25 (ix1 (Fin.ofNat 96 o))
  w26 := fun o => x26 (ix4 (Fin.ofNat 96 o) 0 0 0)
  g27 := fun o => x27 (ix1 (Fin.ofNat 96 o))
  b28 := fun o => x28 (ix1 (Fin.ofNat 96 o))
  g29 := fun o => x29 (ix1 (Fin.ofNat 96 o))
  b30 := fun o => x30 (ix1 (Fin.ofNat 96 o))

theorem reads_argsOf (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (x14 : (⟨S96x1x5x1, .f32⟩ : BufTy).Contents (Elt Ideal)) (x15 x16 x17 : (⟨S96, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 : (⟨S96, .f32⟩ : BufTy).Contents (Elt Ideal)) (x26 : (⟨S96x1x1x1, .f32⟩ : BufTy).Contents (Elt Ideal)) (x27 x28 x29 x30 : (⟨S96, .f32⟩ : BufTy).Contents (Elt Ideal)) :
    Reads x0 x1 x2 x3 x4 x5 x6 x7 x8 x9 x10 x11 x12 x13 x14 x15 x16 x17 x18 x19 x20 x21 x22 x23 x24 x25 x26 x27 x28 x29 x30 (argsOf x0 x1 x2 x3 x4 x5 x6 x7 x8 x9 x10 x11 x12 x13 x14 x15 x16 x17 x18 x19 x20 x21 x22 x23 x24 x25 x26 x27 x28 x29 x30) where
  r0 b o h w := by simp only [argsOf, Fin.ofNat_val_eq_self]
  r1 o i := by simp only [argsOf, Fin.ofNat_val_eq_self]
  r2 o := by simp only [argsOf, Fin.ofNat_val_eq_self]
  r3 o := by simp only [argsOf, Fin.ofNat_val_eq_self]
  r4 o t := by simp only [argsOf, Fin.ofNat_val_eq_self]
  r5 o := by simp only [argsOf, Fin.ofNat_val_eq_self]
  r6 o := by simp only [argsOf, Fin.ofNat_val_eq_self]
  r7 o t := by simp only [argsOf, Fin.ofNat_val_eq_self]
  r8 o := by simp only [argsOf, Fin.ofNat_val_eq_self]
  r9 o := by simp only [argsOf, Fin.ofNat_val_eq_self]
  r10 o t := by simp only [argsOf, Fin.ofNat_val_eq_self]
  r11 o := by simp only [argsOf, Fin.ofNat_val_eq_self]
  r12 o := by simp only [argsOf, Fin.ofNat_val_eq_self]
  r13 o := by simp only [argsOf, Fin.ofNat_val_eq_self]
  r14 o t := by simp only [argsOf, Fin.ofNat_val_eq_self]
  r15 o := by simp only [argsOf, Fin.ofNat_val_eq_self]
  r16 o := by simp only [argsOf, Fin.ofNat_val_eq_self]
  r17 o := by simp only [argsOf, Fin.ofNat_val_eq_self]
  r18 o k := by simp only [argsOf, Fin.ofNat_val_eq_self]
  r19 o := by simp only [argsOf, Fin.ofNat_val_eq_self]
  r20 o i := by simp only [argsOf, Fin.ofNat_val_eq_self]
  r21 o := by simp only [argsOf, Fin.ofNat_val_eq_self]
  r22 o i := by simp only [argsOf, Fin.ofNat_val_eq_self]
  r23 o := by simp only [argsOf, Fin.ofNat_val_eq_self]
  r24 o i := by simp only [argsOf, Fin.ofNat_val_eq_self]
  r25 o := by simp only [argsOf, Fin.ofNat_val_eq_self]
  r26 o := by simp only [argsOf, Fin.ofNat_val_eq_self]
  r27 o := by simp only [argsOf, Fin.ofNat_val_eq_self]
  r28 o := by simp only [argsOf, Fin.ofNat_val_eq_self]
  r29 o := by simp only [argsOf, Fin.ofNat_val_eq_self]
  r30 o := by simp only [argsOf, Fin.ofNat_val_eq_self]

theorem finite_argsOf (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (x14 : (⟨S96x1x5x1, .f32⟩ : BufTy).Contents (Elt Ideal)) (x15 x16 x17 : (⟨S96, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 : (⟨S96, .f32⟩ : BufTy).Contents (Elt Ideal)) (x26 : (⟨S96x1x1x1, .f32⟩ : BufTy).Contents (Elt Ideal)) (x27 x28 x29 x30 : (⟨S96, .f32⟩ : BufTy).Contents (Elt Ideal))
    (h0 : ∀ i, Fn (x0 i))
    (h1 : ∀ i, Fn (x1 i))
    (h2 : ∀ i, Fn (x2 i))
    (h3 : ∀ i, Fn (x3 i))
    (h4 : ∀ i, Fn (x4 i))
    (h5 : ∀ i, Fn (x5 i))
    (h6 : ∀ i, Fn (x6 i))
    (h7 : ∀ i, Fn (x7 i))
    (h8 : ∀ i, Fn (x8 i))
    (h9 : ∀ i, Fn (x9 i))
    (h10 : ∀ i, Fn (x10 i))
    (h11 : ∀ i, Fn (x11 i))
    (h12 : ∀ i, Fn (x12 i))
    (h13 : ∀ i, Fn (x13 i))
    (h14 : ∀ i, Fn (x14 i))
    (h15 : ∀ i, Fn (x15 i))
    (h16 : ∀ i, Fn (x16 i))
    (h17 : ∀ i, Fn (x17 i))
    (h18 : ∀ i, Fn (x18 i))
    (h19 : ∀ i, Fn (x19 i))
    (h20 : ∀ i, Fn (x20 i))
    (h21 : ∀ i, Fn (x21 i))
    (h22 : ∀ i, Fn (x22 i))
    (h23 : ∀ i, Fn (x23 i))
    (h24 : ∀ i, Fn (x24 i))
    (h25 : ∀ i, Fn (x25 i))
    (h26 : ∀ i, Fn (x26 i))
    (h27 : ∀ i, Fn (x27 i))
    (h28 : ∀ i, Fn (x28 i))
    (h29 : ∀ i, Fn (x29 i))
    (h30 : ∀ i, Fn (x30 i))
    : (argsOf x0 x1 x2 x3 x4 x5 x6 x7 x8 x9 x10 x11 x12 x13 x14 x15 x16 x17 x18 x19 x20 x21 x22 x23 x24 x25 x26 x27 x28 x29 x30).Finite where
  x _ _ _ _ := h0 _
  w1 _ _ := h1 _
  g2 _ := h2 _
  b3 _ := h3 _
  k4 _ _ := h4 _
  g5 _ := h5 _
  b6 _ := h6 _
  k7 _ _ := h7 _
  g8 _ := h8 _
  b9 _ := h9 _
  k10 _ _ := h10 _
  c11 _ := h11 _
  g12 _ := h12 _
  b13 _ := h13 _
  k14 _ _ := h14 _
  c15 _ := h15 _
  g16 _ := h16 _
  b17 _ := h17 _
  f18 _ _ := h18 _
  b19 _ := h19 _
  p20 _ _ := h20 _
  b21 _ := h21 _
  p22 _ _ := h22 _
  b23 _ := h23 _
  p24 _ _ := h24 _
  b25 _ := h25 _
  w26 _ := h26 _
  g27 _ := h27 _
  b28 _ := h28 _
  g29 _ := h29 _
  b30 _ := h30 _

section
variable (x0 : (⟨S4x96x224x224, .f32⟩ : BufTy).Contents (Elt Ideal)) (x1 : (⟨S96x96x1x1, .f32⟩ : BufTy).Contents (Elt Ideal)) (x2 x3 : (⟨S96, .f32⟩ : BufTy).Contents (Elt Ideal)) (x4 : (⟨S96x1x1x5, .f32⟩ : BufTy).Contents (Elt Ideal)) (x5 x6 : (⟨S96, .f32⟩ : BufTy).Contents (Elt Ideal)) (x7 : (⟨S96x1x5x1, .f32⟩ : BufTy).Contents (Elt Ideal)) (x8 x9 : (⟨S96, .f32⟩ : BufTy).Contents (Elt Ideal)) (x10 : (⟨S96x1x1x5, .f32⟩ : BufTy).Contents (Elt Ideal)) (x11 x12 x13 : (⟨S96, .f32⟩ : BufTy).Contents (Elt Ideal)) (x14 : (⟨S96x1x5x1, .f32⟩ : BufTy).Contents (Elt Ideal)) (x15 x16 x17 : (⟨S96, .f32⟩ : BufTy).Contents (Elt Ideal)) (x18 : (⟨S96x2, .f32⟩ : BufTy).Contents (Elt Ideal)) (x19 : (⟨S96, .f32⟩ : BufTy).Contents (Elt Ideal)) (x20 : (⟨S96x96, .f32⟩ : BufTy).Contents (Elt Ideal)) (x21 : (⟨S96, .f32⟩ : BufTy).Contents (Elt Ideal)) (x22 : (⟨S96x96, .f32⟩ : BufTy).Contents (Elt Ideal)) (x23 : (⟨S96, .f32⟩ : BufTy).Contents (Elt Ideal)) (x24 : (⟨S96x96, .f32⟩ : BufTy).Contents (Elt Ideal)) (x25 : (⟨S96, .f32⟩ : BufTy).Contents (Elt Ideal)) (x26 : (⟨S96x1x1x1, .f32⟩ : BufTy).Contents (Elt Ideal)) (x27 x28 x29 x30 : (⟨S96, .f32⟩ : BufTy).Contents (Elt Ideal)) (A : Args)
    (R : Reads x0 x1 x2 x3 x4 x5 x6 x7 x8 x9 x10 x11 x12 x13 x14 x15 x16 x17 x18 x19 x20 x21 x22 x23 x24 x25 x26 x27 x28 x29 x30 A)
include R

theorem t2 (b : Fin 4) (o : Fin 96) (h w : Fin 224) :
    val_main_v2 (F := Ideal) x0 x1 (ix4 b o h w) = A.y b o h w := by
  have e1 : (h.val * 224 + w.val) / 224 = h.val := by omega
  have e2 : (h.val * 224 + w.val) % 224 = w.val := by omega
  refine (v2_apply x0 x1 A.x A.w1 R.r0 R.r1 b o h w).trans ?_
  unfold linR Args.y Args.yN lin flat
  rw [e1, e2]
  exact Finset.sum_congr rfl fun i _ => mul_comm (G := EReal) _ _

theorem t26 (b : Fin 4) (o : Fin 96) (h w : Fin 224) :
    val_main_v26 (F := Ideal) x0 x1 x2 x3 (ix4 b o h w) = bnR A.y A.g2 A.b3 b o h w := by
  rw [v26_eq]
  exact bnVec_apply _ A.y (t2 x0 x1 x2 x3 x4 x5 x6 x7 x8 x9 x10 x11 x12 x13 x14 x15 x16 x17 x18 x19 x20 x21 x22 x23 x24 x25 x26 x27 x28 x29 x30 A R) x2 x3 A.g2 A.b3 R.r2 R.r3 b o h w

theorem t63 (b : Fin 4) (o : Fin 96) (h w : Fin 224) :
    val_main_v63 (F := Ideal) x0 x1 x2 x3 x4 (ix4 b o h w) = A.rc1 b o h w := by
  exact v63_apply x0 x1 x2 x3 x4 (bnR A.y A.g2 A.b3) (t26 x0 x1 x2 x3 x4 x5 x6 x7 x8 x9 x10 x11 x12 x13 x14 x15 x16 x17 x18 x19 x20 x21 x22 x23 x24 x25 x26 x27 x28 x29 x30 A R) A.k4 R.r4 b o h w

theorem t87 (b : Fin 4) (o : Fin 96) (h w : Fin 224) :
    val_main_v87 (F := Ideal) x0 x1 x2 x3 x4 x5 x6 (ix4 b o h w) = bnR A.rc1 A.g5 A.b6 b o h w := by
  rw [v87_eq]
  exact bnVec_apply _ A.rc1 (t63 x0 x1 x2 x3 x4 x5 x6 x7 x8 x9 x10 x11 x12 x13 x14 x15 x16 x17 x18 x19 x20 x21 x22 x23 x24 x25 x26 x27 x28 x29 x30 A R) x5 x6 A.g5 A.b6 R.r5 R.r6 b o h w

theorem t124 (b : Fin 4) (o : Fin 96) (h w : Fin 224) :
    val_main_v124 (F := Ideal) x0 x1 x2 x3 x4 x5 x6 x7 (ix4 b o h w) = A.rc2 b o h w := by
  exact v124_apply x0 x1 x2 x3 x4 x5 x6 x7 (bnR A.rc1 A.g5 A.b6) (t87 x0 x1 x2 x3 x4 x5 x6 x7 x8 x9 x10 x11 x12 x13 x14 x15 x16 x17 x18 x19 x20 x21 x22 x23 x24 x25 x26 x27 x28 x29 x30 A R) A.k7 R.r7 b o h w

theorem t148 (b : Fin 4) (o : Fin 96) (h w : Fin 224) :
    val_main_v148 (F := Ideal) x0 x1 x2 x3 x4 x5 x6 x7 x8 x9 (ix4 b o h w) = bnR A.rc2 A.g8 A.b9 b o h w := by
  rw [v148_eq]
  exact bnVec_apply _ A.rc2 (t124 x0 x1 x2 x3 x4 x5 x6 x7 x8 x9 x10 x11 x12 x13 x14 x15 x16 x17 x18 x19 x20 x21 x22 x23 x24 x25 x26 x27 x28 x29 x30 A R) x8 x9 A.g8 A.b9 R.r8 R.r9 b o h w

theorem t188 (b : Fin 4) (o : Fin 96) (h w : Fin 224) :
    val_main_v188 (F := Ideal) x0 x1 x2 x3 x4 x5 x6 x7 x8 x9 x10 x11 (ix4 b o h w) = A.rc3 b o h w := by
  exact v188_apply x0 x1 x2 x3 x4 x5 x6 x7 x8 x9 x10 x11 (bnR A.rc2 A.g8 A.b9) (t148 x0 x1 x2 x3 x4 x5 x6 x7 x8 x9 x10 x11 x12 x13 x14 x15 x16 x17 x18 x19 x20 x21 x22 x23 x24 x25 x26 x27 x28 x29 x30 A R) A.k10 R.r10 A.c11 R.r11 b o h w

theorem t212 (b : Fin 4) (o : Fin 96) (h w : Fin 224) :
    val_main_v212 (F := Ideal) x0 x1 x2 x3 x4 x5 x6 x7 x8 x9 x10 x11 x12 x13 (ix4 b o h w) = bnR A.rc3 A.g12 A.b13 b o h w := by
  rw [v212_eq]
  exact bnVec_apply _ A.rc3 (t188 x0 x1 x2 x3 x4 x5 x6 x7 x8 x9 x10 x11 x12 x13 x14 x15 x16 x17 x18 x19 x20 x21 x22 x23 x24 x25 x26 x27 x28 x29 x30 A R) x12 x13 A.g12 A.b13 R.r12 R.r13 b o h w

theorem t252 (b : Fin 4) (o : Fin 96) (h w : Fin 224) :
    val_main_v252 (F := Ideal) x0 x1 x2 x3 x4 x5 x6 x7 x8 x9 x10 x11 x12 x13 x14 x15 (ix4 b o h w) = A.rc4 b o h w := by
  exact v252_apply x0 x1 x2 x3 x4 x5 x6 x7 x8 x9 x10 x11 x12 x13 x14 x15 (bnR A.rc3 A.g12 A.b13) (t212 x0 x1 x2 x3 x4 x5 x6 x7 x8 x9 x10 x11 x12 x13 x14 x15 x16 x17 x18 x19 x20 x21 x22 x23 x24 x25 x26 x27 x28 x29 x30 A R) A.k14 R.r14 A.c15 R.r15 b o h w

theorem t276 (b : Fin 4) (o : Fin 96) (h w : Fin 224) :
    val_main_v276 (F := Ideal) x0 x1 x2 x3 x4 x5 x6 x7 x8 x9 x10 x11 x12 x13 x14 x15 x16 x17 (ix4 b o h w) = bnR A.rc4 A.g16 A.b17 b o h w := by
  rw [v276_eq]
  exact bnVec_apply _ A.rc4 (t252 x0 x1 x2 x3 x4 x5 x6 x7 x8 x9 x10 x11 x12 x13 x14 x15 x16 x17 x18 x19 x20 x21 x22 x23 x24 x25 x26 x27 x28 x29 x30 A R) x16 x17 A.g16 A.b17 R.r16 R.r17 b o h w

theorem t297 (b : Fin 4) (n : Fin 50176) :
    val_main_v297 (F := Ideal) x0 (ix2 b n) = A.rs b n := by
  exact v297_apply x0 A.x R.r0 b n

theorem t335 (b : Fin 4) (o : Fin 96) (m : Fin 10) :
    val_main_v335 (F := Ideal) x0 x18 x19 (ix3 b o m) = feat A.rs A.f18 A.b19 b o m := by
  exact v335_apply x0 x18 x19 A.rs (t297 x0 x1 x2 x3 x4 x5 x6 x7 x8 x9 x10 x11 x12 x13 x14 x15 x16 x17 x18 x19 x20 x21 x22 x23 x24 x25 x26 x27 x28 x29 x30 A R) A.f18 R.r18 A.b19 R.r19 b o m

theorem t340 (b : Fin 4) (o : Fin 96) (m : Fin 10) :
    val_main_v340 (F := Ideal) x0 x18 x19 x20 x21 (ix3 b o m) = proj A.p20 A.b21 ((feat A.rs A.f18 A.b19) b) o m := by
  exact v340_apply x0 x18 x19 x20 x21 (feat A.rs A.f18 A.b19) (t335 x0 x1 x2 x3 x4 x5 x6 x7 x8 x9 x10 x11 x12 x13 x14 x15 x16 x17 x18 x19 x20 x21 x22 x23 x24 x25 x26 x27 x28 x29 x30 A R) A.p20 R.r20 A.b21 R.r21 b o m

theorem t345 (b : Fin 4) (o : Fin 96) (m : Fin 10) :
    val_main_v345 (F := Ideal) x0 x18 x19 x22 x23 (ix3 b o m) = proj A.p22 A.b23 ((feat A.rs A.f18 A.b19) b) o m := by
  exact v345_apply x0 x18 x19 x22 x23 (feat A.rs A.f18 A.b19) (t335 x0 x1 x2 x3 x4 x5 x6 x7 x8 x9 x10 x11 x12 x13 x14 x15 x16 x17 x18 x19 x20 x21 x22 x23 x24 x25 x26 x27 x28 x29 x30 A R) A.p22 R.r22 A.b23 R.r23 b o m

theorem t362 (b : Fin 4) (o : Fin 96) (m : Fin 10) :
    val_main_v362 (F := Ideal) x0 x18 x19 x24 x25 (ix3 b o m) = proj A.p24 A.b25 ((feat A.rs A.f18 A.b19) b) o m := by
  exact v362_apply x0 x18 x19 x24 x25 (feat A.rs A.f18 A.b19) (t335 x0 x1 x2 x3 x4 x5 x6 x7 x8 x9 x10 x11 x12 x13 x14 x15 x16 x17 x18 x19 x20 x21 x22 x23 x24 x25 x26 x27 x28 x29 x30 A R) A.p24 R.r24 A.b25 R.r25 b o m

theorem t346 (b : Fin 4) (m n : Fin 10) :
    val_main_v346 (F := Ideal) x0 x18 x19 x20 x21 x22 x23 (ix3 b m n) = (fun b => logit ((fun b => proj A.p20 A.b21 ((feat A.rs A.f18 A.b19) b)) b) ((fun b => proj A.p22 A.b23 ((feat A.rs A.f18 A.b19) b)) b)) b m n := by
  exact v346_apply x0 x18 x19 x20 x21 x22 x23 (fun b => proj A.p20 A.b21 ((feat A.rs A.f18 A.b19) b)) (fun b => proj A.p22 A.b23 ((feat A.rs A.f18 A.b19) b)) (t340 x0 x1 x2 x3 x4 x5 x6 x7 x8 x9 x10 x11 x12 x13 x14 x15 x16 x17 x18 x19 x20 x21 x22 x23 x24 x25 x26 x27 x28 x29 x30 A R) (t345 x0 x1 x2 x3 x4 x5 x6 x7 x8 x9 x10 x11 x12 x13 x14 x15 x16 x17 x18 x19 x20 x21 x22 x23 x24 x25 x26 x27 x28 x29 x30 A R) b m n

theorem t357 (b : Fin 4) (m n : Fin 10) :
    val_main_v357 (F := Ideal) x0 x18 x19 x20 x21 x22 x23 (ix3 b m n) = soft ((fun b => logit ((fun b => proj A.p20 A.b21 ((feat A.rs A.f18 A.b19) b)) b) ((fun b => proj A.p22 A.b23 ((feat A.rs A.f18 A.b19) b)) b)) b) m n := by
  exact v357_apply x0 x18 x19 x20 x21 x22 x23 (fun b => logit ((fun b => proj A.p20 A.b21 ((feat A.rs A.f18 A.b19) b)) b) ((fun b => proj A.p22 A.b23 ((feat A.rs A.f18 A.b19) b)) b)) (t346 x0 x1 x2 x3 x4 x5 x6 x7 x8 x9 x10 x11 x12 x13 x14 x15 x16 x17 x18 x19 x20 x21 x22 x23 x24 x25 x26 x27 x28 x29 x30 A R) b m n

theorem t363 (b : Fin 4) (o : Fin 96) (m : Fin 10) :
    val_main_v363 (F := Ideal) x0 x18 x19 x20 x21 x22 x23 x24 x25 (ix3 b o m) = A.coef A.rs b o m := by
  exact v363_apply x0 x18 x19 x20 x21 x22 x23 x24 x25 (fun b => proj A.p24 A.b25 ((feat A.rs A.f18 A.b19) b)) (fun b => soft ((fun b => logit ((fun b => proj A.p20 A.b21 ((feat A.rs A.f18 A.b19) b)) b) ((fun b => proj A.p22 A.b23 ((feat A.rs A.f18 A.b19) b)) b)) b)) (t362 x0 x1 x2 x3 x4 x5 x6 x7 x8 x9 x10 x11 x12 x13 x14 x15 x16 x17 x18 x19 x20 x21 x22 x23 x24 x25 x26 x27 x28 x29 x30 A R) (t357 x0 x1 x2 x3 x4 x5 x6 x7 x8 x9 x10 x11 x12 x13 x14 x15 x16 x17 x18 x19 x20 x21 x22 x23 x24 x25 x26 x27 x28 x29 x30 A R) b o m

theorem t366 (b : Fin 4) (o : Fin 96) (h w : Fin 224) :
    val_main_v366 (F := Ideal) x0 x18 x19 x20 x21 x22 x23 x24 x25 (ix4 b o h w) = texMap (A.coef A.rs) A.rs b o h w := by
  exact v366_apply x0 x18 x19 x20 x21 x22 x23 x24 x25 A.rs (t297 x0 x1 x2 x3 x4 x5 x6 x7 x8 x9 x10 x11 x12 x13 x14 x15 x16 x17 x18 x19 x20 x21 x22 x23 x24 x25 x26 x27 x28 x29 x30 A R) (A.coef A.rs) (t363 x0 x1 x2 x3 x4 x5 x6 x7 x8 x9 x10 x11 x12 x13 x14 x15 x16 x17 x18 x19 x20 x21 x22 x23 x24 x25 x26 x27 x28 x29 x30 A R) b o h w

theorem t390 (b : Fin 4) (o : Fin 96) (h w : Fin 224) :
    val_main_v390 (F := Ideal) x0 x18 x19 x20 x21 x22 x23 x24 x25 x27 x28 (ix4 b o h w) = bnR (texMap (A.coef A.rs) A.rs) A.g27 A.b28 b o h w := by
  rw [v390_eq]
  exact bnVec_apply _ (texMap (A.coef A.rs) A.rs) (t366 x0 x1 x2 x3 x4 x5 x6 x7 x8 x9 x10 x11 x12 x13 x14 x15 x16 x17 x18 x19 x20 x21 x22 x23 x24 x25 x26 x27 x28 x29 x30 A R) x27 x28 A.g27 A.b28 R.r27 R.r28 b o h w

theorem t396 (b : Fin 4) (o : Fin 96) (h w : Fin 224) :
    val_main_v396 (F := Ideal) x0 x26 (ix4 b o h w) = satMap A.rs A.w26 b o h w := by
  exact v396_apply x0 x26 A.rs (t297 x0 x1 x2 x3 x4 x5 x6 x7 x8 x9 x10 x11 x12 x13 x14 x15 x16 x17 x18 x19 x20 x21 x22 x23 x24 x25 x26 x27 x28 x29 x30 A R) A.w26 R.r26 b o h w

theorem t420 (b : Fin 4) (o : Fin 96) (h w : Fin 224) :
    val_main_v420 (F := Ideal) x0 x26 x29 x30 (ix4 b o h w) = bnR (satMap A.rs A.w26) A.g29 A.b30 b o h w := by
  rw [v420_eq]
  exact bnVec_apply _ (satMap A.rs A.w26) (t396 x0 x1 x2 x3 x4 x5 x6 x7 x8 x9 x10 x11 x12 x13 x14 x15 x16 x17 x18 x19 x20 x21 x22 x23 x24 x25 x26 x27 x28 x29 x30 A R) x29 x30 A.g29 A.b30 R.r29 R.r30 b o h w

/-- The reference's result. -/
theorem t429 (b : Fin 4) (o : Fin 96) (h w : Fin 224) :
    val_main_v429 (F := Ideal) x0 x1 x2 x3 x4 x5 x6 x7 x8 x9 x10 x11 x12 x13 x14 x15 x16 x17 x18 x19 x20 x21 x22 x23 x24 x25 x26 x27 x28 x29 x30 (ix4 b o h w) = A.rOut b o h w := by
  exact v429_apply x0 x1 x2 x3 x4 x5 x6 x7 x8 x9 x10 x11 x12 x13 x14 x15 x16 x17 x18 x19 x20 x21 x22 x23 x24 x25 x26 x27 x28 x29 x30 A.x R.r0 (bnR (satMap A.rs A.w26) A.g29 A.b30)
    (bnR (texMap (A.coef A.rs) A.rs) A.g27 A.b28) (bnR A.rc4 A.g16 A.b17) (t420 x0 x1 x2 x3 x4 x5 x6 x7 x8 x9 x10 x11 x12 x13 x14 x15 x16 x17 x18 x19 x20 x21 x22 x23 x24 x25 x26 x27 x28 x29 x30 A R) (t390 x0 x1 x2 x3 x4 x5 x6 x7 x8 x9 x10 x11 x12 x13 x14 x15 x16 x17 x18 x19 x20 x21 x22 x23 x24 x25 x26 x27 x28 x29 x30 A R) (t276 x0 x1 x2 x3 x4 x5 x6 x7 x8 x9 x10 x11 x12 x13 x14 x15 x16 x17 x18 x19 x20 x21 x22 x23 x24 x25 x26 x27 x28 x29 x30 A R) b o h w

end

end Cert.KVal
-- ==== Proof.HostA.lean ====
/-
  What the host operations between the kernel calls leave, read at an index.
-/
module

public import proofs.«01_k».proof.Proof.Spec
public import proofs.«01_k».proof.Proof.Gen.KernelIdeal.Launch
public import Idealize.ShloMosaic.Lib.StableHlo.ReadAt

@[expose] public section

set_option maxRecDepth 16384

noncomputable section

namespace Cert.KVal

open Cert.KernelIdeal Cert.KernelIdeal.Gen
open Idealize.ShloMosaic Idealize.ShloMosaic.TcCoe Idealize.ShloMosaic.Tactic

local notation "𝕎" => Valuation τ sig (Elt Ideal)

theorem host0 (W : 𝕎) (x : ℕ → ℕ → ℕ → ℕ → EReal)
    (hx : ∀ (b : Fin 4) (o : Fin 96) (h w : Fin 224), W (Proc.devRef .tc main_arg0) (ix4 b o h w) = x b o h w)
    (b : Fin 4) (o : Fin 96) (n : Fin 50176) :
    StableHlo.after hostOps0 W (Proc.devRef .tc main_v0) (ix3 b o n) = x b o (n.val / 224) (n.val % 224) := by
  after_reads_at
  have e1 : (b.val * 4816896 + o.val * 50176 + n.val) / 224 % 224 = n.val / 224 := by omega
  have e2 : (b.val * 4816896 + o.val * 50176 + n.val) % 224 = n.val % 224 := by omega
  simp [hx, e1, e2]

theorem host1 (W : 𝕎) (w1 : ℕ → ℕ → EReal)
    (hw : ∀ (o i : Fin 96), W (Proc.devRef .tc main_arg1) (ix4 o i 0 0) = w1 o i) (o i : Fin 96) :
    StableHlo.after hostOps1 W (Proc.devRef .tc main_v2) (ix2 o i) = w1 o i := by
  after_reads_at
  simp [hw]

theorem host2_pix (W : 𝕎) (y : ℕ → ℕ → ℕ → EReal)
    (hy : ∀ (b : Fin 4) (o : Fin 96) (n : Fin 50176), W (Proc.devRef .tc main_v3_0) (ix3 b o n) = y b o n)
    (b : Fin 4) (o : Fin 96) (h w : Fin 224) :
    StableHlo.after hostOps2 W (Proc.devRef .tc main_v28) (ix4 b o h w) = y b o (h.val * 224 + w.val) := by
  after_reads_at
  simp [hy]

theorem host2_scale (W : 𝕎) (st : ℕ → ℕ → EReal) (ga : ℕ → EReal)
    (hst : ∀ (r : Fin 2) (o : Fin 96), W (Proc.devRef .tc main_v3_2) (ix2 r o) = st r o)
    (hg : ∀ o : Fin 96, W (Proc.devRef .tc main_arg2) (ix1 o) = ga o) (q : Fin 12) (j : Fin 8) :
    StableHlo.after hostOps2 W (Proc.devRef .tc main_v25) (ix3 q 0 j)
      = bnA (ga (q.val * 8 + j.val)) (st 0 (q.val * 8 + j.val)) (st 1 (q.val * 8 + j.val)) := by
  after_reads_at
  after_reads_at
  simp [hst, hg, bnA, nTot, eps5]

theorem host2_shift (W : 𝕎) (st : ℕ → ℕ → EReal) (ga be : ℕ → EReal)
    (hst : ∀ (r : Fin 2) (o : Fin 96), W (Proc.devRef .tc main_v3_2) (ix2 r o) = st r o)
    (hg : ∀ o : Fin 96, W (Proc.devRef .tc main_arg2) (ix1 o) = ga o)
    (hb : ∀ o : Fin 96, W (Proc.devRef .tc main_arg3) (ix1 o) = be o) (q : Fin 12) (j : Fin 8) :
    StableHlo.after hostOps2 W (Proc.devRef .tc main_v25) (ix3 q 1 j)
      = bnB (ga (q.val * 8 + j.val)) (be (q.val * 8 + j.val)) (st 0 (q.val * 8 + j.val)) (st 1 (q.val * 8 + j.val)) := by
  after_reads_at
  after_reads_at
  simp [hst, hg, hb, bnA, bnB, nTot, eps5]

theorem host3_scale (W : 𝕎) (st : ℕ → ℕ → EReal) (ga : ℕ → EReal)
    (hst : ∀ (q : Fin 12) (r : Fin 2) (j : Fin 8), W (Proc.devRef .tc main_v29_1) (ix3 q r j) = st r (q * 8 + j))
    (hg : ∀ o : Fin 96, W (Proc.devRef .tc main_arg5) (ix1 o) = ga o) (q : Fin 12) (j : Fin 8) :
    StableHlo.after hostOps3 W (Proc.devRef .tc main_v53) (ix3 q 0 j)
      = bnA (ga (q.val * 8 + j.val)) (st 0 (q.val * 8 + j.val)) (st 1 (q.val * 8 + j.val)) := by
  after_reads_at
  after_reads_at
  have e : (q.val * 8 + j.val) / 8 * 8 + j.val % 8 = q.val * 8 + j.val := by omega
  simp [hst, hg, bnA, nTot, eps5, e]

theorem host3_shift (W : 𝕎) (st : ℕ → ℕ → EReal) (ga be : ℕ → EReal)
    (hst : ∀ (q : Fin 12) (r : Fin 2) (j : Fin 8), W (Proc.devRef .tc main_v29_1) (ix3 q r j) = st r (q * 8 + j))
    (hg : ∀ o : Fin 96, W (Proc.devRef .tc main_arg5) (ix1 o) = ga o)
    (hb : ∀ o : Fin 96, W (Proc.devRef .tc main_arg6) (ix1 o) = be o) (q : Fin 12) (j : Fin 8) :
    StableHlo.after hostOps3 W (Proc.devRef .tc main_v53) (ix3 q 1 j)
      = bnB (ga (q.val * 8 + j.val)) (be (q.val * 8 + j.val)) (st 0 (q.val * 8 + j.val)) (st 1 (q.val * 8 + j.val)) := by
  after_reads_at
  after_reads_at
  have e : (q.val * 8 + j.val) / 8 * 8 + j.val % 8 = q.val * 8 + j.val := by omega
  simp [hst, hg, hb, bnA, bnB, nTot, eps5, e]

theorem host4_scale (W : 𝕎) (st : ℕ → ℕ → EReal) (ga : ℕ → EReal)
    (hst : ∀ (q : Fin 12) (r : Fin 2) (j : Fin 8), W (Proc.devRef .tc main_v56_1) (ix3 q r j) = st r (q * 8 + j))
    (hg : ∀ o : Fin 96, W (Proc.devRef .tc main_arg8) (ix1 o) = ga o) (q : Fin 12) (j : Fin 8) :
    StableHlo.after hostOps4 W (Proc.devRef .tc main_v80) (ix3 q 0 j)
      = bnA (ga (q.val * 8 + j.val)) (st 0 (q.val * 8 + j.val)) (st 1 (q.val * 8 + j.val)) := by
  after_reads_at
  after_reads_at
  have e : (q.val * 8 + j.val) / 8 * 8 + j.val % 8 = q.val * 8 + j.val := by omega
  simp [hst, hg, bnA, nTot, eps5, e]

theorem host4_shift (W : 𝕎) (st : ℕ → ℕ → EReal) (ga be : ℕ → EReal)
    (hst : ∀ (q : Fin 12) (r : Fin 2) (j : Fin 8), W (Proc.devRef .tc main_v56_1) (ix3 q r j) = st r (q * 8 + j))
    (hg : ∀ o : Fin 96, W (Proc.devRef .tc main_arg8) (ix1 o) = ga o)
    (hb : ∀ o : Fin 96, W (Proc.devRef .tc main_arg9) (ix1 o) = be o) (q : Fin 12) (j : Fin 8) :
    StableHlo.after hostOps4 W (Proc.devRef .tc main_v80) (ix3 q 1 j)
      = bnB (ga (q.val * 8 + j.val)) (be (q.val * 8 + j.val)) (st 0 (q.val * 8 + j.val)) (st 1 (q.val * 8 + j.val)) := by
  after_reads_at
  after_reads_at
  have e : (q.val * 8 + j.val) / 8 * 8 + j.val % 8 = q.val * 8 + j.val := by omega
  simp [hst, hg, hb, bnA, bnB, nTot, eps5, e]

theorem host5_scale (W : 𝕎) (st : ℕ → ℕ → EReal) (ga : ℕ → EReal)
    (hst : ∀ (q : Fin 12) (r : Fin 2) (j : Fin 8), W (Proc.devRef .tc main_v82_1) (ix3 q r j) = st r (q * 8 + j))
    (hg : ∀ o : Fin 96, W (Proc.devRef .tc main_arg12) (ix1 o) = ga o) (q : Fin 12) (j : Fin 8) :
    StableHlo.after hostOps5 W (Proc.devRef .tc main_v106) (ix3 q 0 j)
      = bnA (ga (q.val * 8 + j.val)) (st 0 (q.val * 8 + j.val)) (st 1 (q.val * 8 + j.val)) := by
  after_reads_at
  after_reads_at
  have e : (q.val * 8 + j.val) / 8 * 8 + j.val % 8 = q.val * 8 + j.val := by omega
  simp [hst, hg, bnA, nTot, eps5, e]

theorem host5_shift (W : 𝕎) (st : ℕ → ℕ → EReal) (ga be : ℕ → EReal)
    (hst : ∀ (q : Fin 12) (r : Fin 2) (j : Fin 8), W (Proc.devRef .tc main_v82_1) (ix3 q r j) = st r (q * 8 + j))
    (hg : ∀ o : Fin 96, W (Proc.devRef .tc main_arg12) (ix1 o) = ga o)
    (hb : ∀ o : Fin 96, W (Proc.devRef .tc main_arg13) (ix1 o) = be o) (q : Fin 12) (j : Fin 8) :
    StableHlo.after hostOps5 W (Proc.devRef .tc main_v106) (ix3 q 1 j)
      = bnB (ga (q.val * 8 + j.val)) (be (q.val * 8 + j.val)) (st 0 (q.val * 8 + j.val)) (st 1 (q.val * 8 + j.val)) := by
  after_reads_at
  after_reads_at
  have e : (q.val * 8 + j.val) / 8 * 8 + j.val % 8 = q.val * 8 + j.val := by omega
  simp [hst, hg, hb, bnA, bnB, nTot, eps5, e]

theorem host2_taps (W : 𝕎) (k : ℕ → ℕ → EReal)
    (hk : ∀ (o : Fin 96) (t : Fin 5), W (Proc.devRef .tc main_arg4) (ix4 o 0 0 t) = k o t)
    (o : Fin 96) (t : Fin 5) :
    StableHlo.after hostOps2 W (Proc.devRef .tc main_v23) (ix2 o t) = k o t := by
  after_reads_at
  simp [hk]

theorem host3_taps (W : 𝕎) (k : ℕ → ℕ → EReal)
    (hk : ∀ (o : Fin 96) (t : Fin 5), W (Proc.devRef .tc main_arg7) (ix4 o 0 t 0) = k o t)
    (o : Fin 96) (t : Fin 5) :
    StableHlo.after hostOps3 W (Proc.devRef .tc main_v51) (ix2 o t) = k o t := by
  after_reads_at
  simp [hk]

theorem host4_taps (W : 𝕎) (k : ℕ → ℕ → EReal)
    (hk : ∀ (o : Fin 96) (t : Fin 5), W (Proc.devRef .tc main_arg10) (ix4 o 0 0 t) = k o t)
    (o : Fin 96) (t : Fin 5) :
    StableHlo.after hostOps4 W (Proc.devRef .tc main_v78) (ix2 o t) = k o t := by
  after_reads_at
  simp [hk]

theorem host5_taps (W : 𝕎) (k : ℕ → ℕ → EReal)
    (hk : ∀ (o : Fin 96) (t : Fin 5), W (Proc.devRef .tc main_arg14) (ix4 o 0 t 0) = k o t)
    (o : Fin 96) (t : Fin 5) :
    StableHlo.after hostOps5 W (Proc.devRef .tc main_v104) (ix2 o t) = k o t := by
  after_reads_at
  simp [hk]

theorem host4_bias (W : 𝕎) (k : ℕ → EReal)
    (hk : ∀ o : Fin 96, W (Proc.devRef .tc main_arg11) (ix1 o) = k o) (q : Fin 12) (j : Fin 8) :
    StableHlo.after hostOps4 W (Proc.devRef .tc main_v81) (ix3 q 0 j) = k (q.val * 8 + j.val) := by
  after_reads_at
  simp [hk]

theorem host5_bias (W : 𝕎) (k : ℕ → EReal)
    (hk : ∀ o : Fin 96, W (Proc.devRef .tc main_arg15) (ix1 o) = k o) (q : Fin 12) (j : Fin 8) :
    StableHlo.after hostOps5 W (Proc.devRef .tc main_v107) (ix3 q 0 j) = k (q.val * 8 + j.val) := by
  after_reads_at
  simp [hk]

end Cert.KVal
-- ==== Proof.HostB.lean ====
/-
  What the host operations between the kernel calls leave, read at an index.
-/
module

public import proofs.«01_k».proof.Proof.RefSpec
public import proofs.«01_k».proof.Proof.Gen.KernelIdeal.Launch
public import Idealize.ShloMosaic.Lib.StableHlo.ReadAt

@[expose] public section

set_option maxRecDepth 16384

noncomputable section

namespace Cert.KVal

open Cert.KernelIdeal Cert.KernelIdeal.Gen
open Idealize.ShloMosaic Idealize.ShloMosaic.TcCoe Idealize.ShloMosaic.Tactic

local notation "𝕎" => Valuation τ sig (Elt Ideal)

theorem host6_scale (W : 𝕎) (st : ℕ → ℕ → EReal) (ga be : ℕ → EReal)
    (hst : ∀ (q : Fin 12) (r : Fin 2) (j : Fin 8), W (Proc.devRef .tc main_v108_1) (ix3 q r j) = st r (q * 8 + j))
    (hg : ∀ o : Fin 96, W (Proc.devRef .tc main_arg16) (ix1 o) = ga o)
    (hb : ∀ o : Fin 96, W (Proc.devRef .tc main_arg17) (ix1 o) = be o) (o : Fin 96) :
    StableHlo.after hostOps6 W (Proc.devRef .tc main_v129) (ix2 0 o) = bnA (ga o) (st 0 o) (st 1 o) := by
  after_reads_at
  have e : o.val / 8 * 8 + o.val % 8 = o.val := by omega
  simp [hst, hg, hb, bnA, bnB, nTot, eps5, e]

theorem host6_shift (W : 𝕎) (st : ℕ → ℕ → EReal) (ga be : ℕ → EReal)
    (hst : ∀ (q : Fin 12) (r : Fin 2) (j : Fin 8), W (Proc.devRef .tc main_v108_1) (ix3 q r j) = st r (q * 8 + j))
    (hg : ∀ o : Fin 96, W (Proc.devRef .tc main_arg16) (ix1 o) = ga o)
    (hb : ∀ o : Fin 96, W (Proc.devRef .tc main_arg17) (ix1 o) = be o) (o : Fin 96) :
    StableHlo.after hostOps6 W (Proc.devRef .tc main_v129) (ix2 1 o) = bnB (ga o) (be o) (st 0 o) (st 1 o) := by
  after_reads_at
  have e : o.val / 8 * 8 + o.val % 8 = o.val := by omega
  simp [hst, hg, hb, bnA, bnB, nTot, eps5, e]

theorem host6_v130 (W : 𝕎) (l : ℕ → EReal)
    (hl : ∀ b : Fin 4, W (Proc.devRef .tc main_v3_3) (ix3 b 0 0) = l b) (b : Fin 4) :
    StableHlo.after hostOps6 W (Proc.devRef .tc main_v130) (ix1 b) = l b := by
  after_reads_at
  simp [hl]

theorem host6_v131 (W : 𝕎) (l : ℕ → EReal)
    (hl : ∀ b : Fin 4, W (Proc.devRef .tc main_v3_4) (ix3 b 0 0) = l b) (b : Fin 4) :
    StableHlo.after hostOps6 W (Proc.devRef .tc main_v131) (ix1 b) = l b := by
  after_reads_at
  simp [hl]

theorem host6_c0 (W : 𝕎) (u : S_.Idx) : StableHlo.after hostOps6 W (Proc.devRef .tc main_cst_16) u = (0 : EReal) := by
  after_reads_at

theorem host6_c1 (W : 𝕎) (u : S_.Idx) : StableHlo.after hostOps6 W (Proc.devRef .tc main_cst_17) u = (1 : EReal) := by
  after_reads_at

theorem host6_1_lsp (W : 𝕎) (h0 : ∀ u, W (Proc.devRef .tc main_cst_16) u = (0 : EReal)) (h1 : ∀ u, W (Proc.devRef .tc main_cst_17) u = (1 : EReal)) (i : Fin 10) :
    StableHlo.after hostOps6_1 W (Proc.devRef .tc main_v132) (ix1 i) = lsp i := by
  after_reads_at
  unfold lsp
  split
  · after_reads_at
    simp [h0, h1, ninth]
  · after_reads_at
    simp [h0, h1]

theorem host6_2_level (W : 𝕎) (lo hi : ℕ → EReal) (l : ℕ → EReal)
    (hlo : ∀ b : Fin 4, W (Proc.devRef .tc main_v130) (ix1 b) = lo b)
    (hhi : ∀ b : Fin 4, W (Proc.devRef .tc main_v131) (ix1 b) = hi b)
    (hl : ∀ m : Fin 10, W (Proc.devRef .tc main_v132) (ix1 m) = l m) (b : Fin 4) (m : Fin 10) :
    StableHlo.after hostOps6_2 W (Proc.devRef .tc main_v141) (ix2 b m) = lo b + (hi b - lo b) * l m := by
  after_reads_at
  simp [hlo, hhi, hl]

theorem host6_2_level3 (W : 𝕎) (lo hi : ℕ → EReal) (l : ℕ → EReal)
    (hlo : ∀ b : Fin 4, W (Proc.devRef .tc main_v130) (ix1 b) = lo b)
    (hhi : ∀ b : Fin 4, W (Proc.devRef .tc main_v131) (ix1 b) = hi b)
    (hl : ∀ m : Fin 10, W (Proc.devRef .tc main_v132) (ix1 m) = l m) (b : Fin 4) (m : Fin 10) :
    StableHlo.after hostOps6_2 W (Proc.devRef .tc main_v142) (ix3 b 0 m) = lo b + (hi b - lo b) * l m := by
  after_reads_at
  simp [hlo, hhi, hl]

theorem host7 (W : 𝕎) (f : ℕ → ℕ → ℕ → EReal)
    (hf : ∀ (b : Fin 4) (n : Fin 50176) (k : Fin 10), W (Proc.devRef .tc main_v143_0) (ix3 b n k) = f b n k)
    (b : Fin 4) (i : Fin 10) (n : Fin 50176) :
    StableHlo.after hostOps7 W (Proc.devRef .tc main_v144) (ix3 b i n)
      = f b ((i.val * 50176 + n.val) / 10) ((i.val * 50176 + n.val) % 10) := by
  after_reads_at
  have e1 : (b.val * 501760 + i.val * 50176 + n.val) / 10 % 50176 = (i.val * 50176 + n.val) / 10 := by omega
  have e2 : (b.val * 501760 + i.val * 50176 + n.val) % 10 = (i.val * 50176 + n.val) % 10 := by omega
  simp [hf, e1, e2]

theorem host8_share (W : 𝕎) (vs : ℕ → ℕ → EReal)
    (hv : ∀ (b : Fin 4) (k : Fin 10), W (Proc.devRef .tc main_v143_1) (ix3 b 0 k) = vs b k) (r : Fin 40) :
    StableHlo.after hostOps8 W (Proc.devRef .tc main_v154) (ix2 r 0)
      = Ideal.div (vs (r.val / 10) (r.val % 10)) (∑ k ∈ Finset.range 10, vs (r.val / 10) k) := by
  after_reads_at
  after_reads_at
  simp [hv, Finset.sum_range]

theorem host8_level (W : 𝕎) (l : ℕ → ℕ → EReal)
    (hl : ∀ (b : Fin 4) (k : Fin 10), W (Proc.devRef .tc main_v141) (ix2 b k) = l b k) (r : Fin 40) :
    StableHlo.after hostOps8 W (Proc.devRef .tc main_v154) (ix2 r 1) = l (r.val / 10) (r.val % 10) := by
  after_reads_at
  after_reads_at
  simp [hl]

theorem host8_weight (W : 𝕎) (f : ℕ → ℕ → EReal)
    (hf : ∀ (o : Fin 96) (k : Fin 2), W (Proc.devRef .tc main_arg18) (ix2 o k) = f k o) (k : Fin 2) (o : Fin 96) :
    StableHlo.after hostOps8 W (Proc.devRef .tc main_v155) (ix2 k o) = f k o := by
  after_reads_at
  simp [hf]

theorem host8_bias (W : 𝕎) (f : ℕ → EReal)
    (hf : ∀ o : Fin 96, W (Proc.devRef .tc main_arg19) (ix1 o) = f o) (o : Fin 96) :
    StableHlo.after hostOps8 W (Proc.devRef .tc main_v156) (ix2 0 o) = f o := by
  after_reads_at
  simp [hf]

theorem host9_ch (W : 𝕎) (f : ℕ → ℕ → EReal)
    (hf : ∀ (r : Fin 40) (o : Fin 96), W (Proc.devRef .tc main_v157) (ix2 r o) = f r o) (b : Fin 4) (o : Fin 96) (m : Fin 10) :
    StableHlo.after hostOps9 W (Proc.devRef .tc main_v158) (ix3 b o m)
      = f ((b.val * 960 + o.val * 10 + m.val) / 96) ((b.val * 960 + o.val * 10 + m.val) % 96) := by
  after_reads_at
  simp [hf]

theorem host9_rs (W : 𝕎) (f : ℕ → ℕ → EReal)
    (hf : ∀ (b : Fin 4) (i : Fin 10), W (Proc.devRef .tc main_v145_1) (ix3 b 0 i) = f b i) (b : Fin 4) (i : Fin 10) :
    StableHlo.after hostOps9 W (Proc.devRef .tc main_v163) (ix2 b i) = f b i := by
  after_reads_at
  simp [hf]

theorem host9_bp0 (W : 𝕎) (f : ℕ → EReal)
    (hf : ∀ o : Fin 96, W (Proc.devRef .tc main_arg21) (ix1 o) = f o) (o : Fin 96) :
    StableHlo.after hostOps9 W (Proc.devRef .tc main_v162) (ix2 0 o) = f o := by
  after_reads_at
  after_reads_at
  simp [hf]

theorem host9_bp1 (W : 𝕎) (f : ℕ → EReal)
    (hf : ∀ o : Fin 96, W (Proc.devRef .tc main_arg23) (ix1 o) = f o) (o : Fin 96) :
    StableHlo.after hostOps9 W (Proc.devRef .tc main_v162) (ix2 1 o) = f o := by
  after_reads_at
  after_reads_at
  simp [hf]

theorem host9_bp2 (W : 𝕎) (f : ℕ → EReal)
    (hf : ∀ o : Fin 96, W (Proc.devRef .tc main_arg25) (ix1 o) = f o) (o : Fin 96) :
    StableHlo.after hostOps9 W (Proc.devRef .tc main_v162) (ix2 2 o) = f o := by
  after_reads_at
  after_reads_at
  simp [hf]

theorem host9_bn0 (W : 𝕎) (f : ℕ → EReal)
    (hf : ∀ o : Fin 96, W (Proc.devRef .tc main_arg27) (ix1 o) = f o) (o : Fin 96) :
    StableHlo.after hostOps9 W (Proc.devRef .tc main_v166) (ix2 0 o) = f o := by
  after_reads_at
  simp [hf]

theorem host9_bn1 (W : 𝕎) (f : ℕ → EReal)
    (hf : ∀ o : Fin 96, W (Proc.devRef .tc main_arg28) (ix1 o) = f o) (o : Fin 96) :
    StableHlo.after hostOps9 W (Proc.devRef .tc main_v166) (ix2 1 o) = f o := by
  after_reads_at
  simp [hf]

theorem host10_c0 (W : 𝕎) (f : ℕ → ℕ → EReal)
    (hf : ∀ (r : Fin 2) (o : Fin 96), W (Proc.devRef .tc main_v129) (ix2 r o) = f r o) (o : Fin 96) :
    StableHlo.after hostOps10 W (Proc.devRef .tc main_v201) (ix2 0 o) = f 0 o := by
  after_reads_at
  after_reads_at
  simp [hf]

theorem host10_c1 (W : 𝕎) (f : ℕ → ℕ → EReal)
    (hf : ∀ (r : Fin 2) (o : Fin 96), W (Proc.devRef .tc main_v129) (ix2 r o) = f r o) (o : Fin 96) :
    StableHlo.after hostOps10 W (Proc.devRef .tc main_v201) (ix2 1 o) = f 1 o := by
  after_reads_at
  after_reads_at
  simp [hf]

theorem host10_c2 (W : 𝕎) (t0 t1 : ℕ → EReal) (w2 ga : ℕ → EReal)
    (h0 : ∀ b : Fin 4, W (Proc.devRef .tc main_v3_5) (ix3 b 0 0) = t0 b)
    (h1 : ∀ b : Fin 4, W (Proc.devRef .tc main_v3_6) (ix3 b 0 0) = t1 b)
    (hw : ∀ o : Fin 96, W (Proc.devRef .tc main_arg26) (ix4 o 0 0 0) = w2 o)
    (hg : ∀ o : Fin 96, W (Proc.devRef .tc main_arg29) (ix1 o) = ga o) (o : Fin 96) :
    StableHlo.after hostOps10 W (Proc.devRef .tc main_v201) (ix2 2 o)
      = satA (ga o) (w2 o) (sum4 t0) (sum4 t1) * w2 o := by
  after_reads_at
  after_reads_at
  simp [h0, h1, hw, hg, satA, satV, sum4, nTot, eps5, Fin.sum_univ_four]

theorem host10_c3 (W : 𝕎) (t0 t1 : ℕ → EReal) (w2 ga be : ℕ → EReal)
    (h0 : ∀ b : Fin 4, W (Proc.devRef .tc main_v3_5) (ix3 b 0 0) = t0 b)
    (h1 : ∀ b : Fin 4, W (Proc.devRef .tc main_v3_6) (ix3 b 0 0) = t1 b)
    (hw : ∀ o : Fin 96, W (Proc.devRef .tc main_arg26) (ix4 o 0 0 0) = w2 o)
    (hg : ∀ o : Fin 96, W (Proc.devRef .tc main_arg29) (ix1 o) = ga o)
    (hb : ∀ o : Fin 96, W (Proc.devRef .tc main_arg30) (ix1 o) = be o) (o : Fin 96) :
    StableHlo.after hostOps10 W (Proc.devRef .tc main_v201) (ix2 3 o)
      = be o - w2 o * Ideal.div (sum4 t0) nTot * satA (ga o) (w2 o) (sum4 t0) (sum4 t1) := by
  after_reads_at
  after_reads_at
  simp [h0, h1, hw, hg, hb, satA, satV, sum4, nTot, eps5, Fin.sum_univ_four]

theorem host10_c4 (W : 𝕎) (f : ℕ → EReal)
    (hf : ∀ o : Fin 96, W (Proc.devRef .tc main_v167_1) (ix2 0 o) = f o) (o : Fin 96) :
    StableHlo.after hostOps10 W (Proc.devRef .tc main_v201) (ix2 4 o) = f o := by
  after_reads_at
  after_reads_at
  simp [hf]

theorem host10_h (W : 𝕎) (y : ℕ → ℕ → ℕ → ℕ → EReal)
    (hy : ∀ (b : Fin 4) (o : Fin 96) (h w : Fin 224), W (Proc.devRef .tc main_v108_0) (ix4 b o h w) = y b o h w)
    (b : Fin 4) (o : Fin 96) (n : Fin 50176) :
    StableHlo.after hostOps10 W (Proc.devRef .tc main_v202) (ix3 b o n) = y b o (n.val / 224) (n.val % 224) := by
  after_reads_at
  have e1 : (b.val * 4816896 + o.val * 50176 + n.val) / 224 % 224 = n.val / 224 := by omega
  have e2 : (b.val * 4816896 + o.val * 50176 + n.val) % 224 = n.val % 224 := by omega
  simp [hy, e1, e2]

theorem host11 (W : 𝕎) (y : ℕ → ℕ → ℕ → EReal)
    (hy : ∀ (b : Fin 4) (o : Fin 96) (n : Fin 50176), W (Proc.devRef .tc main_v203) (ix3 b o n) = y b o n)
    (b : Fin 4) (o : Fin 96) (h w : Fin 224) :
    StableHlo.after hostOps11 W (Proc.devRef .tc main_v204) (ix4 b o h w) = y b o (h.val * 224 + w.val) := by
  after_reads_at
  simp [hy]

end Cert.KVal
-- ==== Proof.Run.lean ====
/-
  The kernel's run: every execution ends with the result at what the last host operation leaves and the arguments
  as launched.
-/
module

public import proofs.«01_k».proof.Proof.Gen.KernelIdeal.Frame

@[expose] public section

set_option maxRecDepth 16384

noncomputable section

namespace Cert.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem unscoped_args : ∀ a ∈ argRefs, ¬ (Proc.devRef .tc a : DevRef τ sig).isScoped := by decide +kernel

-- the launch theorem's implicit arguments are found by unifying types, which takes unfolding plain definitions
set_option backward.isDefEq.respectTransparency.types false in
/-- Every execution ends with the result array at what the last stretch leaves in it and the arguments as launched. -/
theorem run_result : θ_run defs (onTc (τ := τ) (main (F := F))) ⟨m, fun _ => 0, ρ⟩ (fun r => ∀ c : Dev nD,
      r.2.mem ((c.tc : Thread nD τ).loc main_v204) = W25 m ρ c (Proc.devRef .tc main_v204)
      ∧ ∀ a ∈ argRefs, r.2.mem ((c.tc : Thread nD τ).loc a) = m ((c.tc : Thread nD τ).loc a)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h hz => fun c => ⟨h c _ (mem_uc main_v204 (by decide)),
      fun a ha => (h c _ (mem_uc a (unscoped_args a ha))).trans (W25_args m ρ c a ha)⟩)

end Cert.KVal
-- ==== Proof.K0.lean ====
/-
  The first call of the kernel, read as a value: what its result array holds after the run is, at image `b` and
  channel `o`, the sum of that channel over all pixels of the image.
-/
module

public import proofs.«01_k».proof.Proof.Gen.KernelIdeal.Frame.Region0
public import proofs.«01_k».proof.Proof.Spec

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx0_0 (t : Fin cfg0.N) : win0_0.index t = ![t.val / 28, 0, t.val % 28] :=
  (by decide +kernel : ∀ t : Fin grid0.N, win0_0.index t = ![t.val / 28, 0, t.val % 28]) t
theorem idx0_1 (t : Fin cfg0.N) : win0_1.index t = ![t.val / 28, 0, 0] :=
  (by decide +kernel : ∀ t : Fin grid0.N, win0_1.index t = ![t.val / 28, 0, 0]) t

/-- One step of the sum: the block's channel sums are added. -/
theorem pay0_2 (v : Vec Ideal S1x96x1792 .f32) (a : Vec Ideal S1x1x96 .f32) (X : ℕ → ℕ → EReal)
    (hv : ∀ (j : Fin 96) (k : Fin 1792), v (ix3 0 j k) = X j k) (j : S1x1x96.Idx) :
    k0_pay2 v a j = a j + ∑ k ∈ Finset.range 1792, X (j 2).val k := by
  idx_vars j
  pointwise [k0_pay2]
  simp only [hv, Finset.sum_range, ix3_2]

/-- Block `t` of the input, at an index. -/
theorem blk0 (x : ℕ → ℕ → ℕ → EReal) (hx : ∀ (i : Fin 4) (j : Fin 96) (k : Fin 50176), V c main_v0 (ix3 i j k) = x i j k)
    (t : Fin cfg0.N) (j : Fin 96) (k : Fin 1792) :
    iblk0 V c 0 t (ix3 0 j k) = x (t.val / 28) j (t.val % 28 * 1792 + k) := by
  have ht : t.val < 112 := Nat.lt_of_lt_of_eq t.isLt N_0
  have := hx ⟨t.val / 28, by omega⟩ j ⟨t.val % 28 * 1792 + k, by omega⟩
  rw [← this]
  blk_ext [iblk0, idx0_0 t]

theorem r0 (x : ℕ → ℕ → ℕ → EReal) (hx : ∀ (i : Fin 4) (j : Fin 96) (k : Fin 50176), V c main_v0 (ix3 i j k) = x i j k)
    (b : Fin 4) (u : Fin 1) (o : Fin 96) :
    (dat0 V c).arrAt 1 cfg0.N (ix3 b u o) = pixSum x b o := by
  refine congrFun ((dat0 V c).arrAt_eq_of_covers 1 (fun i => pixSum x (i 0).val (i 2).val) (by decide +kernel) ?_) (ix3 b u o)
  intro t hf y
  have hr := (flush0_1 t).mp hf
  blk_simp [idx0_1 t]
  rw [after0_1]
  have H := Pipeline.eq_sum_of_reset_step_apply_divmod (M := EReal) (fun n h => outsAt0 V c n h) 28 (fun _ => 0)
    (fun q p y => ∑ k ∈ Finset.range 1792, x q (y 2).val (p * 1792 + k)) ?_ ?_ t y
  · rw [H, hr, zero_add, Finset.sum_range_range_mul_add 28 1792 (fun n => x (t.val / 28) (y 2).val n)]
    rfl
  · intro t h y
    rw [outsAt0_A V c t h]; frame_out
    rw [pay0_2 _ _ (fun j k => x (t.val / 28) j (t.val % 28 * 1792 + k)) (blk0 V c x hx t)]
    pointwise [k0_pay1]
  · intro t h y
    rw [outsAt0_B V c t h]; frame_out
    rw [pay0_2 _ _ (fun j k => x (t.val / 28) j (t.val % 28 * 1792 + k)) (blk0 V c x hx t)]

end Cert.KVal
-- ==== Proof.Loads.lean ====
/-
  Parts of a block read by a convolution call: a row of the coefficients, a column of the weights.
-/
module

public import proofs.«01_k».proof.Proof.Gen.KernelIdeal.Skeleton
public import proofs.«01_k».proof.Proof.Spec

@[expose] public section

namespace Cert.KVal

open Idealize.ShloMosaic Idealize.ShloMosaic.TcCoe Idealize.SL.Sem
open Cert.KernelIdeal Cert.KernelIdeal.Gen

theorem ld1 (X : Vec Ideal S1x2x8 .f32) (j : Fin 8) :
    View.ld X (Rect.unit (s := S1x2x8) ![0, 0, 0] S1x1x8.size inb_S1x2x8_S1x1x8_0_0_0) (ix3 0 0 j) = X (ix3 0 0 j) := by
  pointwise

theorem ld1' (X : Vec Ideal S1x2x8 .f32) (j : Fin 8) :
    View.ld X (Rect.unit (s := S1x2x8) ![0, 1, 0] S1x1x8.size inb_S1x2x8_S1x1x8_0_1_0) (ix3 0 0 j) = X (ix3 0 1 j) := by
  pointwise

theorem ldw0 (X : Vec Ideal S8x5 .f32) (j : Fin 8) :
    View.ld X (Rect.unit (s := S8x5) ![0, 0] S8x1.size inb_S8x5_S8x1_0_0) (ix2 j 0) = X (ix2 j 0) := by
  pointwise

theorem ldw1 (X : Vec Ideal S8x5 .f32) (j : Fin 8) :
    View.ld X (Rect.unit (s := S8x5) ![0, 1] S8x1.size inb_S8x5_S8x1_0_1) (ix2 j 0) = X (ix2 j 1) := by
  pointwise

theorem ldw2 (X : Vec Ideal S8x5 .f32) (j : Fin 8) :
    View.ld X (Rect.unit (s := S8x5) ![0, 2] S8x1.size inb_S8x5_S8x1_0_2) (ix2 j 0) = X (ix2 j 2) := by
  pointwise

theorem ldw3 (X : Vec Ideal S8x5 .f32) (j : Fin 8) :
    View.ld X (Rect.unit (s := S8x5) ![0, 3] S8x1.size inb_S8x5_S8x1_0_3) (ix2 j 0) = X (ix2 j 3) := by
  pointwise

theorem ldw4 (X : Vec Ideal S8x5 .f32) (j : Fin 8) :
    View.ld X (Rect.unit (s := S8x5) ![0, 4] S8x1.size inb_S8x5_S8x1_0_4) (ix2 j 0) = X (ix2 j 4) := by
  pointwise

end Cert.KVal
-- ==== Proof.K2.lean ====
/-
  The third call of the kernel, read as values: the depthwise convolution along a row at distance 1 of the scaled and
  shifted input, and the sums of each channel of its result and of its squares.
-/
module

public import proofs.«01_k».proof.Proof.Gen.KernelIdeal.Frame.Region2
public import proofs.«01_k».proof.Proof.Loads

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx2_0 (t : Fin cfg2.N) : win2_0.index t = ![t.val % 4, t.val / 4, 0, 0] :=
  (by decide +kernel : ∀ t : Fin grid2.N, win2_0.index t = ![t.val % 4, t.val / 4, 0, 0]) t
theorem idx2_1 (t : Fin cfg2.N) : win2_1.index t = ![t.val / 4, 0, 0] :=
  (by decide +kernel : ∀ t : Fin grid2.N, win2_1.index t = ![t.val / 4, 0, 0]) t
theorem idx2_2 (t : Fin cfg2.N) : win2_2.index t = ![t.val / 4, 0] :=
  (by decide +kernel : ∀ t : Fin grid2.N, win2_2.index t = ![t.val / 4, 0]) t
theorem idx2_3 (t : Fin cfg2.N) : win2_3.index t = ![t.val / 4, 0, 0] :=
  (by decide +kernel : ∀ t : Fin grid2.N, win2_3.index t = ![t.val / 4, 0, 0]) t
theorem idx2_4 (t : Fin cfg2.N) : win2_4.index t = ![t.val % 4, t.val / 4, 0, 0] :=
  (by decide +kernel : ∀ t : Fin grid2.N, win2_4.index t = ![t.val % 4, t.val / 4, 0, 0]) t
theorem idx2_5 (t : Fin cfg2.N) : win2_5.index t = ![t.val / 4, 0, 0] :=
  (by decide +kernel : ∀ t : Fin grid2.N, win2_5.index t = ![t.val / 4, 0, 0]) t

/-! ## The body's values at an index, the blocks given as functions -/

section Pay
variable (a : Vec Ideal S1x8x224x224 .f32) (s e : Vec Ideal S1x1x8 .f32) (k0 k1 k2 k3 k4 : Vec Ideal S8x1 .f32)
  (A : ℕ → ℕ → ℕ → EReal) (Sc Of : ℕ → EReal) (KK : ℕ → ℕ → EReal)
  (hs : ∀ j : Fin 8, s (ix3 0 0 j) = Sc j) (he : ∀ j : Fin 8, e (ix3 0 0 j) = Of j)
  (ha : ∀ (j : Fin 8) (h w : Fin 224), a (ix4 0 j h w) = A j h w)
  (h0 : ∀ j : Fin 8, k0 (ix2 j 0) = KK j 0) (h1 : ∀ j : Fin 8, k1 (ix2 j 0) = KK j 1)
  (h2 : ∀ j : Fin 8, k2 (ix2 j 0) = KK j 2) (h3 : ∀ j : Fin 8, k3 (ix2 j 0) = KK j 3)
  (h4 : ∀ j : Fin 8, k4 (ix2 j 0) = KK j 4)

include hs he ha in
theorem pay2_5 (j : Fin 8) (h : Fin 224) (w : Fin 228) : k2_pay5 s e a (ix3 j h w)
    = padAt 2 (fun w => A j h w * Sc j + Of j) w := by
  pointwise [k2_pay5]
  unfold padAt
  by_cases hlt : w.val < 2
  · simp only [hlt, dite_true, if_true]
  · by_cases hm : w.val - 2 < 224
    · simp only [hlt, hm, dite_false, dite_true, if_false, if_true, ha, hs, he]
    · simp only [hlt, hm, dite_false, if_false]

include hs he ha h0 h1 h2 in
theorem pay2_6 (j : Fin 8) (h w : Fin 224) : k2_pay6 s e a k0 k1 k2 (ix3 j h w)
    = KK j 0 * padAt 2 (fun w => A j h w * Sc j + Of j) w + KK j 1 * padAt 2 (fun w => A j h w * Sc j + Of j) (1 + w)
      + KK j 2 * padAt 2 (fun w => A j h w * Sc j + Of j) (2 + w) := by
  pointwise [k2_pay6]
  simp only [pay2_5 a s e A Sc Of hs he ha, h0, h1, h2]

include h3 in
theorem pay2_7 (j : Fin 8) : k2_pay7 k3 (ix1 j) = KK j 3 := by
  pointwise [k2_pay7]
  exact h3 j

/-- The convolution on a block. -/
def conB2 (A : ℕ → ℕ → ℕ → EReal) (Sc Of : ℕ → EReal) (KK : ℕ → ℕ → EReal) (j h w : ℕ) : EReal :=
  conv5 2 1 2 3 4 (KK j) (fun w => A j h w * Sc j + Of j) w

include hs he ha h0 h1 h2 h3 h4 in
theorem pay2_1 (j : Fin 8) (h w : Fin 224) :
    k2_pay1 (k2_pay5 s e a) (k2_pay6 s e a k0 k1 k2) (k2_pay7 k3) k4 (ix3 j h w) = conB2 A Sc Of KK j h w := by
  pointwise [k2_pay1]
  simp only [pay2_5 a s e A Sc Of hs he ha, pay2_6 a s e k0 k1 k2 A Sc Of KK hs he ha h0 h1 h2, pay2_7 k3 KK h3, h4]
  rfl

include hs he ha h0 h1 h2 h3 h4 in
theorem pay2_2 (y : S1x8x224x224.Idx) :
    k2_pay2 (k2_pay5 s e a) (k2_pay6 s e a k0 k1 k2) (k2_pay7 k3) k4 y = conB2 A Sc Of KK (y 1).val (y 2).val (y 3).val := by
  idx_vars y
  pointwise [k2_pay2]
  exact pay2_1 a s e k0 k1 k2 k3 k4 A Sc Of KK hs he ha h0 h1 h2 h3 h4 _ _ _

include hs he ha h0 h1 h2 h3 h4 in
theorem pay2_4 (acc : Vec Ideal S1x2x8 .f32) (y : S1x2x8.Idx) :
    k2_pay4 (k2_pay5 s e a) (k2_pay6 s e a k0 k1 k2) (k2_pay7 k3) k4 acc y = acc y + ∑ h ∈ Finset.range 224, ∑ w ∈ Finset.range 224,
      pow1 (y 1).val (conB2 A Sc Of KK (y 2).val h w) := by
  idx_vars y
  obtain rfl : y0 = 0 := Subsingleton.elim _ _
  pointwise [k2_pay4]
  simp only [pay2_1 a s e k0 k1 k2 k3 k4 A Sc Of KK hs he ha h0 h1 h2 h3 h4, pow1]
  congr 1
  by_cases h : y1.val = 0
  · simp only [h, Nat.zero_lt_one, dite_true, if_true, Finset.sum_range]
  · have h' : ¬y1.val < 1 := by omega
    simp only [h, h', dite_false, if_false, Finset.sum_range]

end Pay

/-! ## The blocks and the arrays -/

variable (a : ℕ → ℕ → ℕ → ℕ → EReal) (ha : ∀ (b : Fin 4) (o : Fin 96) (h w : Fin 224), V c main_v28 (ix4 b o h w) = a b o h w)
  (sc of : ℕ → EReal) (hsc : ∀ (q : Fin 12) (j : Fin 8), V c main_v25 (ix3 q 0 j) = sc (q.val * 8 + j.val))
  (hof : ∀ (q : Fin 12) (j : Fin 8), V c main_v25 (ix3 q 1 j) = of (q.val * 8 + j.val))
  (k : ℕ → ℕ → EReal) (hk : ∀ (o : Fin 96) (t : Fin 5), V c main_v23 (ix2 o t) = k o t)

include ha in
theorem blk2_0 (t : Fin cfg2.N) (j : Fin 8) (h w : Fin 224) :
    iblk2 V c 0 t (ix4 0 j h w) = a (t.val % 4) (t.val / 4 * 8 + j) h w := by
  have ht : t.val < 48 := Nat.lt_of_lt_of_eq t.isLt N_2
  have := ha ⟨t.val % 4, by omega⟩ ⟨t.val / 4 * 8 + j, by omega⟩ h w
  rw [← this]
  blk_ext [iblk2, idx2_0 t]

include hsc in
theorem blk2_1 (t : Fin cfg2.N) (j : Fin 8) :
    View.ld (iblk2 V c 1 t) (Rect.unit (s := S1x2x8) ![0, 0, 0] S1x1x8.size inb_S1x2x8_S1x1x8_0_0_0) (ix3 0 0 j)
      = sc (t.val / 4 * 8 + j) := by
  have ht : t.val < 48 := Nat.lt_of_lt_of_eq t.isLt N_2
  have := hsc ⟨t.val / 4, by omega⟩ j
  have e : iblk2 V c 1 t (ix3 0 0 j) = sc (t.val / 4 * 8 + j) := by
    rw [← this]
    blk_ext [iblk2, idx2_1 t]
  rw [← e, ld1]

include hof in
theorem blk2_1' (t : Fin cfg2.N) (j : Fin 8) :
    View.ld (iblk2 V c 1 t) (Rect.unit (s := S1x2x8) ![0, 1, 0] S1x1x8.size inb_S1x2x8_S1x1x8_0_1_0) (ix3 0 0 j)
      = of (t.val / 4 * 8 + j) := by
  have ht : t.val < 48 := Nat.lt_of_lt_of_eq t.isLt N_2
  have := hof ⟨t.val / 4, by omega⟩ j
  have e : iblk2 V c 1 t (ix3 0 1 j) = of (t.val / 4 * 8 + j) := by
    rw [← this]
    blk_ext [iblk2, idx2_1 t]
  rw [← e, ld1']

include hk in
theorem blk2_2 (t : Fin cfg2.N) (j : Fin 8) (i : Fin 5) : iblk2 V c 2 t (ix2 j i) = k (t.val / 4 * 8 + j) i := by
  have ht : t.val < 48 := Nat.lt_of_lt_of_eq t.isLt N_2
  have := hk ⟨t.val / 4 * 8 + j, by omega⟩ i
  rw [← this]
  blk_ext [iblk2, idx2_2 t]

include hk in
theorem blk2_2_0 (t : Fin cfg2.N) (j : Fin 8) :
    View.ld (iblk2 V c 2 t) (Rect.unit (s := S8x5) ![0, 0] S8x1.size inb_S8x5_S8x1_0_0) (ix2 j 0)
      = k (t.val / 4 * 8 + j) 0 :=
  (ldw0 _ j).trans (blk2_2 V c k hk t j 0)

include hk in
theorem blk2_2_1 (t : Fin cfg2.N) (j : Fin 8) :
    View.ld (iblk2 V c 2 t) (Rect.unit (s := S8x5) ![0, 1] S8x1.size inb_S8x5_S8x1_0_1) (ix2 j 0)
      = k (t.val / 4 * 8 + j) 1 :=
  (ldw1 _ j).trans (blk2_2 V c k hk t j 1)

include hk in
theorem blk2_2_2 (t : Fin cfg2.N) (j : Fin 8) :
    View.ld (iblk2 V c 2 t) (Rect.unit (s := S8x5) ![0, 2] S8x1.size inb_S8x5_S8x1_0_2) (ix2 j 0)
      = k (t.val / 4 * 8 + j) 2 :=
  (ldw2 _ j).trans (blk2_2 V c k hk t j 2)

include hk in
theorem blk2_2_3 (t : Fin cfg2.N) (j : Fin 8) :
    View.ld (iblk2 V c 2 t) (Rect.unit (s := S8x5) ![0, 3] S8x1.size inb_S8x5_S8x1_0_3) (ix2 j 0)
      = k (t.val / 4 * 8 + j) 3 :=
  (ldw3 _ j).trans (blk2_2 V c k hk t j 3)

include hk in
theorem blk2_2_4 (t : Fin cfg2.N) (j : Fin 8) :
    View.ld (iblk2 V c 2 t) (Rect.unit (s := S8x5) ![0, 4] S8x1.size inb_S8x5_S8x1_0_4) (ix2 j 0)
      = k (t.val / 4 * 8 + j) 4 :=
  (ldw4 _ j).trans (blk2_2 V c k hk t j 4)

include ha hsc hof hk in
/-- The convolution's array. -/
theorem r2_4 (b : Fin 4) (o : Fin 96) (h w : Fin 224) :
    (dat2 V c).arrAt 4 cfg2.N (ix4 b o h w) = convW1 k (affine a sc of) b o h w := by
  refine congrFun ((dat2 V c).arrAt_eq_of_covers 4
    (fun i => convW1 k (affine a sc of) (i 0).val (i 1).val (i 2).val (i 3).val) (by decide +kernel) ?_) (ix4 b o h w)
  intro t hf y
  blk_simp [idx2_4 t]
  rw [after2_4]
  have H : (outsAt2 V c t.val t.isLt).1 y = conB2 (fun j h w => a (t.val % 4) (t.val / 4 * 8 + j) h w) (fun j => sc (t.val / 4 * 8 + j)) (fun j => of (t.val / 4 * 8 + j)) (fun j i => k (t.val / 4 * 8 + j) i) (y 1).val (y 2).val (y 3).val := by
    by_cases h : t.val % 4 = 0
    · rw [outsAt2_A V c t h]
      frame_out
      exact pay2_2 _ _ _ _ _ _ _ _ (fun j h w => a (t.val % 4) (t.val / 4 * 8 + j) h w) (fun j => sc (t.val / 4 * 8 + j)) (fun j => of (t.val / 4 * 8 + j)) (fun j i => k (t.val / 4 * 8 + j) i) (blk2_1 V c sc hsc t) (blk2_1' V c of hof t) (blk2_0 V c a ha t) (blk2_2_0 V c k hk t) (blk2_2_1 V c k hk t) (blk2_2_2 V c k hk t) (blk2_2_3 V c k hk t) (blk2_2_4 V c k hk t) y
    · rw [outsAt2_B V c t h]; frame_out
      exact pay2_2 _ _ _ _ _ _ _ _ (fun j h w => a (t.val % 4) (t.val / 4 * 8 + j) h w) (fun j => sc (t.val / 4 * 8 + j)) (fun j => of (t.val / 4 * 8 + j)) (fun j i => k (t.val / 4 * 8 + j) i) (blk2_1 V c sc hsc t) (blk2_1' V c of hof t) (blk2_0 V c a ha t) (blk2_2_0 V c k hk t) (blk2_2_1 V c k hk t) (blk2_2_2 V c k hk t) (blk2_2_3 V c k hk t) (blk2_2_4 V c k hk t) y
  rw [H]; rfl

include ha hsc hof hk in
/-- The statistics' array: it starts over at each group of channels. -/
theorem r2_5 (q : Fin 12) (r : Fin 2) (j : Fin 8) :
    (dat2 V c).arrAt 5 cfg2.N (ix3 q r j) = stat4 (convW1 k (affine a sc of)) r (q.val * 8 + j.val) := by
  refine congrFun ((dat2 V c).arrAt_eq_of_covers 5
    (fun i => stat4 (convW1 k (affine a sc of)) (i 1).val ((i 0).val * 8 + (i 2).val)) (by decide +kernel) ?_) (ix3 q r j)
  intro t hf y
  have hr := (flush2_5 t).mp hf
  blk_simp [idx2_5 t]
  rw [after2_5]
  have H := Pipeline.eq_sum_of_reset_step_apply_divmod (M := EReal) (fun n h => (outsAt2 V c n h).2) 4 (fun _ => 0)
    (fun q p y => ∑ h ∈ Finset.range 224, ∑ w ∈ Finset.range 224,
      pow1 (y 1).val (convW1 k (affine a sc of) p (q * 8 + (y 2).val) h w)) ?_ ?_ t y
  · rw [H, hr, zero_add]; rfl
  · intro t h y
    rw [outsAt2_A V c t h]; frame_out
    refine (pay2_4 _ _ _ _ _ _ _ _ (fun j h w => a (t.val % 4) (t.val / 4 * 8 + j) h w) (fun j => sc (t.val / 4 * 8 + j)) (fun j => of (t.val / 4 * 8 + j)) (fun j i => k (t.val / 4 * 8 + j) i) (blk2_1 V c sc hsc t) (blk2_1' V c of hof t) (blk2_0 V c a ha t) (blk2_2_0 V c k hk t) (blk2_2_1 V c k hk t) (blk2_2_2 V c k hk t) (blk2_2_3 V c k hk t) (blk2_2_4 V c k hk t) _ _).trans ?_
    pointwise [k2_pay3]
    rfl
  · intro t h y
    rw [outsAt2_B V c t h]; frame_out
    exact pay2_4 _ _ _ _ _ _ _ _ (fun j h w => a (t.val % 4) (t.val / 4 * 8 + j) h w) (fun j => sc (t.val / 4 * 8 + j)) (fun j => of (t.val / 4 * 8 + j)) (fun j i => k (t.val / 4 * 8 + j) i) (blk2_1 V c sc hsc t) (blk2_1' V c of hof t) (blk2_0 V c a ha t) (blk2_2_0 V c k hk t) (blk2_2_1 V c k hk t) (blk2_2_2 V c k hk t) (blk2_2_3 V c k hk t) (blk2_2_4 V c k hk t) _ _

end Cert.KVal
-- ==== Proof.K3.lean ====
/-
  The fourth call of the kernel, read as values: the depthwise convolution along a column at distance 1 of the scaled and
  shifted input, and the sums of each channel of its result and of its squares.
-/
module

public import proofs.«01_k».proof.Proof.Gen.KernelIdeal.Frame.Region3
public import proofs.«01_k».proof.Proof.Loads

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx3_0 (t : Fin cfg3.N) : win3_0.index t = ![t.val % 4, t.val / 4, 0, 0] :=
  (by decide +kernel : ∀ t : Fin grid3.N, win3_0.index t = ![t.val % 4, t.val / 4, 0, 0]) t
theorem idx3_1 (t : Fin cfg3.N) : win3_1.index t = ![t.val / 4, 0, 0] :=
  (by decide +kernel : ∀ t : Fin grid3.N, win3_1.index t = ![t.val / 4, 0, 0]) t
theorem idx3_2 (t : Fin cfg3.N) : win3_2.index t = ![t.val / 4, 0] :=
  (by decide +kernel : ∀ t : Fin grid3.N, win3_2.index t = ![t.val / 4, 0]) t
theorem idx3_3 (t : Fin cfg3.N) : win3_3.index t = ![t.val / 4, 0, 0] :=
  (by decide +kernel : ∀ t : Fin grid3.N, win3_3.index t = ![t.val / 4, 0, 0]) t
theorem idx3_4 (t : Fin cfg3.N) : win3_4.index t = ![t.val % 4, t.val / 4, 0, 0] :=
  (by decide +kernel : ∀ t : Fin grid3.N, win3_4.index t = ![t.val % 4, t.val / 4, 0, 0]) t
theorem idx3_5 (t : Fin cfg3.N) : win3_5.index t = ![t.val / 4, 0, 0] :=
  (by decide +kernel : ∀ t : Fin grid3.N, win3_5.index t = ![t.val / 4, 0, 0]) t

/-! ## The body's values at an index, the blocks given as functions -/

section Pay
variable (a : Vec Ideal S1x8x224x224 .f32) (s e : Vec Ideal S1x1x8 .f32) (k0 k1 k2 k3 k4 : Vec Ideal S8x1 .f32)
  (A : ℕ → ℕ → ℕ → EReal) (Sc Of : ℕ → EReal) (KK : ℕ → ℕ → EReal)
  (hs : ∀ j : Fin 8, s (ix3 0 0 j) = Sc j) (he : ∀ j : Fin 8, e (ix3 0 0 j) = Of j)
  (ha : ∀ (j : Fin 8) (h w : Fin 224), a (ix4 0 j h w) = A j h w)
  (h0 : ∀ j : Fin 8, k0 (ix2 j 0) = KK j 0) (h1 : ∀ j : Fin 8, k1 (ix2 j 0) = KK j 1)
  (h2 : ∀ j : Fin 8, k2 (ix2 j 0) = KK j 2) (h3 : ∀ j : Fin 8, k3 (ix2 j 0) = KK j 3)
  (h4 : ∀ j : Fin 8, k4 (ix2 j 0) = KK j 4)

include hs he ha in
theorem pay3_5 (j : Fin 8) (h : Fin 228) (w : Fin 224) : k3_pay5 s e a (ix3 j h w)
    = padAt 2 (fun h => A j h w * Sc j + Of j) h := by
  pointwise [k3_pay5]
  unfold padAt
  by_cases hlt : h.val < 2
  · simp only [hlt, dite_true, if_true]
  · by_cases hm : h.val - 2 < 224
    · simp only [hlt, hm, dite_false, dite_true, if_false, if_true, ha, hs, he]
    · simp only [hlt, hm, dite_false, if_false]

include hs he ha h0 h1 h2 in
theorem pay3_6 (j : Fin 8) (h w : Fin 224) : k3_pay6 s e a k0 k1 k2 (ix3 j h w)
    = KK j 0 * padAt 2 (fun h => A j h w * Sc j + Of j) h + KK j 1 * padAt 2 (fun h => A j h w * Sc j + Of j) (1 + h)
      + KK j 2 * padAt 2 (fun h => A j h w * Sc j + Of j) (2 + h) := by
  pointwise [k3_pay6]
  simp only [pay3_5 a s e A Sc Of hs he ha, h0, h1, h2]

include h3 in
theorem pay3_7 (j : Fin 8) : k3_pay7 k3 (ix1 j) = KK j 3 := by
  pointwise [k3_pay7]
  exact h3 j

/-- The convolution on a block. -/
def conB3 (A : ℕ → ℕ → ℕ → EReal) (Sc Of : ℕ → EReal) (KK : ℕ → ℕ → EReal) (j h w : ℕ) : EReal :=
  conv5 2 1 2 3 4 (KK j) (fun h => A j h w * Sc j + Of j) h

include hs he ha h0 h1 h2 h3 h4 in
theorem pay3_1 (j : Fin 8) (h w : Fin 224) :
    k3_pay1 (k3_pay5 s e a) (k3_pay6 s e a k0 k1 k2) (k3_pay7 k3) k4 (ix3 j h w) = conB3 A Sc Of KK j h w := by
  pointwise [k3_pay1]
  simp only [pay3_5 a s e A Sc Of hs he ha, pay3_6 a s e k0 k1 k2 A Sc Of KK hs he ha h0 h1 h2, pay3_7 k3 KK h3, h4]
  rfl

include hs he ha h0 h1 h2 h3 h4 in
theorem pay3_2 (y : S1x8x224x224.Idx) :
    k3_pay2 (k3_pay5 s e a) (k3_pay6 s e a k0 k1 k2) (k3_pay7 k3) k4 y = conB3 A Sc Of KK (y 1).val (y 2).val (y 3).val := by
  idx_vars y
  pointwise [k3_pay2]
  exact pay3_1 a s e k0 k1 k2 k3 k4 A Sc Of KK hs he ha h0 h1 h2 h3 h4 _ _ _

include hs he ha h0 h1 h2 h3 h4 in
theorem pay3_4 (acc : Vec Ideal S1x2x8 .f32) (y : S1x2x8.Idx) :
    k3_pay4 (k3_pay5 s e a) (k3_pay6 s e a k0 k1 k2) (k3_pay7 k3) k4 acc y = acc y + ∑ h ∈ Finset.range 224, ∑ w ∈ Finset.range 224,
      pow1 (y 1).val (conB3 A Sc Of KK (y 2).val h w) := by
  idx_vars y
  obtain rfl : y0 = 0 := Subsingleton.elim _ _
  pointwise [k3_pay4]
  simp only [pay3_1 a s e k0 k1 k2 k3 k4 A Sc Of KK hs he ha h0 h1 h2 h3 h4, pow1]
  congr 1
  by_cases h : y1.val = 0
  · simp only [h, Nat.zero_lt_one, dite_true, if_true, Finset.sum_range]
  · have h' : ¬y1.val < 1 := by omega
    simp only [h, h', dite_false, if_false, Finset.sum_range]

end Pay

/-! ## The blocks and the arrays -/

variable (a : ℕ → ℕ → ℕ → ℕ → EReal) (ha : ∀ (b : Fin 4) (o : Fin 96) (h w : Fin 224), V c main_v29_0 (ix4 b o h w) = a b o h w)
  (sc of : ℕ → EReal) (hsc : ∀ (q : Fin 12) (j : Fin 8), V c main_v53 (ix3 q 0 j) = sc (q.val * 8 + j.val))
  (hof : ∀ (q : Fin 12) (j : Fin 8), V c main_v53 (ix3 q 1 j) = of (q.val * 8 + j.val))
  (k : ℕ → ℕ → EReal) (hk : ∀ (o : Fin 96) (t : Fin 5), V c main_v51 (ix2 o t) = k o t)

include ha in
theorem blk3_0 (t : Fin cfg3.N) (j : Fin 8) (h w : Fin 224) :
    iblk3 V c 0 t (ix4 0 j h w) = a (t.val % 4) (t.val / 4 * 8 + j) h w := by
  have ht : t.val < 48 := Nat.lt_of_lt_of_eq t.isLt N_3
  have := ha ⟨t.val % 4, by omega⟩ ⟨t.val / 4 * 8 + j, by omega⟩ h w
  rw [← this]
  blk_ext [iblk3, idx3_0 t]

include hsc in
theorem blk3_1 (t : Fin cfg3.N) (j : Fin 8) :
    View.ld (iblk3 V c 1 t) (Rect.unit (s := S1x2x8) ![0, 0, 0] S1x1x8.size inb_S1x2x8_S1x1x8_0_0_0) (ix3 0 0 j)
      = sc (t.val / 4 * 8 + j) := by
  have ht : t.val < 48 := Nat.lt_of_lt_of_eq t.isLt N_3
  have := hsc ⟨t.val / 4, by omega⟩ j
  have e : iblk3 V c 1 t (ix3 0 0 j) = sc (t.val / 4 * 8 + j) := by
    rw [← this]
    blk_ext [iblk3, idx3_1 t]
  rw [← e, ld1]

include hof in
theorem blk3_1' (t : Fin cfg3.N) (j : Fin 8) :
    View.ld (iblk3 V c 1 t) (Rect.unit (s := S1x2x8) ![0, 1, 0] S1x1x8.size inb_S1x2x8_S1x1x8_0_1_0) (ix3 0 0 j)
      = of (t.val / 4 * 8 + j) := by
  have ht : t.val < 48 := Nat.lt_of_lt_of_eq t.isLt N_3
  have := hof ⟨t.val / 4, by omega⟩ j
  have e : iblk3 V c 1 t (ix3 0 1 j) = of (t.val / 4 * 8 + j) := by
    rw [← this]
    blk_ext [iblk3, idx3_1 t]
  rw [← e, ld1']

include hk in
theorem blk3_2 (t : Fin cfg3.N) (j : Fin 8) (i : Fin 5) : iblk3 V c 2 t (ix2 j i) = k (t.val / 4 * 8 + j) i := by
  have ht : t.val < 48 := Nat.lt_of_lt_of_eq t.isLt N_3
  have := hk ⟨t.val / 4 * 8 + j, by omega⟩ i
  rw [← this]
  blk_ext [iblk3, idx3_2 t]

include hk in
theorem blk3_2_0 (t : Fin cfg3.N) (j : Fin 8) :
    View.ld (iblk3 V c 2 t) (Rect.unit (s := S8x5) ![0, 0] S8x1.size inb_S8x5_S8x1_0_0) (ix2 j 0)
      = k (t.val / 4 * 8 + j) 0 :=
  (ldw0 _ j).trans (blk3_2 V c k hk t j 0)

include hk in
theorem blk3_2_1 (t : Fin cfg3.N) (j : Fin 8) :
    View.ld (iblk3 V c 2 t) (Rect.unit (s := S8x5) ![0, 1] S8x1.size inb_S8x5_S8x1_0_1) (ix2 j 0)
      = k (t.val / 4 * 8 + j) 1 :=
  (ldw1 _ j).trans (blk3_2 V c k hk t j 1)

include hk in
theorem blk3_2_2 (t : Fin cfg3.N) (j : Fin 8) :
    View.ld (iblk3 V c 2 t) (Rect.unit (s := S8x5) ![0, 2] S8x1.size inb_S8x5_S8x1_0_2) (ix2 j 0)
      = k (t.val / 4 * 8 + j) 2 :=
  (ldw2 _ j).trans (blk3_2 V c k hk t j 2)

include hk in
theorem blk3_2_3 (t : Fin cfg3.N) (j : Fin 8) :
    View.ld (iblk3 V c 2 t) (Rect.unit (s := S8x5) ![0, 3] S8x1.size inb_S8x5_S8x1_0_3) (ix2 j 0)
      = k (t.val / 4 * 8 + j) 3 :=
  (ldw3 _ j).trans (blk3_2 V c k hk t j 3)

include hk in
theorem blk3_2_4 (t : Fin cfg3.N) (j : Fin 8) :
    View.ld (iblk3 V c 2 t) (Rect.unit (s := S8x5) ![0, 4] S8x1.size inb_S8x5_S8x1_0_4) (ix2 j 0)
      = k (t.val / 4 * 8 + j) 4 :=
  (ldw4 _ j).trans (blk3_2 V c k hk t j 4)

include ha hsc hof hk in
/-- The convolution's array. -/
theorem r3_4 (b : Fin 4) (o : Fin 96) (h w : Fin 224) :
    (dat3 V c).arrAt 4 cfg3.N (ix4 b o h w) = convH1 k (affine a sc of) b o h w := by
  refine congrFun ((dat3 V c).arrAt_eq_of_covers 4
    (fun i => convH1 k (affine a sc of) (i 0).val (i 1).val (i 2).val (i 3).val) (by decide +kernel) ?_) (ix4 b o h w)
  intro t hf y
  blk_simp [idx3_4 t]
  rw [after3_4]
  have H : (outsAt3 V c t.val t.isLt).1 y = conB3 (fun j h w => a (t.val % 4) (t.val / 4 * 8 + j) h w) (fun j => sc (t.val / 4 * 8 + j)) (fun j => of (t.val / 4 * 8 + j)) (fun j i => k (t.val / 4 * 8 + j) i) (y 1).val (y 2).val (y 3).val := by
    by_cases h : t.val % 4 = 0
    · rw [outsAt3_A V c t h]
      frame_out
      exact pay3_2 _ _ _ _ _ _ _ _ (fun j h w => a (t.val % 4) (t.val / 4 * 8 + j) h w) (fun j => sc (t.val / 4 * 8 + j)) (fun j => of (t.val / 4 * 8 + j)) (fun j i => k (t.val / 4 * 8 + j) i) (blk3_1 V c sc hsc t) (blk3_1' V c of hof t) (blk3_0 V c a ha t) (blk3_2_0 V c k hk t) (blk3_2_1 V c k hk t) (blk3_2_2 V c k hk t) (blk3_2_3 V c k hk t) (blk3_2_4 V c k hk t) y
    · rw [outsAt3_B V c t h]; frame_out
      exact pay3_2 _ _ _ _ _ _ _ _ (fun j h w => a (t.val % 4) (t.val / 4 * 8 + j) h w) (fun j => sc (t.val / 4 * 8 + j)) (fun j => of (t.val / 4 * 8 + j)) (fun j i => k (t.val / 4 * 8 + j) i) (blk3_1 V c sc hsc t) (blk3_1' V c of hof t) (blk3_0 V c a ha t) (blk3_2_0 V c k hk t) (blk3_2_1 V c k hk t) (blk3_2_2 V c k hk t) (blk3_2_3 V c k hk t) (blk3_2_4 V c k hk t) y
  rw [H]; rfl

include ha hsc hof hk in
/-- The statistics' array: it starts over at each group of channels. -/
theorem r3_5 (q : Fin 12) (r : Fin 2) (j : Fin 8) :
    (dat3 V c).arrAt 5 cfg3.N (ix3 q r j) = stat4 (convH1 k (affine a sc of)) r (q.val * 8 + j.val) := by
  refine congrFun ((dat3 V c).arrAt_eq_of_covers 5
    (fun i => stat4 (convH1 k (affine a sc of)) (i 1).val ((i 0).val * 8 + (i 2).val)) (by decide +kernel) ?_) (ix3 q r j)
  intro t hf y
  have hr := (flush3_5 t).mp hf
  blk_simp [idx3_5 t]
  rw [after3_5]
  have H := Pipeline.eq_sum_of_reset_step_apply_divmod (M := EReal) (fun n h => (outsAt3 V c n h).2) 4 (fun _ => 0)
    (fun q p y => ∑ h ∈ Finset.range 224, ∑ w ∈ Finset.range 224,
      pow1 (y 1).val (convH1 k (affine a sc of) p (q * 8 + (y 2).val) h w)) ?_ ?_ t y
  · rw [H, hr, zero_add]; rfl
  · intro t h y
    rw [outsAt3_A V c t h]; frame_out
    refine (pay3_4 _ _ _ _ _ _ _ _ (fun j h w => a (t.val % 4) (t.val / 4 * 8 + j) h w) (fun j => sc (t.val / 4 * 8 + j)) (fun j => of (t.val / 4 * 8 + j)) (fun j i => k (t.val / 4 * 8 + j) i) (blk3_1 V c sc hsc t) (blk3_1' V c of hof t) (blk3_0 V c a ha t) (blk3_2_0 V c k hk t) (blk3_2_1 V c k hk t) (blk3_2_2 V c k hk t) (blk3_2_3 V c k hk t) (blk3_2_4 V c k hk t) _ _).trans ?_
    pointwise [k3_pay3]
    rfl
  · intro t h y
    rw [outsAt3_B V c t h]; frame_out
    exact pay3_4 _ _ _ _ _ _ _ _ (fun j h w => a (t.val % 4) (t.val / 4 * 8 + j) h w) (fun j => sc (t.val / 4 * 8 + j)) (fun j => of (t.val / 4 * 8 + j)) (fun j i => k (t.val / 4 * 8 + j) i) (blk3_1 V c sc hsc t) (blk3_1' V c of hof t) (blk3_0 V c a ha t) (blk3_2_0 V c k hk t) (blk3_2_1 V c k hk t) (blk3_2_2 V c k hk t) (blk3_2_3 V c k hk t) (blk3_2_4 V c k hk t) _ _

end Cert.KVal
-- ==== Proof.K4.lean ====
/-
  The fifth call of the kernel, read as values: the depthwise convolution along a row at distance 2 of the scaled and
  shifted input, and the sums of each channel of its result and of its squares.
-/
module

public import proofs.«01_k».proof.Proof.Gen.KernelIdeal.Frame.Region4
public import proofs.«01_k».proof.Proof.Loads

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx4_0 (t : Fin cfg4.N) : win4_0.index t = ![t.val % 4, t.val / 4, 0, 0] :=
  (by decide +kernel : ∀ t : Fin grid4.N, win4_0.index t = ![t.val % 4, t.val / 4, 0, 0]) t
theorem idx4_1 (t : Fin cfg4.N) : win4_1.index t = ![t.val / 4, 0, 0] :=
  (by decide +kernel : ∀ t : Fin grid4.N, win4_1.index t = ![t.val / 4, 0, 0]) t
theorem idx4_2 (t : Fin cfg4.N) : win4_2.index t = ![t.val / 4, 0] :=
  (by decide +kernel : ∀ t : Fin grid4.N, win4_2.index t = ![t.val / 4, 0]) t
theorem idx4_3 (t : Fin cfg4.N) : win4_3.index t = ![t.val / 4, 0, 0] :=
  (by decide +kernel : ∀ t : Fin grid4.N, win4_3.index t = ![t.val / 4, 0, 0]) t
theorem idx4_4 (t : Fin cfg4.N) : win4_4.index t = ![t.val % 4, t.val / 4, 0, 0] :=
  (by decide +kernel : ∀ t : Fin grid4.N, win4_4.index t = ![t.val % 4, t.val / 4, 0, 0]) t
theorem idx4_5 (t : Fin cfg4.N) : win4_5.index t = ![t.val / 4, 0, 0] :=
  (by decide +kernel : ∀ t : Fin grid4.N, win4_5.index t = ![t.val / 4, 0, 0]) t

/-! ## The body's values at an index, the blocks given as functions -/

section Pay
variable (a : Vec Ideal S1x8x224x224 .f32) (s e : Vec Ideal S1x1x8 .f32) (k0 k1 k2 k3 k4 : Vec Ideal S8x1 .f32)
  (be : Vec Ideal S1x1x8 .f32) (A : ℕ → ℕ → ℕ → EReal) (Sc Of : ℕ → EReal) (KK : ℕ → ℕ → EReal) (B : ℕ → EReal)
  (hs : ∀ j : Fin 8, s (ix3 0 0 j) = Sc j) (he : ∀ j : Fin 8, e (ix3 0 0 j) = Of j)
  (ha : ∀ (j : Fin 8) (h w : Fin 224), a (ix4 0 j h w) = A j h w)
  (h0 : ∀ j : Fin 8, k0 (ix2 j 0) = KK j 0) (h1 : ∀ j : Fin 8, k1 (ix2 j 0) = KK j 1)
  (h2 : ∀ j : Fin 8, k2 (ix2 j 0) = KK j 2) (h3 : ∀ j : Fin 8, k3 (ix2 j 0) = KK j 3)
  (h4 : ∀ j : Fin 8, k4 (ix2 j 0) = KK j 4) (hb : ∀ j : Fin 8, be (ix3 0 0 j) = B j)

include hs he ha in
theorem pay4_5 (j : Fin 8) (h : Fin 224) (w : Fin 232) : k4_pay5 s e a (ix3 j h w)
    = padAt 4 (fun w => A j h w * Sc j + Of j) w := by
  pointwise [k4_pay5]
  unfold padAt
  by_cases hlt : w.val < 4
  · simp only [hlt, dite_true, if_true]
  · by_cases hm : w.val - 4 < 224
    · simp only [hlt, hm, dite_false, dite_true, if_false, if_true, ha, hs, he]
    · simp only [hlt, hm, dite_false, if_false]

include hs he ha h0 h1 h2 in
theorem pay4_6 (j : Fin 8) (h w : Fin 224) : k4_pay6 s e a k0 k1 k2 (ix3 j h w)
    = KK j 0 * padAt 4 (fun w => A j h w * Sc j + Of j) w + KK j 1 * padAt 4 (fun w => A j h w * Sc j + Of j) (2 + w)
      + KK j 2 * padAt 4 (fun w => A j h w * Sc j + Of j) (4 + w) := by
  pointwise [k4_pay6]
  simp only [pay4_5 a s e A Sc Of hs he ha, h0, h1, h2]

include h3 in
theorem pay4_7 (j : Fin 8) : k4_pay7 k3 (ix1 j) = KK j 3 := by
  pointwise [k4_pay7]
  exact h3 j

/-- The convolution on a block. -/
def conB4 (A : ℕ → ℕ → ℕ → EReal) (Sc Of : ℕ → EReal) (KK : ℕ → ℕ → EReal) (B : ℕ → EReal) (j h w : ℕ) : EReal :=
  conv5 4 2 4 6 8 (KK j) (fun w => A j h w * Sc j + Of j) w + B j

include hs he ha h0 h1 h2 h3 h4 hb in
theorem pay4_1 (j : Fin 8) (h w : Fin 224) :
    k4_pay1 (k4_pay5 s e a) (k4_pay6 s e a k0 k1 k2) (k4_pay7 k3) k4 be (ix3 j h w) = conB4 A Sc Of KK B j h w := by
  pointwise [k4_pay1]
  simp only [pay4_5 a s e A Sc Of hs he ha, pay4_6 a s e k0 k1 k2 A Sc Of KK hs he ha h0 h1 h2, pay4_7 k3 KK h3, h4, hb]
  rfl

include hs he ha h0 h1 h2 h3 h4 hb in
theorem pay4_2 (y : S1x8x224x224.Idx) :
    k4_pay2 (k4_pay5 s e a) (k4_pay6 s e a k0 k1 k2) (k4_pay7 k3) k4 be y = conB4 A Sc Of KK B (y 1).val (y 2).val (y 3).val := by
  idx_vars y
  pointwise [k4_pay2]
  exact pay4_1 a s e k0 k1 k2 k3 k4 be A Sc Of KK B hs he ha h0 h1 h2 h3 h4 hb _ _ _

include hs he ha h0 h1 h2 h3 h4 hb in
theorem pay4_4 (acc : Vec Ideal S1x2x8 .f32) (y : S1x2x8.Idx) :
    k4_pay4 (k4_pay5 s e a) (k4_pay6 s e a k0 k1 k2) (k4_pay7 k3) k4 be acc y = acc y + ∑ h ∈ Finset.range 224, ∑ w ∈ Finset.range 224,
      pow1 (y 1).val (conB4 A Sc Of KK B (y 2).val h w) := by
  idx_vars y
  obtain rfl : y0 = 0 := Subsingleton.elim _ _
  pointwise [k4_pay4]
  simp only [pay4_1 a s e k0 k1 k2 k3 k4 be A Sc Of KK B hs he ha h0 h1 h2 h3 h4 hb, pow1]
  congr 1
  by_cases h : y1.val = 0
  · simp only [h, Nat.zero_lt_one, dite_true, if_true, Finset.sum_range]
  · have h' : ¬y1.val < 1 := by omega
    simp only [h, h', dite_false, if_false, Finset.sum_range]

end Pay

/-! ## The blocks and the arrays -/

variable (a : ℕ → ℕ → ℕ → ℕ → EReal) (ha : ∀ (b : Fin 4) (o : Fin 96) (h w : Fin 224), V c main_v56_0 (ix4 b o h w) = a b o h w)
  (sc of : ℕ → EReal) (hsc : ∀ (q : Fin 12) (j : Fin 8), V c main_v80 (ix3 q 0 j) = sc (q.val * 8 + j.val))
  (hof : ∀ (q : Fin 12) (j : Fin 8), V c main_v80 (ix3 q 1 j) = of (q.val * 8 + j.val))
  (k : ℕ → ℕ → EReal) (hk : ∀ (o : Fin 96) (t : Fin 5), V c main_v78 (ix2 o t) = k o t)
  (bs : ℕ → EReal) (hbs : ∀ (q : Fin 12) (j : Fin 8), V c main_v81 (ix3 q 0 j) = bs (q.val * 8 + j.val))

include ha in
theorem blk4_0 (t : Fin cfg4.N) (j : Fin 8) (h w : Fin 224) :
    iblk4 V c 0 t (ix4 0 j h w) = a (t.val % 4) (t.val / 4 * 8 + j) h w := by
  have ht : t.val < 48 := Nat.lt_of_lt_of_eq t.isLt N_4
  have := ha ⟨t.val % 4, by omega⟩ ⟨t.val / 4 * 8 + j, by omega⟩ h w
  rw [← this]
  blk_ext [iblk4, idx4_0 t]

include hsc in
theorem blk4_1 (t : Fin cfg4.N) (j : Fin 8) :
    View.ld (iblk4 V c 1 t) (Rect.unit (s := S1x2x8) ![0, 0, 0] S1x1x8.size inb_S1x2x8_S1x1x8_0_0_0) (ix3 0 0 j)
      = sc (t.val / 4 * 8 + j) := by
  have ht : t.val < 48 := Nat.lt_of_lt_of_eq t.isLt N_4
  have := hsc ⟨t.val / 4, by omega⟩ j
  have e : iblk4 V c 1 t (ix3 0 0 j) = sc (t.val / 4 * 8 + j) := by
    rw [← this]
    blk_ext [iblk4, idx4_1 t]
  rw [← e, ld1]

include hof in
theorem blk4_1' (t : Fin cfg4.N) (j : Fin 8) :
    View.ld (iblk4 V c 1 t) (Rect.unit (s := S1x2x8) ![0, 1, 0] S1x1x8.size inb_S1x2x8_S1x1x8_0_1_0) (ix3 0 0 j)
      = of (t.val / 4 * 8 + j) := by
  have ht : t.val < 48 := Nat.lt_of_lt_of_eq t.isLt N_4
  have := hof ⟨t.val / 4, by omega⟩ j
  have e : iblk4 V c 1 t (ix3 0 1 j) = of (t.val / 4 * 8 + j) := by
    rw [← this]
    blk_ext [iblk4, idx4_1 t]
  rw [← e, ld1']

include hk in
theorem blk4_2 (t : Fin cfg4.N) (j : Fin 8) (i : Fin 5) : iblk4 V c 2 t (ix2 j i) = k (t.val / 4 * 8 + j) i := by
  have ht : t.val < 48 := Nat.lt_of_lt_of_eq t.isLt N_4
  have := hk ⟨t.val / 4 * 8 + j, by omega⟩ i
  rw [← this]
  blk_ext [iblk4, idx4_2 t]

include hk in
theorem blk4_2_0 (t : Fin cfg4.N) (j : Fin 8) :
    View.ld (iblk4 V c 2 t) (Rect.unit (s := S8x5) ![0, 0] S8x1.size inb_S8x5_S8x1_0_0) (ix2 j 0)
      = k (t.val / 4 * 8 + j) 0 :=
  (ldw0 _ j).trans (blk4_2 V c k hk t j 0)

include hk in
theorem blk4_2_1 (t : Fin cfg4.N) (j : Fin 8) :
    View.ld (iblk4 V c 2 t) (Rect.unit (s := S8x5) ![0, 1] S8x1.size inb_S8x5_S8x1_0_1) (ix2 j 0)
      = k (t.val / 4 * 8 + j) 1 :=
  (ldw1 _ j).trans (blk4_2 V c k hk t j 1)

include hk in
theorem blk4_2_2 (t : Fin cfg4.N) (j : Fin 8) :
    View.ld (iblk4 V c 2 t) (Rect.unit (s := S8x5) ![0, 2] S8x1.size inb_S8x5_S8x1_0_2) (ix2 j 0)
      = k (t.val / 4 * 8 + j) 2 :=
  (ldw2 _ j).trans (blk4_2 V c k hk t j 2)

include hk in
theorem blk4_2_3 (t : Fin cfg4.N) (j : Fin 8) :
    View.ld (iblk4 V c 2 t) (Rect.unit (s := S8x5) ![0, 3] S8x1.size inb_S8x5_S8x1_0_3) (ix2 j 0)
      = k (t.val / 4 * 8 + j) 3 :=
  (ldw3 _ j).trans (blk4_2 V c k hk t j 3)

include hk in
theorem blk4_2_4 (t : Fin cfg4.N) (j : Fin 8) :
    View.ld (iblk4 V c 2 t) (Rect.unit (s := S8x5) ![0, 4] S8x1.size inb_S8x5_S8x1_0_4) (ix2 j 0)
      = k (t.val / 4 * 8 + j) 4 :=
  (ldw4 _ j).trans (blk4_2 V c k hk t j 4)

include hbs in
theorem blk4_3 (t : Fin cfg4.N) (j : Fin 8) : iblk4 V c 3 t (ix3 0 0 j) = bs (t.val / 4 * 8 + j) := by
  have ht : t.val < 48 := Nat.lt_of_lt_of_eq t.isLt N_4
  have := hbs ⟨t.val / 4, by omega⟩ j
  rw [← this]
  blk_ext [iblk4, idx4_3 t]

include ha hsc hof hk hbs in
/-- The convolution's array. -/
theorem r4_4 (b : Fin 4) (o : Fin 96) (h w : Fin 224) :
    (dat4 V c).arrAt 4 cfg4.N (ix4 b o h w) = convW2 k bs (affine a sc of) b o h w := by
  refine congrFun ((dat4 V c).arrAt_eq_of_covers 4
    (fun i => convW2 k bs (affine a sc of) (i 0).val (i 1).val (i 2).val (i 3).val) (by decide +kernel) ?_) (ix4 b o h w)
  intro t hf y
  blk_simp [idx4_4 t]
  rw [after4_4]
  have H : (outsAt4 V c t.val t.isLt).1 y = conB4 (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (y 1).val (y 2).val (y 3).val := by
    by_cases h : t.val % 4 = 0
    · rw [outsAt4_A V c t h]
      frame_out
      exact pay4_2 _ _ _ _ _ _ _ _ _ (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (blk4_1 V c sc hsc t) (blk4_1' V c of hof t) (blk4_0 V c a ha t) (blk4_2_0 V c k hk t) (blk4_2_1 V c k hk t) (blk4_2_2 V c k hk t) (blk4_2_3 V c k hk t) (blk4_2_4 V c k hk t) (blk4_3 V c bs hbs t) y
    · rw [outsAt4_B V c t h]; frame_out
      exact pay4_2 _ _ _ _ _ _ _ _ _ (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (blk4_1 V c sc hsc t) (blk4_1' V c of hof t) (blk4_0 V c a ha t) (blk4_2_0 V c k hk t) (blk4_2_1 V c k hk t) (blk4_2_2 V c k hk t) (blk4_2_3 V c k hk t) (blk4_2_4 V c k hk t) (blk4_3 V c bs hbs t) y
  rw [H]; rfl

include ha hsc hof hk hbs in
/-- The statistics' array: it starts over at each group of channels. -/
theorem r4_5 (q : Fin 12) (r : Fin 2) (j : Fin 8) :
    (dat4 V c).arrAt 5 cfg4.N (ix3 q r j) = stat4 (convW2 k bs (affine a sc of)) r (q.val * 8 + j.val) := by
  refine congrFun ((dat4 V c).arrAt_eq_of_covers 5
    (fun i => stat4 (convW2 k bs (affine a sc of)) (i 1).val ((i 0).val * 8 + (i 2).val)) (by decide +kernel) ?_) (ix3 q r j)
  intro t hf y
  have hr := (flush4_5 t).mp hf
  blk_simp [idx4_5 t]
  rw [after4_5]
  have H := Pipeline.eq_sum_of_reset_step_apply_divmod (M := EReal) (fun n h => (outsAt4 V c n h).2) 4 (fun _ => 0)
    (fun q p y => ∑ h ∈ Finset.range 224, ∑ w ∈ Finset.range 224,
      pow1 (y 1).val (convW2 k bs (affine a sc of) p (q * 8 + (y 2).val) h w)) ?_ ?_ t y
  · rw [H, hr, zero_add]; rfl
  · intro t h y
    rw [outsAt4_A V c t h]; frame_out
    refine (pay4_4 _ _ _ _ _ _ _ _ _ (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (blk4_1 V c sc hsc t) (blk4_1' V c of hof t) (blk4_0 V c a ha t) (blk4_2_0 V c k hk t) (blk4_2_1 V c k hk t) (blk4_2_2 V c k hk t) (blk4_2_3 V c k hk t) (blk4_2_4 V c k hk t) (blk4_3 V c bs hbs t) _ _).trans ?_
    pointwise [k4_pay3]
    rfl
  · intro t h y
    rw [outsAt4_B V c t h]; frame_out
    exact pay4_4 _ _ _ _ _ _ _ _ _ (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (blk4_1 V c sc hsc t) (blk4_1' V c of hof t) (blk4_0 V c a ha t) (blk4_2_0 V c k hk t) (blk4_2_1 V c k hk t) (blk4_2_2 V c k hk t) (blk4_2_3 V c k hk t) (blk4_2_4 V c k hk t) (blk4_3 V c bs hbs t) _ _

end Cert.KVal
-- ==== Proof.K5.lean ====
/-
  The sixth call of the kernel, read as values: the depthwise convolution along a column at distance 2 of the scaled and
  shifted input, and the sums of each channel of its result and of its squares.
-/
module

public import proofs.«01_k».proof.Proof.Gen.KernelIdeal.Frame.Region5
public import proofs.«01_k».proof.Proof.Loads

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx5_0 (t : Fin cfg5.N) : win5_0.index t = ![t.val % 4, t.val / 4, 0, 0] :=
  (by decide +kernel : ∀ t : Fin grid5.N, win5_0.index t = ![t.val % 4, t.val / 4, 0, 0]) t
theorem idx5_1 (t : Fin cfg5.N) : win5_1.index t = ![t.val / 4, 0, 0] :=
  (by decide +kernel : ∀ t : Fin grid5.N, win5_1.index t = ![t.val / 4, 0, 0]) t
theorem idx5_2 (t : Fin cfg5.N) : win5_2.index t = ![t.val / 4, 0] :=
  (by decide +kernel : ∀ t : Fin grid5.N, win5_2.index t = ![t.val / 4, 0]) t
theorem idx5_3 (t : Fin cfg5.N) : win5_3.index t = ![t.val / 4, 0, 0] :=
  (by decide +kernel : ∀ t : Fin grid5.N, win5_3.index t = ![t.val / 4, 0, 0]) t
theorem idx5_4 (t : Fin cfg5.N) : win5_4.index t = ![t.val % 4, t.val / 4, 0, 0] :=
  (by decide +kernel : ∀ t : Fin grid5.N, win5_4.index t = ![t.val % 4, t.val / 4, 0, 0]) t
theorem idx5_5 (t : Fin cfg5.N) : win5_5.index t = ![t.val / 4, 0, 0] :=
  (by decide +kernel : ∀ t : Fin grid5.N, win5_5.index t = ![t.val / 4, 0, 0]) t

/-! ## The body's values at an index, the blocks given as functions -/

section Pay
variable (a : Vec Ideal S1x8x224x224 .f32) (s e : Vec Ideal S1x1x8 .f32) (k0 k1 k2 k3 k4 : Vec Ideal S8x1 .f32)
  (be : Vec Ideal S1x1x8 .f32) (A : ℕ → ℕ → ℕ → EReal) (Sc Of : ℕ → EReal) (KK : ℕ → ℕ → EReal) (B : ℕ → EReal)
  (hs : ∀ j : Fin 8, s (ix3 0 0 j) = Sc j) (he : ∀ j : Fin 8, e (ix3 0 0 j) = Of j)
  (ha : ∀ (j : Fin 8) (h w : Fin 224), a (ix4 0 j h w) = A j h w)
  (h0 : ∀ j : Fin 8, k0 (ix2 j 0) = KK j 0) (h1 : ∀ j : Fin 8, k1 (ix2 j 0) = KK j 1)
  (h2 : ∀ j : Fin 8, k2 (ix2 j 0) = KK j 2) (h3 : ∀ j : Fin 8, k3 (ix2 j 0) = KK j 3)
  (h4 : ∀ j : Fin 8, k4 (ix2 j 0) = KK j 4) (hb : ∀ j : Fin 8, be (ix3 0 0 j) = B j)

include hs he ha in
theorem pay5_5 (j : Fin 8) (h : Fin 232) (w : Fin 224) : k5_pay5 s e a (ix3 j h w)
    = padAt 4 (fun h => A j h w * Sc j + Of j) h := by
  pointwise [k5_pay5]
  unfold padAt
  by_cases hlt : h.val < 4
  · simp only [hlt, dite_true, if_true]
  · by_cases hm : h.val - 4 < 224
    · simp only [hlt, hm, dite_false, dite_true, if_false, if_true, ha, hs, he]
    · simp only [hlt, hm, dite_false, if_false]

include hs he ha h0 h1 h2 in
theorem pay5_6 (j : Fin 8) (h w : Fin 224) : k5_pay6 s e a k0 k1 k2 (ix3 j h w)
    = KK j 0 * padAt 4 (fun h => A j h w * Sc j + Of j) h + KK j 1 * padAt 4 (fun h => A j h w * Sc j + Of j) (2 + h)
      + KK j 2 * padAt 4 (fun h => A j h w * Sc j + Of j) (4 + h) := by
  pointwise [k5_pay6]
  simp only [pay5_5 a s e A Sc Of hs he ha, h0, h1, h2]

include h3 in
theorem pay5_7 (j : Fin 8) : k5_pay7 k3 (ix1 j) = KK j 3 := by
  pointwise [k5_pay7]
  exact h3 j

/-- The convolution on a block. -/
def conB5 (A : ℕ → ℕ → ℕ → EReal) (Sc Of : ℕ → EReal) (KK : ℕ → ℕ → EReal) (B : ℕ → EReal) (j h w : ℕ) : EReal :=
  conv5 4 2 4 6 8 (KK j) (fun h => A j h w * Sc j + Of j) h + B j

include hs he ha h0 h1 h2 h3 h4 hb in
theorem pay5_1 (j : Fin 8) (h w : Fin 224) :
    k5_pay1 (k5_pay5 s e a) (k5_pay6 s e a k0 k1 k2) (k5_pay7 k3) k4 be (ix3 j h w) = conB5 A Sc Of KK B j h w := by
  pointwise [k5_pay1]
  simp only [pay5_5 a s e A Sc Of hs he ha, pay5_6 a s e k0 k1 k2 A Sc Of KK hs he ha h0 h1 h2, pay5_7 k3 KK h3, h4, hb]
  rfl

include hs he ha h0 h1 h2 h3 h4 hb in
theorem pay5_2 (y : S1x8x224x224.Idx) :
    k5_pay2 (k5_pay5 s e a) (k5_pay6 s e a k0 k1 k2) (k5_pay7 k3) k4 be y = conB5 A Sc Of KK B (y 1).val (y 2).val (y 3).val := by
  idx_vars y
  pointwise [k5_pay2]
  exact pay5_1 a s e k0 k1 k2 k3 k4 be A Sc Of KK B hs he ha h0 h1 h2 h3 h4 hb _ _ _

include hs he ha h0 h1 h2 h3 h4 hb in
theorem pay5_4 (acc : Vec Ideal S1x2x8 .f32) (y : S1x2x8.Idx) :
    k5_pay4 (k5_pay5 s e a) (k5_pay6 s e a k0 k1 k2) (k5_pay7 k3) k4 be acc y = acc y + ∑ h ∈ Finset.range 224, ∑ w ∈ Finset.range 224,
      pow1 (y 1).val (conB5 A Sc Of KK B (y 2).val h w) := by
  idx_vars y
  obtain rfl : y0 = 0 := Subsingleton.elim _ _
  pointwise [k5_pay4]
  simp only [pay5_1 a s e k0 k1 k2 k3 k4 be A Sc Of KK B hs he ha h0 h1 h2 h3 h4 hb, pow1]
  congr 1
  by_cases h : y1.val = 0
  · simp only [h, Nat.zero_lt_one, dite_true, if_true, Finset.sum_range]
  · have h' : ¬y1.val < 1 := by omega
    simp only [h, h', dite_false, if_false, Finset.sum_range]

end Pay

/-! ## The blocks and the arrays -/

variable (a : ℕ → ℕ → ℕ → ℕ → EReal) (ha : ∀ (b : Fin 4) (o : Fin 96) (h w : Fin 224), V c main_v82_0 (ix4 b o h w) = a b o h w)
  (sc of : ℕ → EReal) (hsc : ∀ (q : Fin 12) (j : Fin 8), V c main_v106 (ix3 q 0 j) = sc (q.val * 8 + j.val))
  (hof : ∀ (q : Fin 12) (j : Fin 8), V c main_v106 (ix3 q 1 j) = of (q.val * 8 + j.val))
  (k : ℕ → ℕ → EReal) (hk : ∀ (o : Fin 96) (t : Fin 5), V c main_v104 (ix2 o t) = k o t)
  (bs : ℕ → EReal) (hbs : ∀ (q : Fin 12) (j : Fin 8), V c main_v107 (ix3 q 0 j) = bs (q.val * 8 + j.val))

include ha in
theorem blk5_0 (t : Fin cfg5.N) (j : Fin 8) (h w : Fin 224) :
    iblk5 V c 0 t (ix4 0 j h w) = a (t.val % 4) (t.val / 4 * 8 + j) h w := by
  have ht : t.val < 48 := Nat.lt_of_lt_of_eq t.isLt N_5
  have := ha ⟨t.val % 4, by omega⟩ ⟨t.val / 4 * 8 + j, by omega⟩ h w
  rw [← this]
  blk_ext [iblk5, idx5_0 t]

include hsc in
theorem blk5_1 (t : Fin cfg5.N) (j : Fin 8) :
    View.ld (iblk5 V c 1 t) (Rect.unit (s := S1x2x8) ![0, 0, 0] S1x1x8.size inb_S1x2x8_S1x1x8_0_0_0) (ix3 0 0 j)
      = sc (t.val / 4 * 8 + j) := by
  have ht : t.val < 48 := Nat.lt_of_lt_of_eq t.isLt N_5
  have := hsc ⟨t.val / 4, by omega⟩ j
  have e : iblk5 V c 1 t (ix3 0 0 j) = sc (t.val / 4 * 8 + j) := by
    rw [← this]
    blk_ext [iblk5, idx5_1 t]
  rw [← e, ld1]

include hof in
theorem blk5_1' (t : Fin cfg5.N) (j : Fin 8) :
    View.ld (iblk5 V c 1 t) (Rect.unit (s := S1x2x8) ![0, 1, 0] S1x1x8.size inb_S1x2x8_S1x1x8_0_1_0) (ix3 0 0 j)
      = of (t.val / 4 * 8 + j) := by
  have ht : t.val < 48 := Nat.lt_of_lt_of_eq t.isLt N_5
  have := hof ⟨t.val / 4, by omega⟩ j
  have e : iblk5 V c 1 t (ix3 0 1 j) = of (t.val / 4 * 8 + j) := by
    rw [← this]
    blk_ext [iblk5, idx5_1 t]
  rw [← e, ld1']

include hk in
theorem blk5_2 (t : Fin cfg5.N) (j : Fin 8) (i : Fin 5) : iblk5 V c 2 t (ix2 j i) = k (t.val / 4 * 8 + j) i := by
  have ht : t.val < 48 := Nat.lt_of_lt_of_eq t.isLt N_5
  have := hk ⟨t.val / 4 * 8 + j, by omega⟩ i
  rw [← this]
  blk_ext [iblk5, idx5_2 t]

include hk in
theorem blk5_2_0 (t : Fin cfg5.N) (j : Fin 8) :
    View.ld (iblk5 V c 2 t) (Rect.unit (s := S8x5) ![0, 0] S8x1.size inb_S8x5_S8x1_0_0) (ix2 j 0)
      = k (t.val / 4 * 8 + j) 0 :=
  (ldw0 _ j).trans (blk5_2 V c k hk t j 0)

include hk in
theorem blk5_2_1 (t : Fin cfg5.N) (j : Fin 8) :
    View.ld (iblk5 V c 2 t) (Rect.unit (s := S8x5) ![0, 1] S8x1.size inb_S8x5_S8x1_0_1) (ix2 j 0)
      = k (t.val / 4 * 8 + j) 1 :=
  (ldw1 _ j).trans (blk5_2 V c k hk t j 1)

include hk in
theorem blk5_2_2 (t : Fin cfg5.N) (j : Fin 8) :
    View.ld (iblk5 V c 2 t) (Rect.unit (s := S8x5) ![0, 2] S8x1.size inb_S8x5_S8x1_0_2) (ix2 j 0)
      = k (t.val / 4 * 8 + j) 2 :=
  (ldw2 _ j).trans (blk5_2 V c k hk t j 2)

include hk in
theorem blk5_2_3 (t : Fin cfg5.N) (j : Fin 8) :
    View.ld (iblk5 V c 2 t) (Rect.unit (s := S8x5) ![0, 3] S8x1.size inb_S8x5_S8x1_0_3) (ix2 j 0)
      = k (t.val / 4 * 8 + j) 3 :=
  (ldw3 _ j).trans (blk5_2 V c k hk t j 3)

include hk in
theorem blk5_2_4 (t : Fin cfg5.N) (j : Fin 8) :
    View.ld (iblk5 V c 2 t) (Rect.unit (s := S8x5) ![0, 4] S8x1.size inb_S8x5_S8x1_0_4) (ix2 j 0)
      = k (t.val / 4 * 8 + j) 4 :=
  (ldw4 _ j).trans (blk5_2 V c k hk t j 4)

include hbs in
theorem blk5_3 (t : Fin cfg5.N) (j : Fin 8) : iblk5 V c 3 t (ix3 0 0 j) = bs (t.val / 4 * 8 + j) := by
  have ht : t.val < 48 := Nat.lt_of_lt_of_eq t.isLt N_5
  have := hbs ⟨t.val / 4, by omega⟩ j
  rw [← this]
  blk_ext [iblk5, idx5_3 t]

include ha hsc hof hk hbs in
/-- The convolution's array. -/
theorem r5_4 (b : Fin 4) (o : Fin 96) (h w : Fin 224) :
    (dat5 V c).arrAt 4 cfg5.N (ix4 b o h w) = convH2 k bs (affine a sc of) b o h w := by
  refine congrFun ((dat5 V c).arrAt_eq_of_covers 4
    (fun i => convH2 k bs (affine a sc of) (i 0).val (i 1).val (i 2).val (i 3).val) (by decide +kernel) ?_) (ix4 b o h w)
  intro t hf y
  blk_simp [idx5_4 t]
  rw [after5_4]
  have H : (outsAt5 V c t.val t.isLt).1 y = conB5 (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (y 1).val (y 2).val (y 3).val := by
    by_cases h : t.val % 4 = 0
    · rw [outsAt5_A V c t h]
      frame_out
      exact pay5_2 _ _ _ _ _ _ _ _ _ (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (blk5_1 V c sc hsc t) (blk5_1' V c of hof t) (blk5_0 V c a ha t) (blk5_2_0 V c k hk t) (blk5_2_1 V c k hk t) (blk5_2_2 V c k hk t) (blk5_2_3 V c k hk t) (blk5_2_4 V c k hk t) (blk5_3 V c bs hbs t) y
    · rw [outsAt5_B V c t h]; frame_out
      exact pay5_2 _ _ _ _ _ _ _ _ _ (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (blk5_1 V c sc hsc t) (blk5_1' V c of hof t) (blk5_0 V c a ha t) (blk5_2_0 V c k hk t) (blk5_2_1 V c k hk t) (blk5_2_2 V c k hk t) (blk5_2_3 V c k hk t) (blk5_2_4 V c k hk t) (blk5_3 V c bs hbs t) y
  rw [H]; rfl

include ha hsc hof hk hbs in
/-- The statistics' array: it starts over at each group of channels. -/
theorem r5_5 (q : Fin 12) (r : Fin 2) (j : Fin 8) :
    (dat5 V c).arrAt 5 cfg5.N (ix3 q r j) = stat4 (convH2 k bs (affine a sc of)) r (q.val * 8 + j.val) := by
  refine congrFun ((dat5 V c).arrAt_eq_of_covers 5
    (fun i => stat4 (convH2 k bs (affine a sc of)) (i 1).val ((i 0).val * 8 + (i 2).val)) (by decide +kernel) ?_) (ix3 q r j)
  intro t hf y
  have hr := (flush5_5 t).mp hf
  blk_simp [idx5_5 t]
  rw [after5_5]
  have H := Pipeline.eq_sum_of_reset_step_apply_divmod (M := EReal) (fun n h => (outsAt5 V c n h).2) 4 (fun _ => 0)
    (fun q p y => ∑ h ∈ Finset.range 224, ∑ w ∈ Finset.range 224,
      pow1 (y 1).val (convH2 k bs (affine a sc of) p (q * 8 + (y 2).val) h w)) ?_ ?_ t y
  · rw [H, hr, zero_add]; rfl
  · intro t h y
    rw [outsAt5_A V c t h]; frame_out
    refine (pay5_4 _ _ _ _ _ _ _ _ _ (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (blk5_1 V c sc hsc t) (blk5_1' V c of hof t) (blk5_0 V c a ha t) (blk5_2_0 V c k hk t) (blk5_2_1 V c k hk t) (blk5_2_2 V c k hk t) (blk5_2_3 V c k hk t) (blk5_2_4 V c k hk t) (blk5_3 V c bs hbs t) _ _).trans ?_
    pointwise [k5_pay3]
    rfl
  · intro t h y
    rw [outsAt5_B V c t h]; frame_out
    exact pay5_4 _ _ _ _ _ _ _ _ _ (fun j h w => a (t.val % 4) (t.val / 4 * 8 + j) h w) (fun j => sc (t.val / 4 * 8 + j)) (fun j => of (t.val / 4 * 8 + j)) (fun j i => k (t.val / 4 * 8 + j) i) (fun j => bs (t.val / 4 * 8 + j)) (blk5_1 V c sc hsc t) (blk5_1' V c of hof t) (blk5_0 V c a ha t) (blk5_2_0 V c k hk t) (blk5_2_1 V c k hk t) (blk5_2_2 V c k hk t) (blk5_2_3 V c k hk t) (blk5_2_4 V c k hk t) (blk5_3 V c bs hbs t) _ _

end Cert.KVal
-- ==== Proof.K6.lean ====
/-
  The seventh call of the kernel, read as values: the shares of every pixel in the bins, and their sums over each image.
-/
module

public import proofs.«01_k».proof.Proof.Gen.KernelIdeal.Frame.Region6
public import proofs.«01_k».proof.Proof.Spec

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx6_0 (t : Fin cfg6.N) : win6_0.index t = ![t.val / 8, 0, t.val % 8] :=
  (by decide +kernel : ∀ t : Fin grid6.N, win6_0.index t = ![t.val / 8, 0, t.val % 8]) t
theorem idx6_1 (t : Fin cfg6.N) : win6_1.index t = ![t.val / 8, 0, 0] :=
  (by decide +kernel : ∀ t : Fin grid6.N, win6_1.index t = ![t.val / 8, 0, 0]) t
theorem idx6_2 (t : Fin cfg6.N) : win6_2.index t = ![t.val / 8, t.val % 8, 0] :=
  (by decide +kernel : ∀ t : Fin grid6.N, win6_2.index t = ![t.val / 8, t.val % 8, 0]) t
theorem idx6_3 (t : Fin cfg6.N) : win6_3.index t = ![t.val / 8, 0, 0] :=
  (by decide +kernel : ∀ t : Fin grid6.N, win6_3.index t = ![t.val / 8, 0, 0]) t

section Pay
variable (s : Vec Ideal S1x1x6272 .f32) (l : Vec Ideal S1x1x10 .f32) (S : ℕ → EReal) (L : ℕ → EReal)
  (hs : ∀ k : Fin 6272, s (ix3 0 0 k) = S k) (hl : ∀ m : Fin 10, l (ix3 0 0 m) = L m)

include hs hl in
theorem pay6_1 (k : Fin 6272) (m : Fin 10) : k6_pay1 s l (ix2 k m) = bin (L m) (S k) := by
  pointwise [k6_pay1]
  simp only [hs, hl]
  rfl

include hs hl in
theorem pay6_2 (y : S1x6272x10.Idx) : k6_pay2 s l y = bin (L (y 2).val) (S (y 1).val) := by
  idx_vars y
  pointwise [k6_pay2]
  exact pay6_1 s l S L hs hl _ _

include hs hl in
theorem pay6_4 (acc : Vec Ideal S1x1x10 .f32) (y : S1x1x10.Idx) :
    k6_pay4 s l acc y = acc y + ∑ k ∈ Finset.range 6272, bin (L (y 2).val) (S k) := by
  idx_vars y
  obtain rfl : y0 = 0 := Subsingleton.elim _ _
  obtain rfl : y1 = 0 := Subsingleton.elim _ _
  pointwise [k6_pay4]
  simp only [pay6_1 s l S L hs hl, Finset.sum_range]

end Pay

variable (s : ℕ → ℕ → EReal) (hs : ∀ (i : Fin 4) (u : Fin 1) (n : Fin 50176), V c main_v3_1 (ix3 i u n) = s i n)
  (l : ℕ → ℕ → EReal) (hl : ∀ (i : Fin 4) (u : Fin 1) (m : Fin 10), V c main_v142 (ix3 i u m) = l i m)

include hs in
theorem blk6_0 (t : Fin cfg6.N) (k : Fin 6272) : iblk6 V c 0 t (ix3 0 0 k) = s (t.val / 8) (t.val % 8 * 6272 + k) := by
  have ht : t.val < 32 := Nat.lt_of_lt_of_eq t.isLt N_6
  have := hs ⟨t.val / 8, by omega⟩ 0 ⟨t.val % 8 * 6272 + k, by omega⟩
  rw [← this]
  blk_ext [iblk6, idx6_0 t]

include hl in
theorem blk6_1 (t : Fin cfg6.N) (m : Fin 10) : iblk6 V c 1 t (ix3 0 0 m) = l (t.val / 8) m := by
  have ht : t.val < 32 := Nat.lt_of_lt_of_eq t.isLt N_6
  have := hl ⟨t.val / 8, by omega⟩ 0 m
  rw [← this]
  blk_ext [iblk6, idx6_1 t]

include hs hl in
/-- The array of the shares. -/
theorem r6_2 (b : Fin 4) (n : Fin 50176) (m : Fin 10) :
    (dat6 V c).arrAt 2 cfg6.N (ix3 b n m) = bin (l b m) (s b n) := by
  refine congrFun ((dat6 V c).arrAt_eq_of_covers 2
    (fun i => bin (l (i 0).val (i 2).val) (s (i 0).val (i 1).val)) (by decide +kernel) ?_) (ix3 b n m)
  intro t hf y
  blk_simp [idx6_2 t]
  rw [after6_2]
  have H : (outsAt6 V c t.val t.isLt).1 y = bin (l (t.val / 8) (y 2).val) (s (t.val / 8) (t.val % 8 * 6272 + (y 1).val)) := by
    by_cases h : t.val % 8 = 0
    · rw [outsAt6_A V c t h]; frame_out
      exact pay6_2 _ _ (fun k => s (t.val / 8) (t.val % 8 * 6272 + k)) (l (t.val / 8)) (blk6_0 V c s hs t) (blk6_1 V c l hl t) y
    · rw [outsAt6_B V c t h]; frame_out
      exact pay6_2 _ _ (fun k => s (t.val / 8) (t.val % 8 * 6272 + k)) (l (t.val / 8)) (blk6_0 V c s hs t) (blk6_1 V c l hl t) y
  rw [H]

include hs hl in
/-- The array of the sums. -/
theorem r6_3 (b : Fin 4) (u : Fin 1) (m : Fin 10) :
    (dat6 V c).arrAt 3 cfg6.N (ix3 b u m) = rowSum (fun b m n => bin (l b m) (s b n)) b m := by
  refine congrFun ((dat6 V c).arrAt_eq_of_covers 3
    (fun i => rowSum (fun b m n => bin (l b m) (s b n)) (i 0).val (i 2).val) (by decide +kernel) ?_) (ix3 b u m)
  intro t hf y
  have hr := (flush6_3 t).mp hf
  blk_simp [idx6_3 t]
  rw [after6_3]
  have H := Pipeline.eq_sum_of_reset_step_apply_divmod (M := EReal) (fun n h => (outsAt6 V c n h).2) 8 (fun _ => 0)
    (fun q p y => ∑ k ∈ Finset.range 6272, bin (l q (y 2).val) (s q (p * 6272 + k))) ?_ ?_ t y
  · rw [H, hr, zero_add, Finset.sum_range_range_mul_add 8 6272 (fun n => bin (l (t.val / 8) (y 2).val) (s (t.val / 8) n))]; rfl
  · intro t h y
    rw [outsAt6_A V c t h]; frame_out
    refine (pay6_4 _ _ (fun k => s (t.val / 8) (t.val % 8 * 6272 + k)) (l (t.val / 8)) (blk6_0 V c s hs t) (blk6_1 V c l hl t) _ _).trans ?_
    pointwise [k6_pay3]
  · intro t h y
    rw [outsAt6_B V c t h]; frame_out
    exact pay6_4 _ _ (fun k => s (t.val / 8) (t.val % 8 * 6272 + k)) (l (t.val / 8)) (blk6_0 V c s hs t) (blk6_1 V c l hl t) _ _

end Cert.KVal
-- ==== Proof.K7.lean ====
/-
  The eighth call of the kernel, read as values: the products of the rows of each image's bins and the sums of the rows.
-/
module

public import proofs.«01_k».proof.Proof.Gen.KernelIdeal.Frame.Region7
public import proofs.«01_k».proof.Proof.Spec

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx7_0 (t : Fin cfg7.N) : win7_0.index t = ![t.val / 8, 0, t.val % 8] :=
  (by decide +kernel : ∀ t : Fin grid7.N, win7_0.index t = ![t.val / 8, 0, t.val % 8]) t
theorem idx7_1 (t : Fin cfg7.N) : win7_1.index t = ![t.val / 8, 0, 0] :=
  (by decide +kernel : ∀ t : Fin grid7.N, win7_1.index t = ![t.val / 8, 0, 0]) t
theorem idx7_2 (t : Fin cfg7.N) : win7_2.index t = ![t.val / 8, 0, 0] :=
  (by decide +kernel : ∀ t : Fin grid7.N, win7_2.index t = ![t.val / 8, 0, 0]) t

section Pay
variable (v : Vec Ideal S1x10x6272 .f32) (U : ℕ → ℕ → EReal) (hv : ∀ (i : Fin 10) (k : Fin 6272), v (ix3 0 i k) = U i k)

include hv in
theorem pay7_4 (acc : Vec Ideal S1x10x10 .f32) (y : S1x10x10.Idx) :
    k7_pay4 v acc y = acc y + ∑ k ∈ Finset.range 6272, U (y 1).val k * U (y 2).val k := by
  idx_vars y
  obtain rfl : y0 = 0 := Subsingleton.elim _ _
  pointwise [k7_pay4, k7_pay1]
  simp only [hv, Finset.sum_range]

include hv in
theorem pay7_5 (acc : Vec Ideal S1x1x10 .f32) (y : S1x1x10.Idx) :
    k7_pay5 v acc y = acc y + ∑ k ∈ Finset.range 6272, U (y 2).val k := by
  idx_vars y
  obtain rfl : y0 = 0 := Subsingleton.elim _ _
  obtain rfl : y1 = 0 := Subsingleton.elim _ _
  pointwise [k7_pay5, k7_pay1]
  simp only [hv, Finset.sum_range]

end Pay

variable (u : ℕ → ℕ → ℕ → EReal) (hu : ∀ (b : Fin 4) (i : Fin 10) (n : Fin 50176), V c main_v144 (ix3 b i n) = u b i n)

include hu in
theorem blk7_0 (t : Fin cfg7.N) (i : Fin 10) (k : Fin 6272) :
    iblk7 V c 0 t (ix3 0 i k) = u (t.val / 8) i (t.val % 8 * 6272 + k) := by
  have ht : t.val < 32 := Nat.lt_of_lt_of_eq t.isLt N_7
  have := hu ⟨t.val / 8, by omega⟩ i ⟨t.val % 8 * 6272 + k, by omega⟩
  rw [← this]
  blk_ext [iblk7, idx7_0 t]

include hu in
/-- The array of the products. -/
theorem r7_1 (b : Fin 4) (i j : Fin 10) : (dat7 V c).arrAt 1 cfg7.N (ix3 b i j) = gram u b i j := by
  refine congrFun ((dat7 V c).arrAt_eq_of_covers 1
    (fun i => gram u (i 0).val (i 1).val (i 2).val) (by decide +kernel) ?_) (ix3 b i j)
  intro t hf y
  have hr := (flush7_1 t).mp hf
  blk_simp [idx7_1 t]
  rw [after7_1]
  have H := Pipeline.eq_sum_of_reset_step_apply_divmod (M := EReal) (fun n h => (outsAt7 V c n h).1) 8 (fun _ => 0)
    (fun q p y => ∑ k ∈ Finset.range 6272, u q (y 1).val (p * 6272 + k) * u q (y 2).val (p * 6272 + k)) ?_ ?_ t y
  · rw [H, hr, zero_add, Finset.sum_range_range_mul_add 8 6272 (fun n => u (t.val / 8) (y 1).val n * u (t.val / 8) (y 2).val n)]; rfl
  · intro t h y
    rw [outsAt7_A V c t h]; frame_out
    refine (pay7_4 _ (fun i k => u (t.val / 8) i (t.val % 8 * 6272 + k)) (blk7_0 V c u hu t) _ _).trans ?_
    pointwise [k7_pay2]
  · intro t h y
    rw [outsAt7_B V c t h]; frame_out
    exact pay7_4 _ (fun i k => u (t.val / 8) i (t.val % 8 * 6272 + k)) (blk7_0 V c u hu t) _ _

include hu in
/-- The array of the sums. -/
theorem r7_2 (b : Fin 4) (v : Fin 1) (i : Fin 10) : (dat7 V c).arrAt 2 cfg7.N (ix3 b v i) = rowSum u b i := by
  refine congrFun ((dat7 V c).arrAt_eq_of_covers 2
    (fun i => rowSum u (i 0).val (i 2).val) (by decide +kernel) ?_) (ix3 b v i)
  intro t hf y
  have hr := (flush7_2 t).mp hf
  blk_simp [idx7_2 t]
  rw [after7_2]
  have H := Pipeline.eq_sum_of_reset_step_apply_divmod (M := EReal) (fun n h => (outsAt7 V c n h).2) 8 (fun _ => 0)
    (fun q p y => ∑ k ∈ Finset.range 6272, u q (y 2).val (p * 6272 + k)) ?_ ?_ t y
  · rw [H, hr, zero_add, Finset.sum_range_range_mul_add 8 6272 (fun n => u (t.val / 8) (y 2).val n)]; rfl
  · intro t h y
    rw [outsAt7_A V c t h]; frame_out
    refine (pay7_5 _ (fun i k => u (t.val / 8) i (t.val % 8 * 6272 + k)) (blk7_0 V c u hu t) _ _).trans ?_
    pointwise [k7_pay3]
  · intro t h y
    rw [outsAt7_B V c t h]; frame_out
    exact pay7_5 _ (fun i k => u (t.val / 8) i (t.val % 8 * 6272 + k)) (blk7_0 V c u hu t) _ _

end Cert.KVal
-- ==== Proof.K8.lean ====
/-
  The ninth call of the kernel, read as values: the fully connected layer on the pairs of share and level.
-/
module

public import proofs.«01_k».proof.Proof.Gen.KernelIdeal.Frame.Region8
public import proofs.«01_k».proof.Proof.Spec

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx8_0 (t : Fin cfg8.N) : win8_0.index t = ![0, 0] :=
  (by decide +kernel : ∀ t : Fin grid8.N, win8_0.index t = ![0, 0]) t
theorem idx8_1 (t : Fin cfg8.N) : win8_1.index t = ![0, 0] :=
  (by decide +kernel : ∀ t : Fin grid8.N, win8_1.index t = ![0, 0]) t
theorem idx8_2 (t : Fin cfg8.N) : win8_2.index t = ![0, 0] :=
  (by decide +kernel : ∀ t : Fin grid8.N, win8_2.index t = ![0, 0]) t
theorem idx8_3 (t : Fin cfg8.N) : win8_3.index t = ![0, 0] :=
  (by decide +kernel : ∀ t : Fin grid8.N, win8_3.index t = ![0, 0]) t

section Pay
variable (c0 c1 : Vec Ideal S40x1 .f32) (w0 w1 bf : Vec Ideal S1x96 .f32)

theorem pay8_1 (y : S40x96.Idx) : k8_pay1 c0 c1 w0 w1 bf y
    = (c0 (ix2 (y 0) 0) * w0 (ix2 0 (y 1)) : EReal) + c1 (ix2 (y 0) 0) * w1 (ix2 0 (y 1)) + bf (ix2 0 (y 1)) := by
  idx_vars y
  pointwise [k8_pay1]

end Pay

variable (ch : ℕ → ℕ → EReal) (hch : ∀ (r : Fin 40) (q : Fin 2), V c main_v154 (ix2 r q) = ch r q)
  (wf : ℕ → ℕ → EReal) (hwf : ∀ (q : Fin 2) (o : Fin 96), V c main_v155 (ix2 q o) = wf q o)
  (bf : ℕ → EReal) (hbf : ∀ (u : Fin 1) (o : Fin 96), V c main_v156 (ix2 u o) = bf o)

include hch in
theorem blk8_0 (t : Fin cfg8.N) (r : Fin 40) (q : Fin 2) : iblk8 V c 0 t (ix2 r q) = ch r q := by
  rw [← hch r q]
  blk_ext [iblk8, idx8_0 t]

include hwf in
theorem blk8_1 (t : Fin cfg8.N) (q : Fin 2) (o : Fin 96) : iblk8 V c 1 t (ix2 q o) = wf q o := by
  rw [← hwf q o]
  blk_ext [iblk8, idx8_1 t]

include hbf in
theorem blk8_2 (t : Fin cfg8.N) (o : Fin 96) : iblk8 V c 2 t (ix2 0 o) = bf o := by
  rw [← hbf 0 o]
  blk_ext [iblk8, idx8_2 t]

include hch hwf hbf in
/-- The layer's array. -/
theorem arr8_3 (r : Fin 40) (o : Fin 96) : (dat8 V c).arrAt 3 cfg8.N (ix2 r o) = fc ch wf bf r o := by
  refine congrFun ((dat8 V c).arrAt_eq_of_covers 3
    (fun i => fc ch wf bf (i 0).val (i 1).val) (by decide +kernel) ?_) (ix2 r o)
  intro t hf y
  blk_simp [idx8_3 t]
  rw [after8_3]
  frame_out
  refine (pay8_1 _ _ _ _ _ y).trans ?_
  idx_vars y
  pointwise
  simp only [blk8_0 V c ch hch t, blk8_1 V c wf hwf t, blk8_2 V c bf hbf t]
  rfl

end Cert.KVal
-- ==== Proof.K9.lean ====
/-
  The tenth call of the kernel, read as values: each image's texture coefficients, scaled by the batch normalisation
  whose sums they give through the rows' sums and products.
-/
module

public import proofs.«01_k».proof.Proof.Gen.KernelIdeal.Frame.Region9
public import proofs.«01_k».proof.Proof.Spec

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx9_0 (t : Fin cfg9.N) : win9_0.index t = ![0, 0, 0] :=
  (by decide +kernel : ∀ t : Fin grid9.N, win9_0.index t = ![0, 0, 0]) t
theorem idx9_1 (t : Fin cfg9.N) : win9_1.index t = ![0, 0] :=
  (by decide +kernel : ∀ t : Fin grid9.N, win9_1.index t = ![0, 0]) t
theorem idx9_2 (t : Fin cfg9.N) : win9_2.index t = ![0, 0] :=
  (by decide +kernel : ∀ t : Fin grid9.N, win9_2.index t = ![0, 0]) t
theorem idx9_3 (t : Fin cfg9.N) : win9_3.index t = ![0, 0] :=
  (by decide +kernel : ∀ t : Fin grid9.N, win9_3.index t = ![0, 0]) t
theorem idx9_4 (t : Fin cfg9.N) : win9_4.index t = ![0, 0] :=
  (by decide +kernel : ∀ t : Fin grid9.N, win9_4.index t = ![0, 0]) t
theorem idx9_5 (t : Fin cfg9.N) : win9_5.index t = ![0, 0] :=
  (by decide +kernel : ∀ t : Fin grid9.N, win9_5.index t = ![0, 0]) t
theorem idx9_6 (t : Fin cfg9.N) : win9_6.index t = ![0, 0, 0] :=
  (by decide +kernel : ∀ t : Fin grid9.N, win9_6.index t = ![0, 0, 0]) t
theorem idx9_7 (t : Fin cfg9.N) : win9_7.index t = ![0, 0] :=
  (by decide +kernel : ∀ t : Fin grid9.N, win9_7.index t = ![0, 0]) t
theorem idx9_8 (t : Fin cfg9.N) : win9_8.index t = ![0, 0, 0] :=
  (by decide +kernel : ∀ t : Fin grid9.N, win9_8.index t = ![0, 0, 0]) t
theorem idx9_9 (t : Fin cfg9.N) : win9_9.index t = ![0, 0] :=
  (by decide +kernel : ∀ t : Fin grid9.N, win9_9.index t = ![0, 0]) t

/-! ## One image -/

section Tex
variable (cb : Vec Ideal S1x96x10 .f32) (w1 w2 w3 : Vec Ideal S96x96 .f32) (b1 b2 b3 : Vec Ideal S1x96 .f32)
  (CH W1 W2 W3 : ℕ → ℕ → EReal) (B1 B2 B3 : ℕ → EReal)
  (hc : ∀ (o : Fin 96) (m : Fin 10), cb (ix3 0 o m) = CH o m)
  (hw1 : ∀ o i : Fin 96, w1 (ix2 o i) = W1 o i) (hw2 : ∀ o i : Fin 96, w2 (ix2 o i) = W2 o i)
  (hw3 : ∀ o i : Fin 96, w3 (ix2 o i) = W3 o i) (hb1 : ∀ o : Fin 96, b1 (ix2 0 o) = B1 o)
  (hb2 : ∀ o : Fin 96, b2 (ix2 0 o) = B2 o) (hb3 : ∀ o : Fin 96, b3 (ix2 0 o) = B3 o)

include hc hw1 hw2 hw3 hb1 hb2 hb3 in
theorem lp9_0 (o : Fin 96) (n : Fin 10) : k9_pay5 cb w1 b1 w2 b2 w3 b3 (ix2 o n) = tex W1 W2 W3 B1 B2 B3 CH o n := by
  pointwise [k9_pay5]
  simp only [hc, hw1, hw2, hw3, hb1, hb2, hb3, ofBits_ninf, Finset.sum_range, tex, mix, soft, expo, ← fold_max_range, logit, proj]

include hc hw1 hw2 hw3 hb1 hb2 hb3 in
theorem lp9_1 (o : Fin 96) (n : Fin 10) : k9_pay13 (k9_pay9 cb w1 b1) (k9_pay10 cb w2 b2) (k9_pay11 cb w3) (k9_pay12 b3) (ix2 o n) = tex W1 W2 W3 B1 B2 B3 CH o n := by
  pointwise [k9_pay13, k9_pay8, k9_pay9, k9_pay10, k9_pay11, k9_pay12]
  simp only [hc, hw1, hw2, hw3, hb1, hb2, hb3, ofBits_ninf, Finset.sum_range, tex, mix, soft, expo, ← fold_max_range, logit, proj]

include hc hw1 hw2 hw3 hb1 hb2 hb3 in
theorem lp9_2 (o : Fin 96) (n : Fin 10) : k9_pay19 (k9_pay16 cb) (k9_pay17 cb w1 b1) (k9_pay18 cb w2) b2 w3 b3 (ix2 o n) = tex W1 W2 W3 B1 B2 B3 CH o n := by
  pointwise [k9_pay19, k9_pay16, k9_pay17, k9_pay18]
  simp only [hc, hw1, hw2, hw3, hb1, hb2, hb3, ofBits_ninf, Finset.sum_range, tex, mix, soft, expo, ← fold_max_range, logit, proj]

include hc hw1 hw2 hw3 hb1 hb2 hb3 in
theorem lp9_3 (o : Fin 96) (n : Fin 10) : k9_pay23 (k9_pay22 cb) w1 b1 w2 b2 w3 b3 (ix2 o n) = tex W1 W2 W3 B1 B2 B3 CH o n := by
  pointwise [k9_pay23, k9_pay22]
  simp only [hc, hw1, hw2, hw3, hb1, hb2, hb3, ofBits_ninf, Finset.sum_range, tex, mix, soft, expo, ← fold_max_range, logit, proj]

end Tex

/-! ## The loads -/

theorem ld9_w (X : Vec Ideal S96x96 .f32) (o i : Fin 96) : View.ld X r9_1 (ix2 o i) = X (ix2 o i) := by pointwise
theorem ld9_c0 (X : Vec Ideal S4x96x10 .f32) (o : Fin 96) (m : Fin 10) : View.ld X r9_0 (ix3 0 o m) = X (ix3 0 o m) := by pointwise
theorem ld9_c1 (X : Vec Ideal S4x96x10 .f32) (o : Fin 96) (m : Fin 10) : View.ld X r9_7 (ix3 0 o m) = X (ix3 1 o m) := by pointwise
theorem ld9_c2 (X : Vec Ideal S4x96x10 .f32) (o : Fin 96) (m : Fin 10) : View.ld X r9_10 (ix3 0 o m) = X (ix3 2 o m) := by pointwise
theorem ld9_c3 (X : Vec Ideal S4x96x10 .f32) (o : Fin 96) (m : Fin 10) : View.ld X r9_13 (ix3 0 o m) = X (ix3 3 o m) := by pointwise
theorem ld9_b0 (X : Vec Ideal S3x96 .f32) (o : Fin 96) : View.ld X r9_2 (ix2 0 o) = X (ix2 0 o) := by pointwise
theorem ld9_b1 (X : Vec Ideal S3x96 .f32) (o : Fin 96) : View.ld X r9_3 (ix2 0 o) = X (ix2 1 o) := by pointwise
theorem ld9_b2 (X : Vec Ideal S3x96 .f32) (o : Fin 96) : View.ld X r9_4 (ix2 0 o) = X (ix2 2 o) := by pointwise
theorem ld9_r0 (X : Vec Ideal S4x10 .f32) (m : Fin 10) : View.ld X r9_5 (ix2 0 m) = X (ix2 0 m) := by pointwise
theorem ld9_r1 (X : Vec Ideal S4x10 .f32) (m : Fin 10) : View.ld X r9_8 (ix2 0 m) = X (ix2 1 m) := by pointwise
theorem ld9_r2 (X : Vec Ideal S4x10 .f32) (m : Fin 10) : View.ld X r9_11 (ix2 0 m) = X (ix2 2 m) := by pointwise
theorem ld9_r3 (X : Vec Ideal S4x10 .f32) (m : Fin 10) : View.ld X r9_14 (ix2 0 m) = X (ix2 3 m) := by pointwise
theorem ld9_g0 (X : Vec Ideal S4x10x10 .f32) (m n : Fin 10) : View.ld X r9_6 (ix3 0 m n) = X (ix3 0 m n) := by pointwise
theorem ld9_g1 (X : Vec Ideal S4x10x10 .f32) (m n : Fin 10) : View.ld X r9_9 (ix3 0 m n) = X (ix3 1 m n) := by pointwise
theorem ld9_g2 (X : Vec Ideal S4x10x10 .f32) (m n : Fin 10) : View.ld X r9_12 (ix3 0 m n) = X (ix3 2 m n) := by pointwise
theorem ld9_g3 (X : Vec Ideal S4x10x10 .f32) (m n : Fin 10) : View.ld X r9_15 (ix3 0 m n) = X (ix3 3 m n) := by pointwise
theorem ld9_n0 (X : Vec Ideal S2x96 .f32) (o : Fin 96) : View.ld X r9_16 (ix2 0 o) = X (ix2 0 o) := by pointwise
theorem ld9_n1 (X : Vec Ideal S2x96 .f32) (o : Fin 96) : View.ld X r9_17 (ix2 0 o) = X (ix2 1 o) := by pointwise

/-! ## The whole body -/

section Body
variable (x0 : Vec Ideal S4x96x10 .f32) (x1 x2 x3 : Vec Ideal S96x96 .f32) (x4 : Vec Ideal S3x96 .f32) (x5 : Vec Ideal S4x10 .f32)
  (x6 : Vec Ideal S4x10x10 .f32) (x7 : Vec Ideal S2x96 .f32)
  (CH : ℕ → ℕ → ℕ → EReal) (W1 W2 W3 : ℕ → ℕ → EReal) (BP : ℕ → ℕ → EReal) (RS : ℕ → ℕ → EReal) (GR : ℕ → ℕ → ℕ → EReal)
  (BN : ℕ → ℕ → EReal)
  (h0 : ∀ (b : Fin 4) (o : Fin 96) (m : Fin 10), x0 (ix3 b o m) = CH b o m)
  (h1 : ∀ o i : Fin 96, x1 (ix2 o i) = W1 o i) (h2 : ∀ o i : Fin 96, x2 (ix2 o i) = W2 o i)
  (h3 : ∀ o i : Fin 96, x3 (ix2 o i) = W3 o i) (h4 : ∀ (r : Fin 3) (o : Fin 96), x4 (ix2 r o) = BP r o)
  (h5 : ∀ (b : Fin 4) (m : Fin 10), x5 (ix2 b m) = RS b m) (h6 : ∀ (b : Fin 4) (m n : Fin 10), x6 (ix3 b m n) = GR b m n)
  (h7 : ∀ (r : Fin 2) (o : Fin 96), x7 (ix2 r o) = BN r o)

/-- The texture coefficients of image `b`. -/
def texF (W1 W2 W3 : ℕ → ℕ → EReal) (BP : ℕ → ℕ → EReal) (CH : ℕ → ℕ → ℕ → EReal) (b : ℕ) : ℕ → ℕ → EReal :=
  tex W1 W2 W3 (BP 0) (BP 1) (BP 2) (CH b)

include h0 h1 h2 h3 h4 in
theorem lpb9_0 (o : Fin 96) (n : Fin 10) : (k9_pay30 x0 x1 x2 x3 x4 x5 x6 x7) (ix2 o n) = texF W1 W2 W3 BP CH 0 o n := by
  unfold k9_pay30
  exact lp9_0 _ _ _ _ _ _ _ (CH 0) W1 W2 W3 (BP 0) (BP 1) (BP 2) (fun o m => (ld9_c0 x0 o m).trans (h0 0 o m))
    (fun o i => (ld9_w x1 o i).trans (h1 o i)) (fun o i => (ld9_w x2 o i).trans (h2 o i)) (fun o i => (ld9_w x3 o i).trans (h3 o i))
    (fun o => (ld9_b0 x4 o).trans (h4 0 o)) (fun o => (ld9_b1 x4 o).trans (h4 1 o)) (fun o => (ld9_b2 x4 o).trans (h4 2 o)) o n

include h0 h1 h2 h3 h4 in
theorem lpb9_1 (o : Fin 96) (n : Fin 10) : (k9_pay13 (k9_pay31 x0 x1 x2 x3 x4 x5 x6 x7) (k9_pay32 x0 x1 x2 x3 x4 x5 x6 x7) (k9_pay33 x0 x1 x2 x3 x4 x5 x6 x7) (k9_pay34 x0 x1 x2 x3 x4 x5 x6 x7)) (ix2 o n) = texF W1 W2 W3 BP CH 1 o n := by
  unfold k9_pay31 k9_pay32 k9_pay33 k9_pay34
  exact lp9_1 _ _ _ _ _ _ _ (CH 1) W1 W2 W3 (BP 0) (BP 1) (BP 2) (fun o m => (ld9_c1 x0 o m).trans (h0 1 o m))
    (fun o i => (ld9_w x1 o i).trans (h1 o i)) (fun o i => (ld9_w x2 o i).trans (h2 o i)) (fun o i => (ld9_w x3 o i).trans (h3 o i))
    (fun o => (ld9_b0 x4 o).trans (h4 0 o)) (fun o => (ld9_b1 x4 o).trans (h4 1 o)) (fun o => (ld9_b2 x4 o).trans (h4 2 o)) o n

include h0 h1 h2 h3 h4 in
theorem lpb9_2 (o : Fin 96) (n : Fin 10) : (k9_pay19 (k9_pay35 x0 x1 x2 x3 x4 x5 x6 x7) (k9_pay36 x0 x1 x2 x3 x4 x5 x6 x7) (k9_pay37 x0 x1 x2 x3 x4 x5 x6 x7) (View.ld x4 r9_3) (View.ld x3 r9_1) (View.ld x4 r9_4)) (ix2 o n) = texF W1 W2 W3 BP CH 2 o n := by
  unfold k9_pay35 k9_pay36 k9_pay37
  exact lp9_2 _ _ _ _ _ _ _ (CH 2) W1 W2 W3 (BP 0) (BP 1) (BP 2) (fun o m => (ld9_c2 x0 o m).trans (h0 2 o m))
    (fun o i => (ld9_w x1 o i).trans (h1 o i)) (fun o i => (ld9_w x2 o i).trans (h2 o i)) (fun o i => (ld9_w x3 o i).trans (h3 o i))
    (fun o => (ld9_b0 x4 o).trans (h4 0 o)) (fun o => (ld9_b1 x4 o).trans (h4 1 o)) (fun o => (ld9_b2 x4 o).trans (h4 2 o)) o n

include h0 h1 h2 h3 h4 in
theorem lpb9_3 (o : Fin 96) (n : Fin 10) : (k9_pay41 x0 x1 x2 x3 x4 x5 x6 x7) (ix2 o n) = texF W1 W2 W3 BP CH 3 o n := by
  unfold k9_pay41 k9_pay40
  exact lp9_3 _ _ _ _ _ _ _ (CH 3) W1 W2 W3 (BP 0) (BP 1) (BP 2) (fun o m => (ld9_c3 x0 o m).trans (h0 3 o m))
    (fun o i => (ld9_w x1 o i).trans (h1 o i)) (fun o i => (ld9_w x2 o i).trans (h2 o i)) (fun o i => (ld9_w x3 o i).trans (h3 o i))
    (fun o => (ld9_b0 x4 o).trans (h4 0 o)) (fun o => (ld9_b1 x4 o).trans (h4 1 o)) (fun o => (ld9_b2 x4 o).trans (h4 2 o)) o n

/-- Sums of products over the ten bins, one image at a time, at vectors read as functions. -/
theorem s9_6 (z : FVec Ideal S96 .f32) (l : FVec Ideal S96x10 .f32) (r : Vec Ideal S1x10 .f32) (L : ℕ → ℕ → EReal) (R : ℕ → EReal)
    (hl : ∀ (o : Fin 96) (m : Fin 10), l (ix2 o m) = L o m) (hr : ∀ m : Fin 10, r (ix2 0 m) = R m) (o : Fin 96) :
    k9_pay6 z l r (ix1 o) = z (ix1 o) + ∑ m ∈ Finset.range 10, L o m * R m := by
  pointwise [k9_pay6]
  simp only [hl, hr, Finset.sum_range]

theorem q9_7 (z : FVec Ideal S96 .f32) (l : FVec Ideal S96x10 .f32) (g : Vec Ideal S1x10x10 .f32) (L : ℕ → ℕ → EReal) (R : ℕ → ℕ → EReal)
    (hl : ∀ (o : Fin 96) (m : Fin 10), l (ix2 o m) = L o m) (hr : ∀ m n : Fin 10, g (ix3 0 m n) = R m n) (o : Fin 96) :
    k9_pay7 z l g (ix1 o) = z (ix1 o) + ∑ n ∈ Finset.range 10, (∑ m ∈ Finset.range 10, L o m * R m n) * L o n := by
  pointwise [k9_pay7]
  simp only [hl, hr, Finset.sum_range]

include h0 h1 h2 h3 h4 h5 in
theorem s9_38 (o : Fin 96) : k9_pay38 x0 x1 x2 x3 x4 x5 x6 x7 (ix1 o)
    = (∑ m ∈ Finset.range 10, texF W1 W2 W3 BP CH 0 o m * RS 0 m) + (∑ m ∈ Finset.range 10, texF W1 W2 W3 BP CH 1 o m * RS 1 m)
      + ∑ m ∈ Finset.range 10, texF W1 W2 W3 BP CH 2 o m * RS 2 m := by
  unfold k9_pay38
  refine (s9_6 _ _ _ (texF W1 W2 W3 BP CH 2) (RS 2) (lpb9_2 x0 x1 x2 x3 x4 x5 x6 x7 CH W1 W2 W3 BP h0 h1 h2 h3 h4) (fun m => (ld9_r2 x5 m).trans (h5 2 m)) o).trans ?_
  congr 1
  refine (s9_6 _ _ _ (texF W1 W2 W3 BP CH 1) (RS 1) (lpb9_1 x0 x1 x2 x3 x4 x5 x6 x7 CH W1 W2 W3 BP h0 h1 h2 h3 h4) (fun m => (ld9_r1 x5 m).trans (h5 1 m)) o).trans ?_
  congr 1
  refine (s9_6 _ _ _ (texF W1 W2 W3 BP CH 0) (RS 0) (lpb9_0 x0 x1 x2 x3 x4 x5 x6 x7 CH W1 W2 W3 BP h0 h1 h2 h3 h4) (fun m => (ld9_r0 x5 m).trans (h5 0 m)) o).trans ?_
  pointwise [k9_pay3]

include h0 h1 h2 h3 h4 h6 in
theorem q9_39 (o : Fin 96) : k9_pay39 x0 x1 x2 x3 x4 x5 x6 x7 (ix1 o)
    = (∑ n ∈ Finset.range 10, (∑ m ∈ Finset.range 10, texF W1 W2 W3 BP CH 0 o m * GR 0 m n) * texF W1 W2 W3 BP CH 0 o n)
      + (∑ n ∈ Finset.range 10, (∑ m ∈ Finset.range 10, texF W1 W2 W3 BP CH 1 o m * GR 1 m n) * texF W1 W2 W3 BP CH 1 o n)
      + ∑ n ∈ Finset.range 10, (∑ m ∈ Finset.range 10, texF W1 W2 W3 BP CH 2 o m * GR 2 m n) * texF W1 W2 W3 BP CH 2 o n := by
  unfold k9_pay39
  refine (q9_7 _ _ _ (texF W1 W2 W3 BP CH 2) (GR 2) (lpb9_2 x0 x1 x2 x3 x4 x5 x6 x7 CH W1 W2 W3 BP h0 h1 h2 h3 h4) (fun m n => (ld9_g2 x6 m n).trans (h6 2 m n)) o).trans ?_
  congr 1
  refine (q9_7 _ _ _ (texF W1 W2 W3 BP CH 1) (GR 1) (lpb9_1 x0 x1 x2 x3 x4 x5 x6 x7 CH W1 W2 W3 BP h0 h1 h2 h3 h4) (fun m n => (ld9_g1 x6 m n).trans (h6 1 m n)) o).trans ?_
  congr 1
  refine (q9_7 _ _ _ (texF W1 W2 W3 BP CH 0) (GR 0) (lpb9_0 x0 x1 x2 x3 x4 x5 x6 x7 CH W1 W2 W3 BP h0 h1 h2 h3 h4) (fun m n => (ld9_g0 x6 m n).trans (h6 0 m n)) o).trans ?_
  pointwise [k9_pay4]

include h0 h1 h2 h3 h4 h5 in
theorem s9_42 (o : Fin 96) : k9_pay42 x0 x1 x2 x3 x4 x5 x6 x7 (ix1 o) = ∑ m ∈ Finset.range 10, texF W1 W2 W3 BP CH 3 o m * RS 3 m := by
  unfold k9_pay42
  have H := lpb9_3 x0 x1 x2 x3 x4 x5 x6 x7 CH W1 W2 W3 BP h0 h1 h2 h3 h4
  unfold k9_pay41 at H
  pointwise [k9_pay24]
  simp only [H, ld9_r3, h5, Finset.sum_range]
  rfl

include h0 h1 h2 h3 h4 h5 in
/-- The mean. -/
theorem m9_25 (o : Fin 96) : k9_pay25 (k9_pay38 x0 x1 x2 x3 x4 x5 x6 x7) (k9_pay42 x0 x1 x2 x3 x4 x5 x6 x7) (ix1 o)
    = Ideal.div (texS (texF W1 W2 W3 BP CH) RS o) nTot := by
  pointwise [k9_pay25]
  rw [s9_38 x0 x1 x2 x3 x4 x5 x6 x7 CH W1 W2 W3 BP RS h0 h1 h2 h3 h4 h5, s9_42 x0 x1 x2 x3 x4 x5 x6 x7 CH W1 W2 W3 BP RS h0 h1 h2 h3 h4 h5]
  rfl

include h0 h1 h2 h3 h4 h5 h6 h7 in
/-- The scale. -/
theorem a9_26 (o : Fin 96) : k9_pay26 (k9_pay38 x0 x1 x2 x3 x4 x5 x6 x7) (k9_pay39 x0 x1 x2 x3 x4 x5 x6 x7)
      (k9_pay41 x0 x1 x2 x3 x4 x5 x6 x7) (k9_pay42 x0 x1 x2 x3 x4 x5 x6 x7) (View.ld x6 r9_15) (View.ld x7 r9_16) (ix1 o)
    = bnA (BN 0 o) (texS (texF W1 W2 W3 BP CH) RS o) (texQ (texF W1 W2 W3 BP CH) GR o) := by
  have H := lpb9_3 x0 x1 x2 x3 x4 x5 x6 x7 CH W1 W2 W3 BP h0 h1 h2 h3 h4
  pointwise [k9_pay26]
  simp only [m9_25 x0 x1 x2 x3 x4 x5 x6 x7 CH W1 W2 W3 BP RS h0 h1 h2 h3 h4 h5,
    q9_39 x0 x1 x2 x3 x4 x5 x6 x7 CH W1 W2 W3 BP GR h0 h1 h2 h3 h4 h6, H, ld9_n0, h6, h7]
  simp only [bnA, texQ, sum4, Finset.sum_range, nTot, eps5]
  rfl

include h0 h1 h2 h3 h4 h5 h6 h7 in
theorem pay9_27 (y : S1x96.Idx) : k9_pay27 (k9_pay38 x0 x1 x2 x3 x4 x5 x6 x7) (k9_pay39 x0 x1 x2 x3 x4 x5 x6 x7)
      (k9_pay41 x0 x1 x2 x3 x4 x5 x6 x7) (k9_pay42 x0 x1 x2 x3 x4 x5 x6 x7) (View.ld x6 r9_15) (View.ld x7 r9_16) (View.ld x7 r9_17) y
    = bnB (BN 0 (y 1).val) (BN 1 (y 1).val) (texS (texF W1 W2 W3 BP CH) RS (y 1).val) (texQ (texF W1 W2 W3 BP CH) GR (y 1).val) := by
  idx_vars y
  obtain rfl : y0 = 0 := Subsingleton.elim _ _
  pointwise [k9_pay27]
  rw [m9_25 x0 x1 x2 x3 x4 x5 x6 x7 CH W1 W2 W3 BP RS h0 h1 h2 h3 h4 h5,
    a9_26 x0 x1 x2 x3 x4 x5 x6 x7 CH W1 W2 W3 BP RS GR BN h0 h1 h2 h3 h4 h5 h6 h7, h7]
  rfl

end Body

/-! ## The arrays -/

theorem m9_1 (l : FVec Ideal S96x10 .f32) (v : FVec Ideal S96 .f32) (L : ℕ → ℕ → EReal) (A : ℕ → EReal)
    (hl : ∀ (o : Fin 96) (n : Fin 10), l (ix2 o n) = L o n) (hv : ∀ o : Fin 96, v (ix1 o) = A o) (x : S1x96x10.Idx) :
    k9_pay1 l v x = L (x 1).val (x 2).val * A (x 1).val := by
  idx_vars x
  obtain rfl : x0 = 0 := Subsingleton.elim _ _
  pointwise [k9_pay1]
  simp only [hl, hv]

theorem m9_2 (l : FVec Ideal S96x10 .f32) (v : FVec Ideal S96 .f32) (L : ℕ → ℕ → EReal) (A : ℕ → EReal)
    (hl : ∀ (o : Fin 96) (n : Fin 10), l (ix2 o n) = L o n) (hv : ∀ o : Fin 96, v (ix1 o) = A o) (x : S1x96x10.Idx) :
    k9_pay2 l v x = L (x 1).val (x 2).val * A (x 1).val := by
  idx_vars x
  obtain rfl : x0 = 0 := Subsingleton.elim _ _
  pointwise [k9_pay2]
  simp only [hl, hv]

theorem m9_28 (l : FVec Ideal S96x10 .f32) (a b : FVec Ideal S96 .f32) (d : FVec Ideal S96x10 .f32) (e : FVec Ideal S96 .f32)
    (f : Vec Ideal S1x10x10 .f32) (g : Vec Ideal S1x96 .f32) (L : ℕ → ℕ → EReal) (A : ℕ → EReal)
    (hl : ∀ (o : Fin 96) (n : Fin 10), l (ix2 o n) = L o n) (hv : ∀ o : Fin 96, k9_pay26 a b d e f g (ix1 o) = A o) (x : S1x96x10.Idx) :
    k9_pay28 l a b d e f g x = L (x 1).val (x 2).val * A (x 1).val := by
  idx_vars x
  obtain rfl : x0 = 0 := Subsingleton.elim _ _
  pointwise [k9_pay28]
  simp only [hl, hv]

theorem m9_29 (l : FVec Ideal S96x10 .f32) (a b : FVec Ideal S96 .f32) (d : FVec Ideal S96x10 .f32) (e : FVec Ideal S96 .f32)
    (f : Vec Ideal S1x10x10 .f32) (g : Vec Ideal S1x96 .f32) (L : ℕ → ℕ → EReal) (A : ℕ → EReal)
    (hl : ∀ (o : Fin 96) (n : Fin 10), l (ix2 o n) = L o n) (hv : ∀ o : Fin 96, k9_pay26 a b d e f g (ix1 o) = A o) (x : S1x96x10.Idx) :
    k9_pay29 l a b d e f g x = L (x 1).val (x 2).val * A (x 1).val := by
  idx_vars x
  obtain rfl : x0 = 0 := Subsingleton.elim _ _
  pointwise [k9_pay29]
  simp only [hl, hv]

variable (CH : ℕ → ℕ → ℕ → EReal) (W1 W2 W3 : ℕ → ℕ → EReal) (BP : ℕ → ℕ → EReal) (RS : ℕ → ℕ → EReal) (GR : ℕ → ℕ → ℕ → EReal)
  (BN : ℕ → ℕ → EReal)
  (hch : ∀ (b : Fin 4) (o : Fin 96) (m : Fin 10), V c main_v158 (ix3 b o m) = CH b o m)
  (hw1 : ∀ o i : Fin 96, V c main_arg20 (ix2 o i) = W1 o i) (hw2 : ∀ o i : Fin 96, V c main_arg22 (ix2 o i) = W2 o i)
  (hw3 : ∀ o i : Fin 96, V c main_arg24 (ix2 o i) = W3 o i) (hbp : ∀ (r : Fin 3) (o : Fin 96), V c main_v162 (ix2 r o) = BP r o)
  (hrs : ∀ (b : Fin 4) (m : Fin 10), V c main_v163 (ix2 b m) = RS b m)
  (hgr : ∀ (b : Fin 4) (m n : Fin 10), V c main_v145_0 (ix3 b m n) = GR b m n)
  (hbn : ∀ (r : Fin 2) (o : Fin 96), V c main_v166 (ix2 r o) = BN r o)

include hch in
theorem blk9_0 (t : Fin cfg9.N) (b : Fin 4) (o : Fin 96) (m : Fin 10) : iblk9 V c 0 t (ix3 b o m) = CH b o m := by
  rw [← hch b o m]
  blk_ext [iblk9, idx9_0 t]

include hw1 in
theorem blk9_1 (t : Fin cfg9.N) (o i : Fin 96) : iblk9 V c 1 t (ix2 o i) = W1 o i := by
  rw [← hw1 o i]
  blk_ext [iblk9, idx9_1 t]

include hw2 in
theorem blk9_2 (t : Fin cfg9.N) (o i : Fin 96) : iblk9 V c 2 t (ix2 o i) = W2 o i := by
  rw [← hw2 o i]
  blk_ext [iblk9, idx9_2 t]

include hw3 in
theorem blk9_3 (t : Fin cfg9.N) (o i : Fin 96) : iblk9 V c 3 t (ix2 o i) = W3 o i := by
  rw [← hw3 o i]
  blk_ext [iblk9, idx9_3 t]

include hbp in
theorem blk9_4 (t : Fin cfg9.N) (r : Fin 3) (o : Fin 96) : iblk9 V c 4 t (ix2 r o) = BP r o := by
  rw [← hbp r o]
  blk_ext [iblk9, idx9_4 t]

include hrs in
theorem blk9_5 (t : Fin cfg9.N) (b : Fin 4) (m : Fin 10) : iblk9 V c 5 t (ix2 b m) = RS b m := by
  rw [← hrs b m]
  blk_ext [iblk9, idx9_5 t]

include hgr in
theorem blk9_6 (t : Fin cfg9.N) (b : Fin 4) (m n : Fin 10) : iblk9 V c 6 t (ix3 b m n) = GR b m n := by
  rw [← hgr b m n]
  blk_ext [iblk9, idx9_6 t]

include hbn in
theorem blk9_7 (t : Fin cfg9.N) (r : Fin 2) (o : Fin 96) : iblk9 V c 7 t (ix2 r o) = BN r o := by
  rw [← hbn r o]
  blk_ext [iblk9, idx9_7 t]

include hch hw1 hw2 hw3 hbp hrs hgr hbn in
/-- The shifts' array. -/
theorem arr9_9 (u : Fin 1) (o : Fin 96) : (dat9 V c).arrAt 9 cfg9.N (ix2 u o)
    = bnB (BN 0 o) (BN 1 o) (texS (texF W1 W2 W3 BP CH) RS o) (texQ (texF W1 W2 W3 BP CH) GR o) := by
  refine congrFun ((dat9 V c).arrAt_eq_of_covers 9 (fun i => bnB (BN 0 (i 1).val) (BN 1 (i 1).val)
    (texS (texF W1 W2 W3 BP CH) RS (i 1).val) (texQ (texF W1 W2 W3 BP CH) GR (i 1).val)) (by decide +kernel) ?_) (ix2 u o)
  intro t hf y
  blk_simp [idx9_9 t]
  rw [after9_9]
  unfold out9_9
  canon_tiles x h
  refine (pay9_27 _ _ _ _ _ _ _ _ CH W1 W2 W3 BP RS GR BN (blk9_0 V c CH hch t) (blk9_1 V c W1 hw1 t) (blk9_2 V c W2 hw2 t) (blk9_3 V c W3 hw3 t) (blk9_4 V c BP hbp t) (blk9_5 V c RS hrs t) (blk9_6 V c GR hgr t) (blk9_7 V c BN hbn t) x).trans ?_
  simp only [h1]

include hch hw1 hw2 hw3 hbp hrs hgr hbn in
/-- The coefficients' array. -/
theorem arr9_8 (b : Fin 4) (o : Fin 96) (n : Fin 10) : (dat9 V c).arrAt 8 cfg9.N (ix3 b o n)
    = texF W1 W2 W3 BP CH b o n * bnA (BN 0 o) (texS (texF W1 W2 W3 BP CH) RS o) (texQ (texF W1 W2 W3 BP CH) GR o) := by
  refine congrFun ((dat9 V c).arrAt_eq_of_covers 8 (fun i => texF W1 W2 W3 BP CH (i 0).val (i 1).val (i 2).val
    * bnA (BN 0 (i 1).val) (texS (texF W1 W2 W3 BP CH) RS (i 1).val) (texQ (texF W1 W2 W3 BP CH) GR (i 1).val)) (by decide +kernel) ?_) (ix3 b o n)
  intro t hf y
  blk_simp [idx9_8 t]
  rw [after9_8]
  unfold out9_8
  have A := a9_26 _ _ _ _ _ _ _ _ CH W1 W2 W3 BP RS GR BN (blk9_0 V c CH hch t) (blk9_1 V c W1 hw1 t) (blk9_2 V c W2 hw2 t) (blk9_3 V c W3 hw3 t) (blk9_4 V c BP hbp t) (blk9_5 V c RS hrs t) (blk9_6 V c GR hgr t) (blk9_7 V c BN hbn t)
  have L0 := lpb9_0 _ _ _ _ _ (iblk9 V c 5 t) (iblk9 V c 6 t) (iblk9 V c 7 t) CH W1 W2 W3 BP (blk9_0 V c CH hch t) (blk9_1 V c W1 hw1 t) (blk9_2 V c W2 hw2 t) (blk9_3 V c W3 hw3 t) (blk9_4 V c BP hbp t)
  have L1 := lpb9_1 _ _ _ _ _ (iblk9 V c 5 t) (iblk9 V c 6 t) (iblk9 V c 7 t) CH W1 W2 W3 BP (blk9_0 V c CH hch t) (blk9_1 V c W1 hw1 t) (blk9_2 V c W2 hw2 t) (blk9_3 V c W3 hw3 t) (blk9_4 V c BP hbp t)
  have L2 := lpb9_2 _ _ _ _ _ (iblk9 V c 5 t) (iblk9 V c 6 t) (iblk9 V c 7 t) CH W1 W2 W3 BP (blk9_0 V c CH hch t) (blk9_1 V c W1 hw1 t) (blk9_2 V c W2 hw2 t) (blk9_3 V c W3 hw3 t) (blk9_4 V c BP hbp t)
  have L3 := lpb9_3 _ _ _ _ _ (iblk9 V c 5 t) (iblk9 V c 6 t) (iblk9 V c 7 t) CH W1 W2 W3 BP (blk9_0 V c CH hch t) (blk9_1 V c W1 hw1 t) (blk9_2 V c W2 hw2 t) (blk9_3 V c W3 hw3 t) (blk9_4 V c BP hbp t)
  canon_tiles x h
  · refine (m9_2 _ _ (texF W1 W2 W3 BP CH 3) (fun o => bnA (BN 0 o) (texS (texF W1 W2 W3 BP CH) RS o) (texQ (texF W1 W2 W3 BP CH) GR o)) L3 A x).trans ?_
    simp only [h0, h1, h2, Nat.lt_one_iff.mp x0_lt, Nat.add_zero]
  · refine (m9_1 _ _ (texF W1 W2 W3 BP CH 2) (fun o => bnA (BN 0 o) (texS (texF W1 W2 W3 BP CH) RS o) (texQ (texF W1 W2 W3 BP CH) GR o)) L2 A x).trans ?_
    simp only [h0, h1, h2, Nat.lt_one_iff.mp x0_lt, Nat.add_zero]
  · refine (m9_29 _ _ _ _ _ _ _ (texF W1 W2 W3 BP CH 1) (fun o => bnA (BN 0 o) (texS (texF W1 W2 W3 BP CH) RS o) (texQ (texF W1 W2 W3 BP CH) GR o)) L1 A x).trans ?_
    simp only [h0, h1, h2, Nat.lt_one_iff.mp x0_lt, Nat.add_zero]
  · refine (m9_28 _ _ _ _ _ _ _ (texF W1 W2 W3 BP CH 0) (fun o => bnA (BN 0 o) (texS (texF W1 W2 W3 BP CH) RS o) (texQ (texF W1 W2 W3 BP CH) GR o)) L0 A x).trans ?_
    simp only [h0, h1, h2, Nat.lt_one_iff.mp x0_lt]

end Cert.KVal
-- ==== Proof.K10.lean ====
/-
  The eleventh call of the kernel, read as values: the three branches summed, and the input times the logistic of the sum.
-/
module

public import proofs.«01_k».proof.Proof.Gen.KernelIdeal.Frame.Region10
public import proofs.«01_k».proof.Proof.Spec

@[expose] public section

set_option maxRecDepth 16384

noncomputable section

namespace Cert.KVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx10_0 (t : Fin cfg10.N) : win10_0.index t = ![t.val / 28, 0, t.val % 28] :=
  (by decide +kernel : ∀ t : Fin grid10.N, win10_0.index t = ![t.val / 28, 0, t.val % 28]) t
theorem idx10_1 (t : Fin cfg10.N) : win10_1.index t = ![t.val / 28, 0, t.val % 28] :=
  (by decide +kernel : ∀ t : Fin grid10.N, win10_1.index t = ![t.val / 28, 0, t.val % 28]) t
theorem idx10_2 (t : Fin cfg10.N) : win10_2.index t = ![t.val / 28, 0, t.val % 28] :=
  (by decide +kernel : ∀ t : Fin grid10.N, win10_2.index t = ![t.val / 28, 0, t.val % 28]) t
theorem idx10_3 (t : Fin cfg10.N) : win10_3.index t = ![t.val / 28, 0, t.val % 28] :=
  (by decide +kernel : ∀ t : Fin grid10.N, win10_3.index t = ![t.val / 28, 0, t.val % 28]) t
theorem idx10_4 (t : Fin cfg10.N) : win10_4.index t = ![t.val / 28, 0, 0] :=
  (by decide +kernel : ∀ t : Fin grid10.N, win10_4.index t = ![t.val / 28, 0, 0]) t
theorem idx10_5 (t : Fin cfg10.N) : win10_5.index t = ![0, 0] :=
  (by decide +kernel : ∀ t : Fin grid10.N, win10_5.index t = ![0, 0]) t
theorem idx10_6 (t : Fin cfg10.N) : win10_6.index t = ![t.val / 28, 0, t.val % 28] :=
  (by decide +kernel : ∀ t : Fin grid10.N, win10_6.index t = ![t.val / 28, 0, t.val % 28]) t

section Pay
variable (x h : Vec Ideal S1x96x1792 .f32) (s : Vec Ideal S1x1x1792 .f32) (vr : Vec Ideal S1x10x1792 .f32)
  (lq : Vec Ideal S1x96x10 .f32) (c0 c1 c2 c3 c4 : Vec Ideal S1x96 .f32)
  (X H : ℕ → ℕ → EReal) (S : ℕ → EReal) (U L : ℕ → ℕ → EReal) (C : ℕ → ℕ → EReal)
  (hx : ∀ (j : Fin 96) (k : Fin 1792), x (ix3 0 j k) = X j k) (hh : ∀ (j : Fin 96) (k : Fin 1792), h (ix3 0 j k) = H j k)
  (hs : ∀ k : Fin 1792, s (ix3 0 0 k) = S k) (hu : ∀ (m : Fin 10) (k : Fin 1792), vr (ix3 0 m k) = U m k)
  (hl : ∀ (j : Fin 96) (m : Fin 10), lq (ix3 0 j m) = L j m)
  (h0 : ∀ j : Fin 96, c0 (ix2 0 j) = C 0 j) (h1 : ∀ j : Fin 96, c1 (ix2 0 j) = C 1 j) (h2 : ∀ j : Fin 96, c2 (ix2 0 j) = C 2 j)
  (h3 : ∀ j : Fin 96, c3 (ix2 0 j) = C 3 j) (h4 : ∀ j : Fin 96, c4 (ix2 0 j) = C 4 j)

include hx hh hs hu hl h0 h1 h2 h3 h4 in
theorem pay10_1 (y : S1x96x1792.Idx) :
    k10_pay1 (k10_pay2 c0 c1 h) (k10_pay3 c4 lq vr) (k10_pay4 c2 s) (k10_pay5 c3) x y
      = gate (X (y 1).val (y 2).val) (C 2 (y 1).val * S (y 2).val + C 3 (y 1).val)
          (∑ m ∈ Finset.range 10, L (y 1).val m * U m (y 2).val + C 4 (y 1).val)
          (H (y 1).val (y 2).val * C 0 (y 1).val + C 1 (y 1).val) := by
  idx_vars y
  pointwise [k10_pay1, k10_pay2, k10_pay3, k10_pay4, k10_pay5]
  simp only [hx, hh, hs, hu, hl, h0, h1, h2, h3, h4, Finset.sum_range]
  rfl

end Pay

theorem ld10_0 (X : Vec Ideal S6x96 .f32) (j : Fin 96) :
    View.ld X (Rect.unit (s := S6x96) ![0, 0] S1x96.size inb_S6x96_S1x96_0_0) (ix2 0 j) = X (ix2 0 j) := by
  pointwise

theorem ld10_1 (X : Vec Ideal S6x96 .f32) (j : Fin 96) :
    View.ld X (Rect.unit (s := S6x96) ![1, 0] S1x96.size inb_S6x96_S1x96_1_0) (ix2 0 j) = X (ix2 1 j) := by
  pointwise

theorem ld10_2 (X : Vec Ideal S6x96 .f32) (j : Fin 96) :
    View.ld X (Rect.unit (s := S6x96) ![2, 0] S1x96.size inb_S6x96_S1x96_2_0) (ix2 0 j) = X (ix2 2 j) := by
  pointwise

theorem ld10_3 (X : Vec Ideal S6x96 .f32) (j : Fin 96) :
    View.ld X (Rect.unit (s := S6x96) ![3, 0] S1x96.size inb_S6x96_S1x96_3_0) (ix2 0 j) = X (ix2 3 j) := by
  pointwise

theorem ld10_4 (X : Vec Ideal S6x96 .f32) (j : Fin 96) :
    View.ld X (Rect.unit (s := S6x96) ![4, 0] S1x96.size inb_S6x96_S1x96_4_0) (ix2 0 j) = X (ix2 4 j) := by
  pointwise

variable (x : ℕ → ℕ → ℕ → EReal) (hx : ∀ (b : Fin 4) (o : Fin 96) (n : Fin 50176), V c main_v0 (ix3 b o n) = x b o n)
  (h : ℕ → ℕ → ℕ → EReal) (hh : ∀ (b : Fin 4) (o : Fin 96) (n : Fin 50176), V c main_v202 (ix3 b o n) = h b o n)
  (s : ℕ → ℕ → EReal) (hs : ∀ (b : Fin 4) (u : Fin 1) (n : Fin 50176), V c main_v3_1 (ix3 b u n) = s b n)
  (vr : ℕ → ℕ → ℕ → EReal) (hu : ∀ (b : Fin 4) (m : Fin 10) (n : Fin 50176), V c main_v144 (ix3 b m n) = vr b m n)
  (lq : ℕ → ℕ → ℕ → EReal) (hl : ∀ (b : Fin 4) (o : Fin 96) (m : Fin 10), V c main_v167_0 (ix3 b o m) = lq b o m)
  (cp : ℕ → ℕ → EReal) (hc : ∀ (r : Fin 6) (o : Fin 96), V c main_v201 (ix2 r o) = cp r o)

include hx in
theorem blk10_0 (t : Fin cfg10.N) (j : Fin 96) (k : Fin 1792) : iblk10 V c 0 t (ix3 0 j k) = x (t.val / 28) j (t.val % 28 * 1792 + k) := by
  have ht : t.val < 112 := Nat.lt_of_lt_of_eq t.isLt N_10
  have := hx ⟨t.val / 28, by omega⟩ j ⟨t.val % 28 * 1792 + k, by omega⟩
  rw [← this]
  blk_ext [iblk10, idx10_0 t]

include hh in
theorem blk10_1 (t : Fin cfg10.N) (j : Fin 96) (k : Fin 1792) : iblk10 V c 1 t (ix3 0 j k) = h (t.val / 28) j (t.val % 28 * 1792 + k) := by
  have ht : t.val < 112 := Nat.lt_of_lt_of_eq t.isLt N_10
  have := hh ⟨t.val / 28, by omega⟩ j ⟨t.val % 28 * 1792 + k, by omega⟩
  rw [← this]
  blk_ext [iblk10, idx10_1 t]

include hs in
theorem blk10_2 (t : Fin cfg10.N) (k : Fin 1792) : iblk10 V c 2 t (ix3 0 0 k) = s (t.val / 28) (t.val % 28 * 1792 + k) := by
  have ht : t.val < 112 := Nat.lt_of_lt_of_eq t.isLt N_10
  have := hs ⟨t.val / 28, by omega⟩ 0 ⟨t.val % 28 * 1792 + k, by omega⟩
  rw [← this]
  blk_ext [iblk10, idx10_2 t]

include hu in
theorem blk10_3 (t : Fin cfg10.N) (j : Fin 10) (k : Fin 1792) : iblk10 V c 3 t (ix3 0 j k) = vr (t.val / 28) j (t.val % 28 * 1792 + k) := by
  have ht : t.val < 112 := Nat.lt_of_lt_of_eq t.isLt N_10
  have := hu ⟨t.val / 28, by omega⟩ j ⟨t.val % 28 * 1792 + k, by omega⟩
  rw [← this]
  blk_ext [iblk10, idx10_3 t]

include hl in
theorem blk10_4 (t : Fin cfg10.N) (j : Fin 96) (m : Fin 10) : iblk10 V c 4 t (ix3 0 j m) = lq (t.val / 28) j m := by
  have ht : t.val < 112 := Nat.lt_of_lt_of_eq t.isLt N_10
  have := hl ⟨t.val / 28, by omega⟩ j m
  rw [← this]
  blk_ext [iblk10, idx10_4 t]

include hc in
theorem blk10_5 (t : Fin cfg10.N) (r : Fin 6) (o : Fin 96) : iblk10 V c 5 t (ix2 r o) = cp r o := by
  rw [← hc r o]
  blk_ext [iblk10, idx10_5 t]

include hx hh hs hu hl hc in
/-- The result's array. -/
theorem arr10_6 (b : Fin 4) (o : Fin 96) (n : Fin 50176) :
    (dat10 V c).arrAt 6 cfg10.N (ix3 b o n) = gate (x b o n) (cp 2 o * s b n + cp 3 o)
      (∑ m ∈ Finset.range 10, lq b o m * vr b m n + cp 4 o) (h b o n * cp 0 o + cp 1 o) := by
  refine congrFun ((dat10 V c).arrAt_eq_of_covers 6
    (fun i => gate (x (i 0).val (i 1).val (i 2).val) (cp 2 (i 1).val * s (i 0).val (i 2).val + cp 3 (i 1).val)
      (∑ m ∈ Finset.range 10, lq (i 0).val (i 1).val m * vr (i 0).val m (i 2).val + cp 4 (i 1).val)
      (h (i 0).val (i 1).val (i 2).val * cp 0 (i 1).val + cp 1 (i 1).val)) (by decide +kernel) ?_) (ix3 b o n)
  intro t hf y
  blk_simp [idx10_6 t]
  rw [after10_6]
  frame_out
  exact pay10_1 _ _ _ _ _ _ _ _ _ _ (fun j k => x (t.val / 28) j (t.val % 28 * 1792 + k)) (fun j k => h (t.val / 28) j (t.val % 28 * 1792 + k))
    (fun k => s (t.val / 28) (t.val % 28 * 1792 + k)) (fun j k => vr (t.val / 28) j (t.val % 28 * 1792 + k)) (lq (t.val / 28)) cp
    (blk10_0 V c x hx t) (blk10_1 V c h hh t) (blk10_2 V c s hs t) (blk10_3 V c vr hu t) (blk10_4 V c lq hl t)
    (fun j => (ld10_0 _ j).trans (blk10_5 V c cp hc t 0 j)) (fun j => (ld10_1 _ j).trans (blk10_5 V c cp hc t 1 j))
    (fun j => (ld10_2 _ j).trans (blk10_5 V c cp hc t 2 j)) (fun j => (ld10_3 _ j).trans (blk10_5 V c cp hc t 3 j))
    (fun j => (ld10_4 _ j).trans (blk10_5 V c cp hc t 4 j)) y

end Cert.KVal
-- ==== Proof.Chain.lean ====
/-
  The kernel's result, carried from the arguments through every host stretch and every call.
-/
module

public import proofs.«01_k».proof.Proof.RefTop
public import proofs.«01_k».proof.Proof.HostA
public import proofs.«01_k».proof.Proof.HostB
public import proofs.«01_k».proof.Proof.Run
public import proofs.«01_k».proof.Proof.K0
public import proofs.«01_k».proof.Proof.K2
public import proofs.«01_k».proof.Proof.K3
public import proofs.«01_k».proof.Proof.K4
public import proofs.«01_k».proof.Proof.K5
public import proofs.«01_k».proof.Proof.K6
public import proofs.«01_k».proof.Proof.K7
public import proofs.«01_k».proof.Proof.K8
public import proofs.«01_k».proof.Proof.K9
public import proofs.«01_k».proof.Proof.K10

@[expose] public section

set_option maxRecDepth 16384

noncomputable section

namespace Cert.KVal

open Cert.KernelIdeal Cert.KernelIdeal.Gen
open Idealize.ShloMosaic Idealize.ShloMosaic.TcCoe Idealize.ShloMosaic.Tactic

theorem binSum_eq (s : ℕ → ℕ → EReal) (b k : ℕ) : rowSum (fun b m n => bin (level s b m) (s b n)) b k = binSum s b k := by
  simp only [rowSum, binSum, bins]

theorem pair_zero (s : ℕ → ℕ → EReal) (r : ℕ) :
    pair s r 0 = Ideal.div (binSum s (r / 10) (r % 10)) (∑ k ∈ Finset.range 10, binSum s (r / 10) k) := by
  unfold pair binTot
  exact if_pos rfl

theorem pair_one (s : ℕ → ℕ → EReal) (r : ℕ) : pair s r 1 = level s (r / 10) (r % 10) := by
  unfold pair
  exact if_neg one_ne_zero

namespace Args

variable (A : Args)

/-- The last normalization's two coefficients, the texture's three biases and its normalization's two parameters. -/
def last (r : ℕ) : ℕ → EReal := if r = 0 then scl A.g16 (stat4 A.kc4) else shf A.g16 A.b17 (stat4 A.kc4)
def bp (r : ℕ) : ℕ → EReal := if r = 0 then A.b21 else if r = 1 then A.b23 else A.b25
def bn (r : ℕ) : ℕ → EReal := if r = 0 then A.g27 else A.b28

/-- The texture coefficients with the normalization's scale taken in, and its shift. -/
def lq (b o m : ℕ) : EReal :=
  A.coef A.ks b o m * bnA (A.g27 o) (texS (A.coef A.ks) (rowSum (rows A.ks)) o) (texQ (A.coef A.ks) (gram (rows A.ks)) o)
def lc (o : ℕ) : EReal :=
  bnB (A.g27 o) (A.b28 o) (texS (A.coef A.ks) (rowSum (rows A.ks)) o) (texQ (A.coef A.ks) (gram (rows A.ks)) o)

/-- The result by pixels. -/
def kN (b o n : ℕ) : EReal :=
  gate (flat A.x b o n)
    (satA (A.g29 o) (A.w26 o) (sum4 (tot 0 A.ks)) (sum4 (tot 1 A.ks)) * A.w26 o * A.ks b n
      + (A.b30 o - A.w26 o * Ideal.div (sum4 (tot 0 A.ks)) nTot
          * satA (A.g29 o) (A.w26 o) (sum4 (tot 0 A.ks)) (sum4 (tot 1 A.ks))))
    (∑ m ∈ Finset.range 10, A.lq b o m * rows A.ks b m n + A.lc o)
    (A.kc4 b o (n / 224) (n % 224) * A.last 0 o + A.last 1 o)

theorem kN_eq (b o h w : ℕ) (hh : h < 224) (hw : w < 224) : A.kN b o (h * 224 + w) = A.kOut b o h w := by
  have e1 : (h * 224 + w) / 224 = h := by omega
  have e2 : (h * 224 + w) % 224 = w := by omega
  unfold Args.kN flat
  rw [e1, e2]
  rfl

end Args

variable (m : (ℓ : Loc nD τ sig) → Buf (Elt Ideal) ℓ) (ρ : Dev nD → PrngReg) (c : Dev nD) (A : Args)
  (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) A)

include R

theorem at1_v0 (b : Fin 4) (o : Fin 96) (n : Fin 50176) :
    W1 m ρ c (Proc.devRef .tc main_v0) (ix3 b o n) = flat A.x b o n :=
  host0 (W0 m ρ c) A.x R.r0 b o n

theorem at2_v1 (b : Fin 4) (u : Fin 1) (o : Fin 96) :
    W2 m ρ c (Proc.devRef .tc main_v1) (ix3 b u o) = pixSum (flat A.x) b o :=
  (congrFun (W2_arr m ρ c 1) _).trans (r0 (V1 m ρ) c (flat A.x) (at1_v0 m ρ c A R) b u o)

theorem at3_v2 (o i : Fin 96) :
    W3 m ρ c (Proc.devRef .tc main_v2) (ix2 o i) = A.w1 o i :=
  host1 (W2 m ρ c) A.w1 (fun o i => (congrFun (W2_args m ρ c main_arg1 (by decide +kernel)) _).trans (R.r1 o i)) o i

theorem at3_v0 (b : Fin 4) (o : Fin 96) (n : Fin 50176) :
    W3 m ρ c (Proc.devRef .tc main_v0) (ix3 b o n) = flat A.x b o n :=
  (congrFun (W3_of m ρ c main_v0 (by decide +kernel)) _).trans ((congrFun (W2_of m ρ c main_v0 (by decide +kernel)) _).trans (at1_v0 m ρ c A R b o n))

theorem at3_v1 (b : Fin 4) (u : Fin 1) (o : Fin 96) :
    W3 m ρ c (Proc.devRef .tc main_v1) (ix3 b u o) = pixSum (flat A.x) b o :=
  (congrFun (W3_of m ρ c main_v1 (by decide +kernel)) _).trans (at2_v1 m ρ c A R b u o)

theorem at4_v3_0 (b : Fin 4) (o : Fin 96) (n : Fin 50176) :
    W4 m ρ c (Proc.devRef .tc main_v3_0) (ix3 b o n) = A.yN b o n :=
  (congrFun (W4_arr m ρ c 3) _).trans (r1_3 (V3 m ρ) c (flat A.x) (at3_v0 m ρ c A R) A.w1 (at3_v2 m ρ c A R) b o n)

theorem at4_v3_1 (b : Fin 4) (u : Fin 1) (n : Fin 50176) :
    W4 m ρ c (Proc.devRef .tc main_v3_1) (ix3 b u n) = A.ks b n :=
  (congrFun (W4_arr m ρ c 4) _).trans (r1_4 (V3 m ρ) c (flat A.x) (at3_v0 m ρ c A R) (pixSum (flat A.x)) (at3_v1 m ρ c A R) b u n)

theorem at4_v3_2 (r : Fin 2) (o : Fin 96) :
    W4 m ρ c (Proc.devRef .tc main_v3_2) (ix2 r o) = stat A.yN r o :=
  (congrFun (W4_arr m ρ c 5) _).trans (r1_5 (V3 m ρ) c (flat A.x) (at3_v0 m ρ c A R) A.w1 (at3_v2 m ρ c A R) r o)

theorem at4_v3_3 (b : Fin 4) (u v : Fin 1) :
    W4 m ρ c (Proc.devRef .tc main_v3_3) (ix3 b u v) = lo A.ks b :=
  (congrFun (W4_arr m ρ c 6) _).trans (r1_6 (V3 m ρ) c (flat A.x) (at3_v0 m ρ c A R) (pixSum (flat A.x)) (at3_v1 m ρ c A R) b u v)

theorem at4_v3_4 (b : Fin 4) (u v : Fin 1) :
    W4 m ρ c (Proc.devRef .tc main_v3_4) (ix3 b u v) = hi A.ks b :=
  (congrFun (W4_arr m ρ c 7) _).trans (r1_7 (V3 m ρ) c (flat A.x) (at3_v0 m ρ c A R) (pixSum (flat A.x)) (at3_v1 m ρ c A R) b u v)

theorem at4_v3_5 (b : Fin 4) (u v : Fin 1) :
    W4 m ρ c (Proc.devRef .tc main_v3_5) (ix3 b u v) = tot 0 A.ks b :=
  (congrFun (W4_arr m ρ c 8) _).trans (r1_8 (V3 m ρ) c (flat A.x) (at3_v0 m ρ c A R) (pixSum (flat A.x)) (at3_v1 m ρ c A R) b u v)

theorem at4_v3_6 (b : Fin 4) (u v : Fin 1) :
    W4 m ρ c (Proc.devRef .tc main_v3_6) (ix3 b u v) = tot 1 A.ks b :=
  (congrFun (W4_arr m ρ c 9) _).trans (r1_9 (V3 m ρ) c (flat A.x) (at3_v0 m ρ c A R) (pixSum (flat A.x)) (at3_v1 m ρ c A R) b u v)

theorem at5_v28 (b : Fin 4) (o : Fin 96) (h w : Fin 224) :
    W5 m ρ c (Proc.devRef .tc main_v28) (ix4 b o h w) = A.y b o h w :=
  host2_pix (W4 m ρ c) A.yN (at4_v3_0 m ρ c A R) b o h w

theorem at5_v25s (q : Fin 12) (j : Fin 8) :
    W5 m ρ c (Proc.devRef .tc main_v25) (ix3 q 0 j) = scl A.g2 (stat A.yN) (q.val * 8 + j.val) :=
  host2_scale (W4 m ρ c) (stat A.yN) A.g2 (at4_v3_2 m ρ c A R) (fun o => (congrFun (W4_args m ρ c main_arg2 (by decide +kernel)) _).trans (R.r2 o)) q j

theorem at5_v25t (q : Fin 12) (j : Fin 8) :
    W5 m ρ c (Proc.devRef .tc main_v25) (ix3 q 1 j) = shf A.g2 A.b3 (stat A.yN) (q.val * 8 + j.val) :=
  host2_shift (W4 m ρ c) (stat A.yN) A.g2 A.b3 (at4_v3_2 m ρ c A R) (fun o => (congrFun (W4_args m ρ c main_arg2 (by decide +kernel)) _).trans (R.r2 o)) (fun o => (congrFun (W4_args m ρ c main_arg3 (by decide +kernel)) _).trans (R.r3 o)) q j

theorem at5_v23 (o : Fin 96) (t : Fin 5) :
    W5 m ρ c (Proc.devRef .tc main_v23) (ix2 o t) = A.k4 o t :=
  host2_taps (W4 m ρ c) A.k4 (fun o t => (congrFun (W4_args m ρ c main_arg4 (by decide +kernel)) _).trans (R.r4 o t)) o t

theorem at6_v29_0 (b : Fin 4) (o : Fin 96) (h w : Fin 224) :
    W6 m ρ c (Proc.devRef .tc main_v29_0) (ix4 b o h w) = A.kc1 b o h w :=
  (congrFun (W6_arr m ρ c 4) _).trans (r2_4 (V5 m ρ) c A.y (at5_v28 m ρ c A R) (scl A.g2 (stat A.yN)) (shf A.g2 A.b3 (stat A.yN)) (at5_v25s m ρ c A R) (at5_v25t m ρ c A R) A.k4 (at5_v23 m ρ c A R) b o h w)

theorem at6_v29_1 (q : Fin 12) (r : Fin 2) (j : Fin 8) :
    W6 m ρ c (Proc.devRef .tc main_v29_1) (ix3 q r j) = stat4 A.kc1 r (q.val * 8 + j.val) :=
  (congrFun (W6_arr m ρ c 5) _).trans (r2_5 (V5 m ρ) c A.y (at5_v28 m ρ c A R) (scl A.g2 (stat A.yN)) (shf A.g2 A.b3 (stat A.yN)) (at5_v25s m ρ c A R) (at5_v25t m ρ c A R) A.k4 (at5_v23 m ρ c A R) q r j)

theorem at7_v53s (q : Fin 12) (j : Fin 8) :
    W7 m ρ c (Proc.devRef .tc main_v53) (ix3 q 0 j) = scl A.g5 (stat4 A.kc1) (q.val * 8 + j.val) :=
  host3_scale (W6 m ρ c) (stat4 A.kc1) A.g5 (at6_v29_1 m ρ c A R) (fun o => (congrFun (W6_args m ρ c main_arg5 (by decide +kernel)) _).trans (R.r5 o)) q j

theorem at7_v53t (q : Fin 12) (j : Fin 8) :
    W7 m ρ c (Proc.devRef .tc main_v53) (ix3 q 1 j) = shf A.g5 A.b6 (stat4 A.kc1) (q.val * 8 + j.val) :=
  host3_shift (W6 m ρ c) (stat4 A.kc1) A.g5 A.b6 (at6_v29_1 m ρ c A R) (fun o => (congrFun (W6_args m ρ c main_arg5 (by decide +kernel)) _).trans (R.r5 o)) (fun o => (congrFun (W6_args m ρ c main_arg6 (by decide +kernel)) _).trans (R.r6 o)) q j

theorem at7_v51 (o : Fin 96) (t : Fin 5) :
    W7 m ρ c (Proc.devRef .tc main_v51) (ix2 o t) = A.k7 o t :=
  host3_taps (W6 m ρ c) A.k7 (fun o t => (congrFun (W6_args m ρ c main_arg7 (by decide +kernel)) _).trans (R.r7 o t)) o t

theorem at7_v29_0 (b : Fin 4) (o : Fin 96) (h w : Fin 224) :
    W7 m ρ c (Proc.devRef .tc main_v29_0) (ix4 b o h w) = A.kc1 b o h w :=
  (congrFun (W7_of m ρ c main_v29_0 (by decide +kernel)) _).trans (at6_v29_0 m ρ c A R b o h w)

theorem at8_v56_0 (b : Fin 4) (o : Fin 96) (h w : Fin 224) :
    W8 m ρ c (Proc.devRef .tc main_v56_0) (ix4 b o h w) = A.kc2 b o h w :=
  (congrFun (W8_arr m ρ c 4) _).trans (r3_4 (V7 m ρ) c A.kc1 (at7_v29_0 m ρ c A R) (scl A.g5 (stat4 A.kc1)) (shf A.g5 A.b6 (stat4 A.kc1)) (at7_v53s m ρ c A R) (at7_v53t m ρ c A R) A.k7 (at7_v51 m ρ c A R) b o h w)

theorem at8_v56_1 (q : Fin 12) (r : Fin 2) (j : Fin 8) :
    W8 m ρ c (Proc.devRef .tc main_v56_1) (ix3 q r j) = stat4 A.kc2 r (q.val * 8 + j.val) :=
  (congrFun (W8_arr m ρ c 5) _).trans (r3_5 (V7 m ρ) c A.kc1 (at7_v29_0 m ρ c A R) (scl A.g5 (stat4 A.kc1)) (shf A.g5 A.b6 (stat4 A.kc1)) (at7_v53s m ρ c A R) (at7_v53t m ρ c A R) A.k7 (at7_v51 m ρ c A R) q r j)

theorem at9_v80s (q : Fin 12) (j : Fin 8) :
    W9 m ρ c (Proc.devRef .tc main_v80) (ix3 q 0 j) = scl A.g8 (stat4 A.kc2) (q.val * 8 + j.val) :=
  host4_scale (W8 m ρ c) (stat4 A.kc2) A.g8 (at8_v56_1 m ρ c A R) (fun o => (congrFun (W8_args m ρ c main_arg8 (by decide +kernel)) _).trans (R.r8 o)) q j

theorem at9_v80t (q : Fin 12) (j : Fin 8) :
    W9 m ρ c (Proc.devRef .tc main_v80) (ix3 q 1 j) = shf A.g8 A.b9 (stat4 A.kc2) (q.val * 8 + j.val) :=
  host4_shift (W8 m ρ c) (stat4 A.kc2) A.g8 A.b9 (at8_v56_1 m ρ c A R) (fun o => (congrFun (W8_args m ρ c main_arg8 (by decide +kernel)) _).trans (R.r8 o)) (fun o => (congrFun (W8_args m ρ c main_arg9 (by decide +kernel)) _).trans (R.r9 o)) q j

theorem at9_v78 (o : Fin 96) (t : Fin 5) :
    W9 m ρ c (Proc.devRef .tc main_v78) (ix2 o t) = A.k10 o t :=
  host4_taps (W8 m ρ c) A.k10 (fun o t => (congrFun (W8_args m ρ c main_arg10 (by decide +kernel)) _).trans (R.r10 o t)) o t

theorem at9_v81 (q : Fin 12) (j : Fin 8) :
    W9 m ρ c (Proc.devRef .tc main_v81) (ix3 q 0 j) = A.c11 (q.val * 8 + j.val) :=
  host4_bias (W8 m ρ c) A.c11 (fun o => (congrFun (W8_args m ρ c main_arg11 (by decide +kernel)) _).trans (R.r11 o)) q j

theorem at9_v56_0 (b : Fin 4) (o : Fin 96) (h w : Fin 224) :
    W9 m ρ c (Proc.devRef .tc main_v56_0) (ix4 b o h w) = A.kc2 b o h w :=
  (congrFun (W9_of m ρ c main_v56_0 (by decide +kernel)) _).trans (at8_v56_0 m ρ c A R b o h w)

theorem at10_v82_0 (b : Fin 4) (o : Fin 96) (h w : Fin 224) :
    W10 m ρ c (Proc.devRef .tc main_v82_0) (ix4 b o h w) = A.kc3 b o h w :=
  (congrFun (W10_arr m ρ c 4) _).trans (r4_4 (V9 m ρ) c A.kc2 (at9_v56_0 m ρ c A R) (scl A.g8 (stat4 A.kc2)) (shf A.g8 A.b9 (stat4 A.kc2)) (at9_v80s m ρ c A R) (at9_v80t m ρ c A R) A.k10 (at9_v78 m ρ c A R) A.c11 (at9_v81 m ρ c A R) b o h w)

theorem at10_v82_1 (q : Fin 12) (r : Fin 2) (j : Fin 8) :
    W10 m ρ c (Proc.devRef .tc main_v82_1) (ix3 q r j) = stat4 A.kc3 r (q.val * 8 + j.val) :=
  (congrFun (W10_arr m ρ c 5) _).trans (r4_5 (V9 m ρ) c A.kc2 (at9_v56_0 m ρ c A R) (scl A.g8 (stat4 A.kc2)) (shf A.g8 A.b9 (stat4 A.kc2)) (at9_v80s m ρ c A R) (at9_v80t m ρ c A R) A.k10 (at9_v78 m ρ c A R) A.c11 (at9_v81 m ρ c A R) q r j)

theorem at11_v106s (q : Fin 12) (j : Fin 8) :
    W11 m ρ c (Proc.devRef .tc main_v106) (ix3 q 0 j) = scl A.g12 (stat4 A.kc3) (q.val * 8 + j.val) :=
  host5_scale (W10 m ρ c) (stat4 A.kc3) A.g12 (at10_v82_1 m ρ c A R) (fun o => (congrFun (W10_args m ρ c main_arg12 (by decide +kernel)) _).trans (R.r12 o)) q j

theorem at11_v106t (q : Fin 12) (j : Fin 8) :
    W11 m ρ c (Proc.devRef .tc main_v106) (ix3 q 1 j) = shf A.g12 A.b13 (stat4 A.kc3) (q.val * 8 + j.val) :=
  host5_shift (W10 m ρ c) (stat4 A.kc3) A.g12 A.b13 (at10_v82_1 m ρ c A R) (fun o => (congrFun (W10_args m ρ c main_arg12 (by decide +kernel)) _).trans (R.r12 o)) (fun o => (congrFun (W10_args m ρ c main_arg13 (by decide +kernel)) _).trans (R.r13 o)) q j

theorem at11_v104 (o : Fin 96) (t : Fin 5) :
    W11 m ρ c (Proc.devRef .tc main_v104) (ix2 o t) = A.k14 o t :=
  host5_taps (W10 m ρ c) A.k14 (fun o t => (congrFun (W10_args m ρ c main_arg14 (by decide +kernel)) _).trans (R.r14 o t)) o t

theorem at11_v107 (q : Fin 12) (j : Fin 8) :
    W11 m ρ c (Proc.devRef .tc main_v107) (ix3 q 0 j) = A.c15 (q.val * 8 + j.val) :=
  host5_bias (W10 m ρ c) A.c15 (fun o => (congrFun (W10_args m ρ c main_arg15 (by decide +kernel)) _).trans (R.r15 o)) q j

theorem at11_v82_0 (b : Fin 4) (o : Fin 96) (h w : Fin 224) :
    W11 m ρ c (Proc.devRef .tc main_v82_0) (ix4 b o h w) = A.kc3 b o h w :=
  (congrFun (W11_of m ρ c main_v82_0 (by decide +kernel)) _).trans (at10_v82_0 m ρ c A R b o h w)

theorem at12_v108_0 (b : Fin 4) (o : Fin 96) (h w : Fin 224) :
    W12 m ρ c (Proc.devRef .tc main_v108_0) (ix4 b o h w) = A.kc4 b o h w :=
  (congrFun (W12_arr m ρ c 4) _).trans (r5_4 (V11 m ρ) c A.kc3 (at11_v82_0 m ρ c A R) (scl A.g12 (stat4 A.kc3)) (shf A.g12 A.b13 (stat4 A.kc3)) (at11_v106s m ρ c A R) (at11_v106t m ρ c A R) A.k14 (at11_v104 m ρ c A R) A.c15 (at11_v107 m ρ c A R) b o h w)

theorem at12_v108_1 (q : Fin 12) (r : Fin 2) (j : Fin 8) :
    W12 m ρ c (Proc.devRef .tc main_v108_1) (ix3 q r j) = stat4 A.kc4 r (q.val * 8 + j.val) :=
  (congrFun (W12_arr m ρ c 5) _).trans (r5_5 (V11 m ρ) c A.kc3 (at11_v82_0 m ρ c A R) (scl A.g12 (stat4 A.kc3)) (shf A.g12 A.b13 (stat4 A.kc3)) (at11_v106s m ρ c A R) (at11_v106t m ρ c A R) A.k14 (at11_v104 m ρ c A R) A.c15 (at11_v107 m ρ c A R) q r j)

theorem at12_v3_3 (b : Fin 4) (u v : Fin 1) :
    W12 m ρ c (Proc.devRef .tc main_v3_3) (ix3 b u v) = lo A.ks b :=
  (congrFun (W12_of m ρ c main_v3_3 (by decide +kernel)) _).trans ((congrFun (W11_of m ρ c main_v3_3 (by decide +kernel)) _).trans ((congrFun (W10_of m ρ c main_v3_3 (by decide +kernel)) _).trans ((congrFun (W9_of m ρ c main_v3_3 (by decide +kernel)) _).trans ((congrFun (W8_of m ρ c main_v3_3 (by decide +kernel)) _).trans ((congrFun (W7_of m ρ c main_v3_3 (by decide +kernel)) _).trans ((congrFun (W6_of m ρ c main_v3_3 (by decide +kernel)) _).trans ((congrFun (W5_of m ρ c main_v3_3 (by decide +kernel)) _).trans (at4_v3_3 m ρ c A R b u v))))))))

theorem at12_v3_4 (b : Fin 4) (u v : Fin 1) :
    W12 m ρ c (Proc.devRef .tc main_v3_4) (ix3 b u v) = hi A.ks b :=
  (congrFun (W12_of m ρ c main_v3_4 (by decide +kernel)) _).trans ((congrFun (W11_of m ρ c main_v3_4 (by decide +kernel)) _).trans ((congrFun (W10_of m ρ c main_v3_4 (by decide +kernel)) _).trans ((congrFun (W9_of m ρ c main_v3_4 (by decide +kernel)) _).trans ((congrFun (W8_of m ρ c main_v3_4 (by decide +kernel)) _).trans ((congrFun (W7_of m ρ c main_v3_4 (by decide +kernel)) _).trans ((congrFun (W6_of m ρ c main_v3_4 (by decide +kernel)) _).trans ((congrFun (W5_of m ρ c main_v3_4 (by decide +kernel)) _).trans (at4_v3_4 m ρ c A R b u v))))))))

theorem at13_v129 (r : Fin 2) (o : Fin 96) :
    W13 m ρ c (Proc.devRef .tc main_v129) (ix2 r o) = A.last r o :=
  by
  revert r
  exact Fin.forall_fin_two.mpr ⟨host6_scale (W12 m ρ c) (stat4 A.kc4) A.g16 A.b17 (at12_v108_1 m ρ c A R) (fun o => (congrFun (W12_args m ρ c main_arg16 (by decide +kernel)) _).trans (R.r16 o)) (fun o => (congrFun (W12_args m ρ c main_arg17 (by decide +kernel)) _).trans (R.r17 o)) o, host6_shift (W12 m ρ c) (stat4 A.kc4) A.g16 A.b17 (at12_v108_1 m ρ c A R) (fun o => (congrFun (W12_args m ρ c main_arg16 (by decide +kernel)) _).trans (R.r16 o)) (fun o => (congrFun (W12_args m ρ c main_arg17 (by decide +kernel)) _).trans (R.r17 o)) o⟩

theorem at13_v130 (b : Fin 4) :
    W13 m ρ c (Proc.devRef .tc main_v130) (ix1 b) = lo A.ks b :=
  host6_v130 (W12 m ρ c) (lo A.ks) (fun b => at12_v3_3 m ρ c A R b 0 0) b

theorem at13_v131 (b : Fin 4) :
    W13 m ρ c (Proc.devRef .tc main_v131) (ix1 b) = hi A.ks b :=
  host6_v131 (W12 m ρ c) (hi A.ks) (fun b => at12_v3_4 m ρ c A R b 0 0) b

theorem at14_v132 (m' : Fin 10) :
    W14 m ρ c (Proc.devRef .tc main_v132) (ix1 m') = lsp m' :=
  host6_1_lsp (W13 m ρ c) (host6_c0 (W12 m ρ c)) (host6_c1 (W12 m ρ c)) m'

theorem at14_v130 (b : Fin 4) :
    W14 m ρ c (Proc.devRef .tc main_v130) (ix1 b) = lo A.ks b :=
  (congrFun (W14_of m ρ c main_v130 (by decide +kernel)) _).trans (at13_v130 m ρ c A R b)

theorem at14_v131 (b : Fin 4) :
    W14 m ρ c (Proc.devRef .tc main_v131) (ix1 b) = hi A.ks b :=
  (congrFun (W14_of m ρ c main_v131 (by decide +kernel)) _).trans (at13_v131 m ρ c A R b)

theorem at15_v141 (b : Fin 4) (k : Fin 10) :
    W15 m ρ c (Proc.devRef .tc main_v141) (ix2 b k) = level A.ks b k :=
  host6_2_level (W14 m ρ c) (lo A.ks) (hi A.ks) lsp (at14_v130 m ρ c A R) (at14_v131 m ρ c A R) (at14_v132 m ρ c A R) b k

theorem at15_v142 (b : Fin 4) (u : Fin 1) (k : Fin 10) :
    W15 m ρ c (Proc.devRef .tc main_v142) (ix3 b u k) = level A.ks b k :=
  by
  obtain rfl : u = 0 := Subsingleton.elim _ _
  exact host6_2_level3 (W14 m ρ c) (lo A.ks) (hi A.ks) lsp (at14_v130 m ρ c A R) (at14_v131 m ρ c A R) (at14_v132 m ρ c A R) b k

theorem at15_v3_1 (b : Fin 4) (u : Fin 1) (n : Fin 50176) :
    W15 m ρ c (Proc.devRef .tc main_v3_1) (ix3 b u n) = A.ks b n :=
  (congrFun (W15_of m ρ c main_v3_1 (by decide +kernel)) _).trans ((congrFun (W14_of m ρ c main_v3_1 (by decide +kernel)) _).trans ((congrFun (W13_of m ρ c main_v3_1 (by decide +kernel)) _).trans ((congrFun (W12_of m ρ c main_v3_1 (by decide +kernel)) _).trans ((congrFun (W11_of m ρ c main_v3_1 (by decide +kernel)) _).trans ((congrFun (W10_of m ρ c main_v3_1 (by decide +kernel)) _).trans ((congrFun (W9_of m ρ c main_v3_1 (by decide +kernel)) _).trans ((congrFun (W8_of m ρ c main_v3_1 (by decide +kernel)) _).trans ((congrFun (W7_of m ρ c main_v3_1 (by decide +kernel)) _).trans ((congrFun (W6_of m ρ c main_v3_1 (by decide +kernel)) _).trans ((congrFun (W5_of m ρ c main_v3_1 (by decide +kernel)) _).trans (at4_v3_1 m ρ c A R b u n)))))))))))

theorem at16_v143_0 (b : Fin 4) (n : Fin 50176) (k : Fin 10) :
    W16 m ρ c (Proc.devRef .tc main_v143_0) (ix3 b n k) = bins A.ks b n k :=
  (congrFun (W16_arr m ρ c 2) _).trans (r6_2 (V15 m ρ) c A.ks (at15_v3_1 m ρ c A R) (level A.ks) (at15_v142 m ρ c A R) b n k)

theorem at16_v143_1 (b : Fin 4) (u : Fin 1) (k : Fin 10) :
    W16 m ρ c (Proc.devRef .tc main_v143_1) (ix3 b u k) = binSum A.ks b k :=
  (congrFun (W16_arr m ρ c 3) _).trans ((r6_3 (V15 m ρ) c A.ks (at15_v3_1 m ρ c A R) (level A.ks) (at15_v142 m ρ c A R) b u k).trans (binSum_eq A.ks b k))

theorem at17_v144 (b : Fin 4) (k : Fin 10) (n : Fin 50176) :
    W17 m ρ c (Proc.devRef .tc main_v144) (ix3 b k n) = rows A.ks b k n :=
  host7 (W16 m ρ c) (bins A.ks) (at16_v143_0 m ρ c A R) b k n

theorem at18_v145_0 (b : Fin 4) (k l : Fin 10) :
    W18 m ρ c (Proc.devRef .tc main_v145_0) (ix3 b k l) = gram (rows A.ks) b k l :=
  (congrFun (W18_arr m ρ c 1) _).trans (r7_1 (V17 m ρ) c (rows A.ks) (at17_v144 m ρ c A R) b k l)

theorem at18_v145_1 (b : Fin 4) (u : Fin 1) (k : Fin 10) :
    W18 m ρ c (Proc.devRef .tc main_v145_1) (ix3 b u k) = rowSum (rows A.ks) b k :=
  (congrFun (W18_arr m ρ c 2) _).trans (r7_2 (V17 m ρ) c (rows A.ks) (at17_v144 m ρ c A R) b u k)

theorem at18_v141 (b : Fin 4) (k : Fin 10) :
    W18 m ρ c (Proc.devRef .tc main_v141) (ix2 b k) = level A.ks b k :=
  (congrFun (W18_of m ρ c main_v141 (by decide +kernel)) _).trans ((congrFun (W17_of m ρ c main_v141 (by decide +kernel)) _).trans ((congrFun (W16_of m ρ c main_v141 (by decide +kernel)) _).trans (at15_v141 m ρ c A R b k)))

theorem at18_v143_1 (b : Fin 4) (u : Fin 1) (k : Fin 10) :
    W18 m ρ c (Proc.devRef .tc main_v143_1) (ix3 b u k) = binSum A.ks b k :=
  (congrFun (W18_of m ρ c main_v143_1 (by decide +kernel)) _).trans ((congrFun (W17_of m ρ c main_v143_1 (by decide +kernel)) _).trans (at16_v143_1 m ρ c A R b u k))

theorem at19_v154 (r : Fin 40) (q : Fin 2) :
    W19 m ρ c (Proc.devRef .tc main_v154) (ix2 r q) = pair A.ks r q :=
  by
  revert q
  exact Fin.forall_fin_two.mpr ⟨(host8_share (W18 m ρ c) (binSum A.ks) (fun b k => at18_v143_1 m ρ c A R b 0 k) r).trans (pair_zero A.ks r).symm,
    (host8_level (W18 m ρ c) (level A.ks) (at18_v141 m ρ c A R) r).trans (pair_one A.ks r).symm⟩

theorem at19_v155 (q : Fin 2) (o : Fin 96) :
    W19 m ρ c (Proc.devRef .tc main_v155) (ix2 q o) = A.f18 q o :=
  host8_weight (W18 m ρ c) A.f18 (fun o k => (congrFun (W18_args m ρ c main_arg18 (by decide +kernel)) _).trans (R.r18 o k)) q o

theorem at19_v156 (u : Fin 1) (o : Fin 96) :
    W19 m ρ c (Proc.devRef .tc main_v156) (ix2 u o) = A.b19 o :=
  by
  obtain rfl : u = 0 := Subsingleton.elim _ _
  exact host8_bias (W18 m ρ c) A.b19 (fun o => (congrFun (W18_args m ρ c main_arg19 (by decide +kernel)) _).trans (R.r19 o)) o

theorem at20_v157 (r : Fin 40) (o : Fin 96) :
    W20 m ρ c (Proc.devRef .tc main_v157) (ix2 r o) = fc (pair A.ks) A.f18 A.b19 r o :=
  (congrFun (W20_arr m ρ c 3) _).trans (arr8_3 (V19 m ρ) c (pair A.ks) (at19_v154 m ρ c A R) A.f18 (at19_v155 m ρ c A R) A.b19 (at19_v156 m ρ c A R) r o)

theorem at20_v145_1 (b : Fin 4) (u : Fin 1) (k : Fin 10) :
    W20 m ρ c (Proc.devRef .tc main_v145_1) (ix3 b u k) = rowSum (rows A.ks) b k :=
  (congrFun (W20_of m ρ c main_v145_1 (by decide +kernel)) _).trans ((congrFun (W19_of m ρ c main_v145_1 (by decide +kernel)) _).trans (at18_v145_1 m ρ c A R b u k))

theorem at21_v158 (b : Fin 4) (o : Fin 96) (k : Fin 10) :
    W21 m ρ c (Proc.devRef .tc main_v158) (ix3 b o k) = feat A.ks A.f18 A.b19 b o k :=
  host9_ch (W20 m ρ c) (fc (pair A.ks) A.f18 A.b19) (at20_v157 m ρ c A R) b o k

theorem at21_v162 (r : Fin 3) (o : Fin 96) :
    W21 m ρ c (Proc.devRef .tc main_v162) (ix2 r o) = A.bp r o :=
  by
  match r with
  | 0 => exact host9_bp0 (W20 m ρ c) A.b21 (fun o => (congrFun (W20_args m ρ c main_arg21 (by decide +kernel)) _).trans (R.r21 o)) o
  | 1 => exact host9_bp1 (W20 m ρ c) A.b23 (fun o => (congrFun (W20_args m ρ c main_arg23 (by decide +kernel)) _).trans (R.r23 o)) o
  | 2 => exact host9_bp2 (W20 m ρ c) A.b25 (fun o => (congrFun (W20_args m ρ c main_arg25 (by decide +kernel)) _).trans (R.r25 o)) o

theorem at21_v163 (b : Fin 4) (k : Fin 10) :
    W21 m ρ c (Proc.devRef .tc main_v163) (ix2 b k) = rowSum (rows A.ks) b k :=
  host9_rs (W20 m ρ c) (rowSum (rows A.ks)) (fun b k => at20_v145_1 m ρ c A R b 0 k) b k

theorem at21_v166 (r : Fin 2) (o : Fin 96) :
    W21 m ρ c (Proc.devRef .tc main_v166) (ix2 r o) = A.bn r o :=
  by
  revert r
  exact Fin.forall_fin_two.mpr ⟨host9_bn0 (W20 m ρ c) A.g27 (fun o => (congrFun (W20_args m ρ c main_arg27 (by decide +kernel)) _).trans (R.r27 o)) o, host9_bn1 (W20 m ρ c) A.b28 (fun o => (congrFun (W20_args m ρ c main_arg28 (by decide +kernel)) _).trans (R.r28 o)) o⟩

theorem at21_v145_0 (b : Fin 4) (k l : Fin 10) :
    W21 m ρ c (Proc.devRef .tc main_v145_0) (ix3 b k l) = gram (rows A.ks) b k l :=
  (congrFun (W21_of m ρ c main_v145_0 (by decide +kernel)) _).trans ((congrFun (W20_of m ρ c main_v145_0 (by decide +kernel)) _).trans ((congrFun (W19_of m ρ c main_v145_0 (by decide +kernel)) _).trans (at18_v145_0 m ρ c A R b k l)))

theorem at22_v167_0 (b : Fin 4) (o : Fin 96) (k : Fin 10) :
    W22 m ρ c (Proc.devRef .tc main_v167_0) (ix3 b o k) = A.lq b o k :=
  (congrFun (W22_arr m ρ c 8) _).trans (arr9_8 (V21 m ρ) c (feat A.ks A.f18 A.b19) A.p20 A.p22 A.p24 A.bp (rowSum (rows A.ks)) (gram (rows A.ks)) A.bn (at21_v158 m ρ c A R) (fun o i => (congrFun (W21_args m ρ c main_arg20 (by decide +kernel)) _).trans (R.r20 o i)) (fun o i => (congrFun (W21_args m ρ c main_arg22 (by decide +kernel)) _).trans (R.r22 o i)) (fun o i => (congrFun (W21_args m ρ c main_arg24 (by decide +kernel)) _).trans (R.r24 o i)) (at21_v162 m ρ c A R) (at21_v163 m ρ c A R) (at21_v145_0 m ρ c A R) (at21_v166 m ρ c A R) b o k)

theorem at22_v167_1 (u : Fin 1) (o : Fin 96) :
    W22 m ρ c (Proc.devRef .tc main_v167_1) (ix2 u o) = A.lc o :=
  (congrFun (W22_arr m ρ c 9) _).trans (arr9_9 (V21 m ρ) c (feat A.ks A.f18 A.b19) A.p20 A.p22 A.p24 A.bp (rowSum (rows A.ks)) (gram (rows A.ks)) A.bn (at21_v158 m ρ c A R) (fun o i => (congrFun (W21_args m ρ c main_arg20 (by decide +kernel)) _).trans (R.r20 o i)) (fun o i => (congrFun (W21_args m ρ c main_arg22 (by decide +kernel)) _).trans (R.r22 o i)) (fun o i => (congrFun (W21_args m ρ c main_arg24 (by decide +kernel)) _).trans (R.r24 o i)) (at21_v162 m ρ c A R) (at21_v163 m ρ c A R) (at21_v145_0 m ρ c A R) (at21_v166 m ρ c A R) u o)

theorem at22_v129 (r : Fin 2) (o : Fin 96) :
    W22 m ρ c (Proc.devRef .tc main_v129) (ix2 r o) = A.last r o :=
  (congrFun (W22_of m ρ c main_v129 (by decide +kernel)) _).trans ((congrFun (W21_of m ρ c main_v129 (by decide +kernel)) _).trans ((congrFun (W20_of m ρ c main_v129 (by decide +kernel)) _).trans ((congrFun (W19_of m ρ c main_v129 (by decide +kernel)) _).trans ((congrFun (W18_of m ρ c main_v129 (by decide +kernel)) _).trans ((congrFun (W17_of m ρ c main_v129 (by decide +kernel)) _).trans ((congrFun (W16_of m ρ c main_v129 (by decide +kernel)) _).trans ((congrFun (W15_of m ρ c main_v129 (by decide +kernel)) _).trans ((congrFun (W14_of m ρ c main_v129 (by decide +kernel)) _).trans (at13_v129 m ρ c A R r o)))))))))

theorem at22_v3_5 (b : Fin 4) (u v : Fin 1) :
    W22 m ρ c (Proc.devRef .tc main_v3_5) (ix3 b u v) = tot 0 A.ks b :=
  (congrFun (W22_of m ρ c main_v3_5 (by decide +kernel)) _).trans ((congrFun (W21_of m ρ c main_v3_5 (by decide +kernel)) _).trans ((congrFun (W20_of m ρ c main_v3_5 (by decide +kernel)) _).trans ((congrFun (W19_of m ρ c main_v3_5 (by decide +kernel)) _).trans ((congrFun (W18_of m ρ c main_v3_5 (by decide +kernel)) _).trans ((congrFun (W17_of m ρ c main_v3_5 (by decide +kernel)) _).trans ((congrFun (W16_of m ρ c main_v3_5 (by decide +kernel)) _).trans ((congrFun (W15_of m ρ c main_v3_5 (by decide +kernel)) _).trans ((congrFun (W14_of m ρ c main_v3_5 (by decide +kernel)) _).trans ((congrFun (W13_of m ρ c main_v3_5 (by decide +kernel)) _).trans ((congrFun (W12_of m ρ c main_v3_5 (by decide +kernel)) _).trans ((congrFun (W11_of m ρ c main_v3_5 (by decide +kernel)) _).trans ((congrFun (W10_of m ρ c main_v3_5 (by decide +kernel)) _).trans ((congrFun (W9_of m ρ c main_v3_5 (by decide +kernel)) _).trans ((congrFun (W8_of m ρ c main_v3_5 (by decide +kernel)) _).trans ((congrFun (W7_of m ρ c main_v3_5 (by decide +kernel)) _).trans ((congrFun (W6_of m ρ c main_v3_5 (by decide +kernel)) _).trans ((congrFun (W5_of m ρ c main_v3_5 (by decide +kernel)) _).trans (at4_v3_5 m ρ c A R b u v))))))))))))))))))

theorem at22_v3_6 (b : Fin 4) (u v : Fin 1) :
    W22 m ρ c (Proc.devRef .tc main_v3_6) (ix3 b u v) = tot 1 A.ks b :=
  (congrFun (W22_of m ρ c main_v3_6 (by decide +kernel)) _).trans ((congrFun (W21_of m ρ c main_v3_6 (by decide +kernel)) _).trans ((congrFun (W20_of m ρ c main_v3_6 (by decide +kernel)) _).trans ((congrFun (W19_of m ρ c main_v3_6 (by decide +kernel)) _).trans ((congrFun (W18_of m ρ c main_v3_6 (by decide +kernel)) _).trans ((congrFun (W17_of m ρ c main_v3_6 (by decide +kernel)) _).trans ((congrFun (W16_of m ρ c main_v3_6 (by decide +kernel)) _).trans ((congrFun (W15_of m ρ c main_v3_6 (by decide +kernel)) _).trans ((congrFun (W14_of m ρ c main_v3_6 (by decide +kernel)) _).trans ((congrFun (W13_of m ρ c main_v3_6 (by decide +kernel)) _).trans ((congrFun (W12_of m ρ c main_v3_6 (by decide +kernel)) _).trans ((congrFun (W11_of m ρ c main_v3_6 (by decide +kernel)) _).trans ((congrFun (W10_of m ρ c main_v3_6 (by decide +kernel)) _).trans ((congrFun (W9_of m ρ c main_v3_6 (by decide +kernel)) _).trans ((congrFun (W8_of m ρ c main_v3_6 (by decide +kernel)) _).trans ((congrFun (W7_of m ρ c main_v3_6 (by decide +kernel)) _).trans ((congrFun (W6_of m ρ c main_v3_6 (by decide +kernel)) _).trans ((congrFun (W5_of m ρ c main_v3_6 (by decide +kernel)) _).trans (at4_v3_6 m ρ c A R b u v))))))))))))))))))

theorem at22_v108_0 (b : Fin 4) (o : Fin 96) (h w : Fin 224) :
    W22 m ρ c (Proc.devRef .tc main_v108_0) (ix4 b o h w) = A.kc4 b o h w :=
  (congrFun (W22_of m ρ c main_v108_0 (by decide +kernel)) _).trans ((congrFun (W21_of m ρ c main_v108_0 (by decide +kernel)) _).trans ((congrFun (W20_of m ρ c main_v108_0 (by decide +kernel)) _).trans ((congrFun (W19_of m ρ c main_v108_0 (by decide +kernel)) _).trans ((congrFun (W18_of m ρ c main_v108_0 (by decide +kernel)) _).trans ((congrFun (W17_of m ρ c main_v108_0 (by decide +kernel)) _).trans ((congrFun (W16_of m ρ c main_v108_0 (by decide +kernel)) _).trans ((congrFun (W15_of m ρ c main_v108_0 (by decide +kernel)) _).trans ((congrFun (W14_of m ρ c main_v108_0 (by decide +kernel)) _).trans ((congrFun (W13_of m ρ c main_v108_0 (by decide +kernel)) _).trans (at12_v108_0 m ρ c A R b o h w))))))))))

theorem at23_c0 (o : Fin 96) :
    W23 m ρ c (Proc.devRef .tc main_v201) (ix2 0 o) = A.last 0 o :=
  host10_c0 (W22 m ρ c) A.last (at22_v129 m ρ c A R) o

theorem at23_c1 (o : Fin 96) :
    W23 m ρ c (Proc.devRef .tc main_v201) (ix2 1 o) = A.last 1 o :=
  host10_c1 (W22 m ρ c) A.last (at22_v129 m ρ c A R) o

theorem at23_c2 (o : Fin 96) :
    W23 m ρ c (Proc.devRef .tc main_v201) (ix2 2 o) = satA (A.g29 o) (A.w26 o) (sum4 (tot 0 A.ks)) (sum4 (tot 1 A.ks)) * A.w26 o :=
  host10_c2 (W22 m ρ c) (tot 0 A.ks) (tot 1 A.ks) A.w26 A.g29 (fun b => at22_v3_5 m ρ c A R b 0 0) (fun b => at22_v3_6 m ρ c A R b 0 0) (fun o => (congrFun (W22_args m ρ c main_arg26 (by decide +kernel)) _).trans (R.r26 o)) (fun o => (congrFun (W22_args m ρ c main_arg29 (by decide +kernel)) _).trans (R.r29 o)) o

theorem at23_c3 (o : Fin 96) :
    W23 m ρ c (Proc.devRef .tc main_v201) (ix2 3 o) = A.b30 o - A.w26 o * Ideal.div (sum4 (tot 0 A.ks)) nTot * satA (A.g29 o) (A.w26 o) (sum4 (tot 0 A.ks)) (sum4 (tot 1 A.ks)) :=
  host10_c3 (W22 m ρ c) (tot 0 A.ks) (tot 1 A.ks) A.w26 A.g29 A.b30 (fun b => at22_v3_5 m ρ c A R b 0 0) (fun b => at22_v3_6 m ρ c A R b 0 0) (fun o => (congrFun (W22_args m ρ c main_arg26 (by decide +kernel)) _).trans (R.r26 o)) (fun o => (congrFun (W22_args m ρ c main_arg29 (by decide +kernel)) _).trans (R.r29 o)) (fun o => (congrFun (W22_args m ρ c main_arg30 (by decide +kernel)) _).trans (R.r30 o)) o

theorem at23_c4 (o : Fin 96) :
    W23 m ρ c (Proc.devRef .tc main_v201) (ix2 4 o) = A.lc o :=
  host10_c4 (W22 m ρ c) A.lc (fun o => at22_v167_1 m ρ c A R 0 o) o

theorem at23_v202 (b : Fin 4) (o : Fin 96) (n : Fin 50176) :
    W23 m ρ c (Proc.devRef .tc main_v202) (ix3 b o n) = A.kc4 b o (n.val / 224) (n.val % 224) :=
  host10_h (W22 m ρ c) A.kc4 (at22_v108_0 m ρ c A R) b o n

theorem at23_v0 (b : Fin 4) (o : Fin 96) (n : Fin 50176) :
    W23 m ρ c (Proc.devRef .tc main_v0) (ix3 b o n) = flat A.x b o n :=
  (congrFun (W23_of m ρ c main_v0 (by decide +kernel)) _).trans ((congrFun (W22_of m ρ c main_v0 (by decide +kernel)) _).trans ((congrFun (W21_of m ρ c main_v0 (by decide +kernel)) _).trans ((congrFun (W20_of m ρ c main_v0 (by decide +kernel)) _).trans ((congrFun (W19_of m ρ c main_v0 (by decide +kernel)) _).trans ((congrFun (W18_of m ρ c main_v0 (by decide +kernel)) _).trans ((congrFun (W17_of m ρ c main_v0 (by decide +kernel)) _).trans ((congrFun (W16_of m ρ c main_v0 (by decide +kernel)) _).trans ((congrFun (W15_of m ρ c main_v0 (by decide +kernel)) _).trans ((congrFun (W14_of m ρ c main_v0 (by decide +kernel)) _).trans ((congrFun (W13_of m ρ c main_v0 (by decide +kernel)) _).trans ((congrFun (W12_of m ρ c main_v0 (by decide +kernel)) _).trans ((congrFun (W11_of m ρ c main_v0 (by decide +kernel)) _).trans ((congrFun (W10_of m ρ c main_v0 (by decide +kernel)) _).trans ((congrFun (W9_of m ρ c main_v0 (by decide +kernel)) _).trans ((congrFun (W8_of m ρ c main_v0 (by decide +kernel)) _).trans ((congrFun (W7_of m ρ c main_v0 (by decide +kernel)) _).trans ((congrFun (W6_of m ρ c main_v0 (by decide +kernel)) _).trans ((congrFun (W5_of m ρ c main_v0 (by decide +kernel)) _).trans ((congrFun (W4_of m ρ c main_v0 (by decide +kernel)) _).trans (at3_v0 m ρ c A R b o n))))))))))))))))))))

theorem at23_v3_1 (b : Fin 4) (u : Fin 1) (n : Fin 50176) :
    W23 m ρ c (Proc.devRef .tc main_v3_1) (ix3 b u n) = A.ks b n :=
  (congrFun (W23_of m ρ c main_v3_1 (by decide +kernel)) _).trans ((congrFun (W22_of m ρ c main_v3_1 (by decide +kernel)) _).trans ((congrFun (W21_of m ρ c main_v3_1 (by decide +kernel)) _).trans ((congrFun (W20_of m ρ c main_v3_1 (by decide +kernel)) _).trans ((congrFun (W19_of m ρ c main_v3_1 (by decide +kernel)) _).trans ((congrFun (W18_of m ρ c main_v3_1 (by decide +kernel)) _).trans ((congrFun (W17_of m ρ c main_v3_1 (by decide +kernel)) _).trans ((congrFun (W16_of m ρ c main_v3_1 (by decide +kernel)) _).trans (at15_v3_1 m ρ c A R b u n))))))))

theorem at23_v144 (b : Fin 4) (k : Fin 10) (n : Fin 50176) :
    W23 m ρ c (Proc.devRef .tc main_v144) (ix3 b k n) = rows A.ks b k n :=
  (congrFun (W23_of m ρ c main_v144 (by decide +kernel)) _).trans ((congrFun (W22_of m ρ c main_v144 (by decide +kernel)) _).trans ((congrFun (W21_of m ρ c main_v144 (by decide +kernel)) _).trans ((congrFun (W20_of m ρ c main_v144 (by decide +kernel)) _).trans ((congrFun (W19_of m ρ c main_v144 (by decide +kernel)) _).trans ((congrFun (W18_of m ρ c main_v144 (by decide +kernel)) _).trans (at17_v144 m ρ c A R b k n))))))

theorem at23_v167_0 (b : Fin 4) (o : Fin 96) (k : Fin 10) :
    W23 m ρ c (Proc.devRef .tc main_v167_0) (ix3 b o k) = A.lq b o k :=
  (congrFun (W23_of m ρ c main_v167_0 (by decide +kernel)) _).trans (at22_v167_0 m ρ c A R b o k)

theorem at24_v203 (b : Fin 4) (o : Fin 96) (n : Fin 50176) :
    W24 m ρ c (Proc.devRef .tc main_v203) (ix3 b o n) = A.kN b o n :=
  by
  obtain ⟨cp, hc⟩ : ∃ cp : ℕ → ℕ → EReal, ∀ (r : Fin 6) (o : Fin 96), W23 m ρ c (Proc.devRef .tc main_v201) (ix2 r o) = cp r o :=
    ⟨fun r o => W23 m ρ c (Proc.devRef .tc main_v201) (ix2 (Fin.ofNat 6 r) (Fin.ofNat 96 o)), fun r o => by
      simp only [Fin.ofNat_val_eq_self]⟩
  refine ((congrFun (W24_arr m ρ c 6) _).trans (arr10_6 (V23 m ρ) c (flat A.x) (at23_v0 m ρ c A R) (fun b o n => A.kc4 b o (n / 224) (n % 224)) (at23_v202 m ρ c A R) A.ks (at23_v3_1 m ρ c A R) (rows A.ks) (at23_v144 m ρ c A R) A.lq (at23_v167_0 m ρ c A R) cp hc b o n)).trans ?_
  have h0 : cp 0 o = A.last 0 o := (hc 0 o).symm.trans (at23_c0 m ρ c A R o)
  have h1 : cp 1 o = A.last 1 o := (hc 1 o).symm.trans (at23_c1 m ρ c A R o)
  have h2 : cp 2 o = _ := (hc 2 o).symm.trans (at23_c2 m ρ c A R o)
  have h3 : cp 3 o = _ := (hc 3 o).symm.trans (at23_c3 m ρ c A R o)
  have h4 : cp 4 o = A.lc o := (hc 4 o).symm.trans (at23_c4 m ρ c A R o)
  rw [h0, h1, h2, h3, h4]
  rfl

theorem at25_v204 (b : Fin 4) (o : Fin 96) (h w : Fin 224) :
    W25 m ρ c (Proc.devRef .tc main_v204) (ix4 b o h w) = A.kOut b o h w :=
  (host11 (W24 m ρ c) A.kN (at24_v203 m ρ c A R) b o h w).trans (A.kN_eq b o h w h.isLt w.isLt)

end Cert.KVal
-- ==== Proof.Bounded.lean ====
/-
  The precondition makes every argument finite.
-/
module

public import proofs.«01_k».proof.Proof.RefTop
public import proofs.«01_k».proof.Proof.Gen.Pre_bounded
public import Idealize.ShloMosaic.Lib.ReduceAll

@[expose] public section

set_option maxRecDepth 16384

noncomputable section

namespace Cert.KVal

open Idealize.ShloMosaic

/-- A value at most the largest finite float in magnitude is finite. -/
theorem fn_of_abs_le (x : EReal) (h : max x (-x) ≤ Ideal.ofBits .f32 0x7F7FFFFF#32) : Fn x := by
  have hb : ∃ r : ℝ, Ideal.ofBits .f32 0x7F7FFFFF#32 = r := by
    simp only [Ideal.ofBits, Ideal.ieee]
    simp
    exact ⟨_, (EReal.coe_mul _ _).symm⟩
  obtain ⟨r, hr⟩ := hb
  rw [hr] at h
  have ht : x ≠ ⊤ := by
    rintro rfl
    exact absurd (lt_of_le_of_lt ((le_max_left _ _).trans h) (EReal.coe_lt_top r)) (lt_irrefl _)
  have hn : x ≠ ⊥ := by
    rintro rfl
    exact absurd (lt_of_le_of_lt ((le_max_right _ _).trans h) (EReal.coe_lt_top r)) (by simp)
  exact ⟨x.toReal, (EReal.coe_toReal ht hn).symm⟩

theorem all_fn {s : Shape} {axes : List (Fin s.rank)} (bc : Cert.Pre_bounded.S_.BroadcastsInDim s (![] : Fin 0 → Fin s.rank))
    (rd : s.ReducesTo axes Cert.Pre_bounded.S_) (hu : 0 < Cert.Pre_bounded.S_.numel) (x : FVec Ideal s .f32) (j : Cert.Pre_bounded.S_.Idx)
    (e : Host.reduce IntOp.andi (cmpf .ole (Host.absf x) (broadcastInDim s ![] bc (constant Cert.Pre_bounded.S_ .f32 0x7F7FFFFF#32)))
      (constantI Cert.Pre_bounded.S_ 1 1#1) rd hu j = 1#1) (i : s.Idx) : Fn (x i) := by
  have : Subsingleton Cert.Pre_bounded.S_.Idx := ⟨fun a b => funext fun k => k.elim0⟩
  have h := Host.reduce_andi_all _ _ _ _ j e i
  refine fn_of_abs_le _ ?_
  by_contra hc
  revert h
  show ¬ BitVec.ofBool (decide (max (x i) (-x i) ≤ Ideal.ofBits .f32 0x7F7FFFFF#32)) = 1#1
  simp [hc]

theorem finite_of_bounded [Cert.Pre_bounded.Facts] (x0 : (⟨Cert.ReferenceIdeal.S4x96x224x224, .f32⟩ : BufTy).Contents (Elt Ideal)) (x1 : (⟨Cert.ReferenceIdeal.S96x96x1x1, .f32⟩ : BufTy).Contents (Elt Ideal)) (x2 x3 : (⟨Cert.ReferenceIdeal.S96, .f32⟩ : BufTy).Contents (Elt Ideal)) (x4 : (⟨Cert.ReferenceIdeal.S96x1x1x5, .f32⟩ : BufTy).Contents (Elt Ideal)) (x5 x6 : (⟨Cert.ReferenceIdeal.S96, .f32⟩ : BufTy).Contents (Elt Ideal)) (x7 : (⟨Cert.ReferenceIdeal.S96x1x5x1, .f32⟩ : BufTy).Contents (Elt Ideal)) (x8 x9 : (⟨Cert.ReferenceIdeal.S96, .f32⟩ : BufTy).Contents (Elt Ideal)) (x10 : (⟨Cert.ReferenceIdeal.S96x1x1x5, .f32⟩ : BufTy).Contents (Elt Ideal)) (x11 x12 x13 : (⟨Cert.ReferenceIdeal.S96, .f32⟩ : BufTy).Contents (Elt Ideal)) (x14 : (⟨Cert.ReferenceIdeal.S96x1x5x1, .f32⟩ : BufTy).Contents (Elt Ideal)) (x15 x16 x17 : (⟨Cert.ReferenceIdeal.S96, .f32⟩ : BufTy).Contents (Elt Ideal)) (x18 : (⟨Cert.ReferenceIdeal.S96x2, .f32⟩ : BufTy).Contents (Elt Ideal)) (x19 : (⟨Cert.ReferenceIdeal.S96, .f32⟩ : BufTy).Contents (Elt Ideal)) (x20 : (⟨Cert.ReferenceIdeal.S96x96, .f32⟩ : BufTy).Contents (Elt Ideal)) (x21 : (⟨Cert.ReferenceIdeal.S96, .f32⟩ : BufTy).Contents (Elt Ideal)) (x22 : (⟨Cert.ReferenceIdeal.S96x96, .f32⟩ : BufTy).Contents (Elt Ideal)) (x23 : (⟨Cert.ReferenceIdeal.S96, .f32⟩ : BufTy).Contents (Elt Ideal)) (x24 : (⟨Cert.ReferenceIdeal.S96x96, .f32⟩ : BufTy).Contents (Elt Ideal)) (x25 : (⟨Cert.ReferenceIdeal.S96, .f32⟩ : BufTy).Contents (Elt Ideal)) (x26 : (⟨Cert.ReferenceIdeal.S96x1x1x1, .f32⟩ : BufTy).Contents (Elt Ideal)) (x27 x28 x29 x30 : (⟨Cert.ReferenceIdeal.S96, .f32⟩ : BufTy).Contents (Elt Ideal))
    (e : Cert.Pre_bounded.fn (F := Ideal) x0 x1 x2 x3 x4 x5 x6 x7 x8 x9 x10 x11 x12 x13 x14 x15 x16 x17 x18 x19 x20 x21 x22 x23 x24 x25 x26 x27 x28 x29 x30 = fun _ => 1#1) : (argsOf x0 x1 x2 x3 x4 x5 x6 x7 x8 x9 x10 x11 x12 x13 x14 x15 x16 x17 x18 x19 x20 x21 x22 x23 x24 x25 x26 x27 x28 x29 x30).Finite := by
  have h := congrFun e (fun k => k.elim0)
  dsimp only [Cert.Pre_bounded.fn, Cert.Pre_bounded.fn_part1, Cert.Pre_bounded.fn_part2, Cert.Pre_bounded.fn_part3, Cert.Pre_bounded.fn_part4, Cert.Pre_bounded.fn_part5, Cert.Pre_bounded.fn_part6, Cert.Pre_bounded.fn_part7, Cert.Pre_bounded.fn_part8] at h
  simp only [andi, IntOp.andi_eq_one] at h
  obtain ⟨⟨⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩ := h
  exact finite_argsOf x0 x1 x2 x3 x4 x5 x6 x7 x8 x9 x10 x11 x12 x13 x14 x15 x16 x17 x18 x19 x20 x21 x22 x23 x24 x25 x26 x27 x28 x29 x30
    (all_fn _ _ _ _ _ h0) (all_fn _ _ _ _ _ h1) (all_fn _ _ _ _ _ h2) (all_fn _ _ _ _ _ h3) (all_fn _ _ _ _ _ h4) (all_fn _ _ _ _ _ h5) (all_fn _ _ _ _ _ h6) (all_fn _ _ _ _ _ h7) (all_fn _ _ _ _ _ h8) (all_fn _ _ _ _ _ h9) (all_fn _ _ _ _ _ h10) (all_fn _ _ _ _ _ h11) (all_fn _ _ _ _ _ h12) (all_fn _ _ _ _ _ h13) (all_fn _ _ _ _ _ h14) (all_fn _ _ _ _ _ h15) (all_fn _ _ _ _ _ h16) (all_fn _ _ _ _ _ h17) (all_fn _ _ _ _ _ h18) (all_fn _ _ _ _ _ h19) (all_fn _ _ _ _ _ h20) (all_fn _ _ _ _ _ h21) (all_fn _ _ _ _ _ h22) (all_fn _ _ _ _ _ h23) (all_fn _ _ _ _ _ h24) (all_fn _ _ _ _ _ h25) (all_fn _ _ _ _ _ h26) (all_fn _ _ _ _ _ h27) (all_fn _ _ _ _ _ h28) (all_fn _ _ _ _ _ h29) (all_fn _ _ _ _ _ h30)

end Cert.KVal
-- ==== Proof.Top.lean ====
/-
  The kernel's result is the reference's, for finite arguments.
-/
module

public import proofs.«01_k».proof.Proof.Chain
public import proofs.«01_k».proof.Proof.Bounded

@[expose] public section

set_option maxRecDepth 16384

noncomputable section

namespace Cert.KVal

open Cert.KernelIdeal Cert.KernelIdeal.Gen
open Idealize.ShloMosaic Idealize.ShloMosaic.TcCoe Idealize.ShloMosaic.Tactic

theorem value [Cert.Pre_bounded.Facts] (m : (ℓ : Loc nD τ sig) → Buf (Elt Ideal) ℓ) (ρ : Dev nD → PrngReg) (c : Dev nD)
    (h : Cert.Pre_bounded.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) = fun _ => 1#1)
    {x0 : (⟨Cert.ReferenceIdeal.S4x96x224x224, .f32⟩ : BufTy).Contents (Elt Ideal)} {x1 : (⟨Cert.ReferenceIdeal.S96x96x1x1, .f32⟩ : BufTy).Contents (Elt Ideal)} {x2 x3 : (⟨Cert.ReferenceIdeal.S96, .f32⟩ : BufTy).Contents (Elt Ideal)} {x4 : (⟨Cert.ReferenceIdeal.S96x1x1x5, .f32⟩ : BufTy).Contents (Elt Ideal)} {x5 x6 : (⟨Cert.ReferenceIdeal.S96, .f32⟩ : BufTy).Contents (Elt Ideal)} {x7 : (⟨Cert.ReferenceIdeal.S96x1x5x1, .f32⟩ : BufTy).Contents (Elt Ideal)} {x8 x9 : (⟨Cert.ReferenceIdeal.S96, .f32⟩ : BufTy).Contents (Elt Ideal)} {x10 : (⟨Cert.ReferenceIdeal.S96x1x1x5, .f32⟩ : BufTy).Contents (Elt Ideal)} {x11 x12 x13 : (⟨Cert.ReferenceIdeal.S96, .f32⟩ : BufTy).Contents (Elt Ideal)} {x14 : (⟨Cert.ReferenceIdeal.S96x1x5x1, .f32⟩ : BufTy).Contents (Elt Ideal)} {x15 x16 x17 : (⟨Cert.ReferenceIdeal.S96, .f32⟩ : BufTy).Contents (Elt Ideal)} {x18 : (⟨Cert.ReferenceIdeal.S96x2, .f32⟩ : BufTy).Contents (Elt Ideal)} {x19 : (⟨Cert.ReferenceIdeal.S96, .f32⟩ : BufTy).Contents (Elt Ideal)} {x20 : (⟨Cert.ReferenceIdeal.S96x96, .f32⟩ : BufTy).Contents (Elt Ideal)} {x21 : (⟨Cert.ReferenceIdeal.S96, .f32⟩ : BufTy).Contents (Elt Ideal)} {x22 : (⟨Cert.ReferenceIdeal.S96x96, .f32⟩ : BufTy).Contents (Elt Ideal)} {x23 : (⟨Cert.ReferenceIdeal.S96, .f32⟩ : BufTy).Contents (Elt Ideal)} {x24 : (⟨Cert.ReferenceIdeal.S96x96, .f32⟩ : BufTy).Contents (Elt Ideal)} {x25 : (⟨Cert.ReferenceIdeal.S96, .f32⟩ : BufTy).Contents (Elt Ideal)} {x26 : (⟨Cert.ReferenceIdeal.S96x1x1x1, .f32⟩ : BufTy).Contents (Elt Ideal)} {x27 x28 x29 x30 : (⟨Cert.ReferenceIdeal.S96, .f32⟩ : BufTy).Contents (Elt Ideal)}
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) (e8 : x8 = m ((c.tc : Thread nD τ).loc main_arg8)) (e9 : x9 = m ((c.tc : Thread nD τ).loc main_arg9)) (e10 : x10 = m ((c.tc : Thread nD τ).loc main_arg10)) (e11 : x11 = m ((c.tc : Thread nD τ).loc main_arg11)) (e12 : x12 = m ((c.tc : Thread nD τ).loc main_arg12)) (e13 : x13 = m ((c.tc : Thread nD τ).loc main_arg13)) (e14 : x14 = m ((c.tc : Thread nD τ).loc main_arg14)) (e15 : x15 = m ((c.tc : Thread nD τ).loc main_arg15)) (e16 : x16 = m ((c.tc : Thread nD τ).loc main_arg16)) (e17 : x17 = m ((c.tc : Thread nD τ).loc main_arg17)) (e18 : x18 = m ((c.tc : Thread nD τ).loc main_arg18)) (e19 : x19 = m ((c.tc : Thread nD τ).loc main_arg19)) (e20 : x20 = m ((c.tc : Thread nD τ).loc main_arg20)) (e21 : x21 = m ((c.tc : Thread nD τ).loc main_arg21)) (e22 : x22 = m ((c.tc : Thread nD τ).loc main_arg22)) (e23 : x23 = m ((c.tc : Thread nD τ).loc main_arg23)) (e24 : x24 = m ((c.tc : Thread nD τ).loc main_arg24)) (e25 : x25 = m ((c.tc : Thread nD τ).loc main_arg25)) (e26 : x26 = m ((c.tc : Thread nD τ).loc main_arg26)) (e27 : x27 = m ((c.tc : Thread nD τ).loc main_arg27)) (e28 : x28 = m ((c.tc : Thread nD τ).loc main_arg28)) (e29 : x29 = m ((c.tc : Thread nD τ).loc main_arg29)) (e30 : x30 = m ((c.tc : Thread nD τ).loc main_arg30)) :
    Cert.ReferenceIdeal.Read.val_main_v429 (F := Ideal) x0 x1 x2 x3 x4 x5 x6 x7 x8 x9 x10 x11 x12 x13 x14 x15 x16 x17 x18 x19 x20 x21 x22 x23 x24 x25 x26 x27 x28 x29 x30 = W25 m ρ c (Proc.devRef .tc main_v204) := by
  subst e0 e1 e2 e3 e4 e5 e6 e7 e8 e9 e10 e11 e12 e13 e14 e15 e16 e17 e18 e19 e20 e21 e22 e23 e24 e25 e26 e27 e28 e29 e30
  funext i
  obtain ⟨b, o, y, x, rfl⟩ : ∃ (b : Fin 4) (o : Fin 96) (y x : Fin 224), i = ix4 b o y x := ⟨i 0, i 1, i 2, i 3, eq_ix4 i⟩
  refine (t429 _ _ _ _ _ _ _ _ _ _ _ _ _ _ _ _ _ _ _ _ _ _ _ _ _ _ _ _ _ _ _ _ (reads_argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))) b o y x).trans ?_
  refine (kOut_eq (finite_of_bounded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) h) b o y x).symm.trans ?_
  exact (at25_v204 m ρ c _ (reads_argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))) b o y x).symm

end Cert.KVal
-- ==== Proof.lean ====
/-
  The certificate: the frames of the three programs, the idealization, and the equality of the kernel's result with the
  reference's over the exact extended reals, for finite arguments.
-/
module

public import proofs.«01_k».proof.Proof.Top
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Both runs end with the same result, the arguments unchanged. -/
theorem alg : Cert.algebraic_KernelIdeal_ReferenceIdeal_pre_bounded := fun m g m' g' hp he =>
  ⟨fun c => Cert.KernelIdeal.Gen.W25 m g c (Proc.devRef .tc Cert.KernelIdeal.main_v204),
    (θ_run Cert.KernelIdeal.defs _ _).mono (fun _ h c => ⟨(h c).1,
        (h c).2 Cert.KernelIdeal.main_arg0 (by decide +kernel),
        (h c).2 Cert.KernelIdeal.main_arg1 (by decide +kernel),
        (h c).2 Cert.KernelIdeal.main_arg2 (by decide +kernel),
        (h c).2 Cert.KernelIdeal.main_arg3 (by decide +kernel),
        (h c).2 Cert.KernelIdeal.main_arg4 (by decide +kernel),
        (h c).2 Cert.KernelIdeal.main_arg5 (by decide +kernel),
        (h c).2 Cert.KernelIdeal.main_arg6 (by decide +kernel),
        (h c).2 Cert.KernelIdeal.main_arg7 (by decide +kernel),
        (h c).2 Cert.KernelIdeal.main_arg8 (by decide +kernel),
        (h c).2 Cert.KernelIdeal.main_arg9 (by decide +kernel),
        (h c).2 Cert.KernelIdeal.main_arg10 (by decide +kernel),
        (h c).2 Cert.KernelIdeal.main_arg11 (by decide +kernel),
        (h c).2 Cert.KernelIdeal.main_arg12 (by decide +kernel),
        (h c).2 Cert.KernelIdeal.main_arg13 (by decide +kernel),
        (h c).2 Cert.KernelIdeal.main_arg14 (by decide +kernel),
        (h c).2 Cert.KernelIdeal.main_arg15 (by decide +kernel),
        (h c).2 Cert.KernelIdeal.main_arg16 (by decide +kernel),
        (h c).2 Cert.KernelIdeal.main_arg17 (by decide +kernel),
        (h c).2 Cert.KernelIdeal.main_arg18 (by decide +kernel),
        (h c).2 Cert.KernelIdeal.main_arg19 (by decide +kernel),
        (h c).2 Cert.KernelIdeal.main_arg20 (by decide +kernel),
        (h c).2 Cert.KernelIdeal.main_arg21 (by decide +kernel),
        (h c).2 Cert.KernelIdeal.main_arg22 (by decide +kernel),
        (h c).2 Cert.KernelIdeal.main_arg23 (by decide +kernel),
        (h c).2 Cert.KernelIdeal.main_arg24 (by decide +kernel),
        (h c).2 Cert.KernelIdeal.main_arg25 (by decide +kernel),
        (h c).2 Cert.KernelIdeal.main_arg26 (by decide +kernel),
        (h c).2 Cert.KernelIdeal.main_arg27 (by decide +kernel),
        (h c).2 Cert.KernelIdeal.main_arg28 (by decide +kernel),
        (h c).2 Cert.KernelIdeal.main_arg29 (by decide +kernel),
        (h c).2 Cert.KernelIdeal.main_arg30 (by decide +kernel)⟩) (Cert.KVal.run_result (F := Ideal) m g),
    (θ_run Cert.ReferenceIdeal.defs _ _).mono (fun _ h c => ⟨by
      obtain ⟨e0, e1, e2, e3, e4, e5, e6, e7, e8, e9, e10, e11, e12, e13, e14, e15, e16, e17, e18, e19, e20, e21, e22, e23, e24, e25, e26, e27, e28, e29, e30⟩ := he c
      exact ((h c).1.trans (Cert.ReferenceIdeal.Read.val_main_v429_eq (StableHlo.launchContents m' c))).trans
        (Cert.KVal.value m g c (hp c) e0 e1 e2 e3 e4 e5 e6 e7 e8 e9 e10 e11 e12 e13 e14 e15 e16 e17 e18 e19 e20 e21 e22 e23 e24 e25 e26 e27 e28 e29 e30), (h c).2⟩) (Cert.ReferenceIdeal.Value.run (F := Ideal) m' g')⟩

theorem claim : Cert.Claim := ⟨Cert.Kernel.Gen.facts, Cert.KernelIdeal.Gen.facts, Cert.ReferenceIdeal.Gen.facts, Cert.Pre_bounded.Gen.facts,
  fun m ρ _ => Cert.Kernel.Gen.frame m ρ, fun m ρ _ => Cert.KernelIdeal.Gen.frame m ρ, fun m ρ _ => Cert.KernelIdeal.Gen.frame m ρ,
  fun m ρ _ =>
    (θ_run Cert.ReferenceIdeal.defs _ _).mono (fun r h => ⟨fun c => (h c).2, Idealize.ShloMosaic.sem_eq_zero_of_no_sems (by decide) r.2⟩)
      (Cert.ReferenceIdeal.Value.run (F := Ideal) m ρ),
  fun m ρ _ =>
    (θ_run Cert.ReferenceIdeal.defs _ _).mono (fun r h => ⟨fun c => (h c).2, Idealize.ShloMosaic.sem_eq_zero_of_no_sems (by decide) r.2⟩)
      (Cert.ReferenceIdeal.Value.run (F := Ideal) m ρ),
  IdealRules.named_const.statement Cert.KernelIdeal.κ "inv_hw" .f32 0x37A72F05#32 ((1 / 50176 : ℝ) : EReal) rfl,
  alg⟩

end Cert.Proof

end
